-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_heads_padded [hPre_heads_padded : Cert.Pre_heads_padded.Facts] (m : (ℓ : Loc Cert.KernelIdeal.nD Cert.KernelIdeal.τ Cert.KernelIdeal.sig) → Buf (Elt Ideal) ℓ) : Prop :=
  ∀ c : Dev Cert.KernelIdeal.nD,
    (Cert.Pre_heads_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_heads_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_heads_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_heads_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_heads_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_heads_padded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_heads_padded [hPre_heads_padded : Cert.Pre_heads_padded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_heads_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_heads_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_heads_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_heads_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_heads_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_heads_padded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_heads_padded [hKernelIdeal : Cert.KernelIdeal.Facts] [hPre_heads_padded : Cert.Pre_heads_padded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_heads_padded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_heads_padded [hReferenceIdeal : Cert.ReferenceIdeal.Facts] [hPre_heads_padded : Cert.Pre_heads_padded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_heads_padded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "never" .f32 0x43200000#32 ⊤

def algebraic_KernelIdeal_ReferenceIdeal_pre_heads_padded [hKernelIdeal : Cert.KernelIdeal.Facts] [hReferenceIdeal : Cert.ReferenceIdeal.Facts] [hPre_heads_padded : Cert.Pre_heads_padded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_heads_padded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "query_scale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v33_0)) (v1 : (c : Dev Cert.Kernel3Ideal.nD) → Buf (Elt Ideal) ((c.tc : Thread Cert.Kernel3Ideal.nD Cert.Kernel3Ideal.τ).loc Cert.Kernel3Ideal.main_v33_1)) (v2 : (c : Dev Cert.Kernel3Ideal.nD) → Buf (Elt Ideal) ((c.tc : Thread Cert.Kernel3Ideal.nD Cert.Kernel3Ideal.τ).loc Cert.Kernel3Ideal.main_v33_2)) (v3 : (c : Dev Cert.Kernel3Ideal.nD) → Buf (Elt Ideal) ((c.tc : Thread Cert.Kernel3Ideal.nD Cert.Kernel3Ideal.τ).loc Cert.Kernel3Ideal.main_v33_3)) (v4 : (c : Dev Cert.Kernel3Ideal.nD) → Buf (Elt Ideal) ((c.tc : Thread Cert.Kernel3Ideal.nD Cert.Kernel3Ideal.τ).loc Cert.Kernel3Ideal.main_v33_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_v33_1) = v1 c
          ∧ r.2.mem ((c.tc : Thread Cert.Kernel3Ideal.nD Cert.Kernel3Ideal.τ).loc Cert.Kernel3Ideal.main_v33_2) = v2 c
          ∧ r.2.mem ((c.tc : Thread Cert.Kernel3Ideal.nD Cert.Kernel3Ideal.τ).loc Cert.Kernel3Ideal.main_v33_3) = v3 c
          ∧ r.2.mem ((c.tc : Thread Cert.Kernel3Ideal.nD Cert.Kernel3Ideal.τ).loc Cert.Kernel3Ideal.main_v33_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v111) = v1 c
          ∧ r.2.mem ((c.tc : Thread Cert.Reference3Ideal.nD Cert.Reference3Ideal.τ).loc Cert.Reference3Ideal.main_v122) = v2 c
          ∧ r.2.mem ((c.tc : Thread Cert.Reference3Ideal.nD Cert.Reference3Ideal.τ).loc Cert.Reference3Ideal.main_v124) = v3 c
          ∧ r.2.mem ((c.tc : Thread Cert.Reference3Ideal.nD Cert.Reference3Ideal.τ).loc Cert.Reference3Ideal.main_v136) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_heads_padded : Cert.Pre_heads_padded.Facts),
    quiescent_Kernel (hKernel := hKernel)
    ∧ quiescent_KernelIdeal (hKernelIdeal := hKernelIdeal)
    ∧ quiescent_KernelIdeal_pre_heads_padded (hKernelIdeal := hKernelIdeal) (hPre_heads_padded := hPre_heads_padded)
    ∧ quiescent_ReferenceIdeal (hReferenceIdeal := hReferenceIdeal)
    ∧ quiescent_ReferenceIdeal_pre_heads_padded (hReferenceIdeal := hReferenceIdeal) (hPre_heads_padded := hPre_heads_padded)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_heads_padded (hKernelIdeal := hKernelIdeal) (hReferenceIdeal := hReferenceIdeal) (hPre_heads_padded := hPre_heads_padded)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_heads_padded.lean ====
abbrev S4x8x8192x128 : Shape := ⟨4, ![4, 8, 8192, 128]⟩
abbrev S4x8192x512 : Shape := ⟨3, ![4, 8192, 512]⟩
abbrev S_ : Shape := ⟨0, ![]⟩
abbrev S4x4x8192x64 : Shape := ⟨4, ![4, 4, 8192, 64]⟩

class Facts : Prop where
  bitsLt_bf16_f32 : FTy.bits .bf16 < FTy.bits .f32
  bcast_S_S4x8x8192x128 : S_.BroadcastsInDim S4x8x8192x128 (![] : Fin 0 → Fin S4x8x8192x128.rank)
  bcast_S_S4x8192x512 : S_.BroadcastsInDim S4x8192x512 (![] : Fin 0 → Fin S4x8192x512.rank)
  slicesBy_S4x8x8192x128_S4x4x8192x64_0s1_0s2_0s1_64s1 : S4x8x8192x128.SlicesBy (![0, 0, 0, 64] : Fin 4 → Nat) ![1, 2, 1, 1] S4x4x8192x64
  bcast_S_S4x4x8192x64 : S_.BroadcastsInDim S4x4x8192x64 (![] : Fin 0 → Fin S4x4x8192x64.rank)
  slicesBy_S4x8x8192x128_S4x4x8192x64_0s1_1s2_0s1_0s1 : S4x8x8192x128.SlicesBy (![0, 1, 0, 0] : Fin 4 → Nat) ![1, 2, 1, 1] S4x4x8192x64

variable [Facts]

def fn_part1 {F : FTy → Type} [FloatOps F] (main_v5 : IVec S4x8x8192x128 1) (main_v8 : IVec S4x8192x512 1) (main_v11 : IVec S4x4x8192x64 1) (main_v14 : IVec S4x4x8192x64 1) (main_v17 : IVec S4x4x8192x64 1) (main_v18 : FVec F S4x4x8192x64 .f32) : IVec S4x8x8192x128 1 × IVec S4x8192x512 1 × IVec S4x4x8192x64 1 × IVec S4x4x8192x64 1 × IVec S4x4x8192x64 1 × IVec S4x4x8192x64 1 :=
  let main_cst_4 : FVec F S_ .f32 := constant S_ .f32 0x00000000#32
  let main_v19 : FVec F S4x4x8192x64 .f32 := broadcastInDim S4x4x8192x64 ![] bcast_S_S4x4x8192x64 main_cst_4
  let main_v20 : IVec S4x4x8192x64 1 := cmpf .oeq main_v18 main_v19
  (main_v5, main_v8, main_v11, main_v14, main_v17, main_v20)

def fn {F : FTy → Type} [FloatOps F] (main_arg0 : FVec F S4x8x8192x128 .bf16) (main_arg1 : FVec F S4x8192x512 .bf16) (main_arg2 : FVec F S4x8x8192x128 .bf16) : IVec S4x8x8192x128 1 × IVec S4x8192x512 1 × IVec S4x4x8192x64 1 × IVec S4x4x8192x64 1 × IVec S4x4x8192x64 1 × IVec S4x4x8192x64 1 :=
  let main_v0 : FVec F S4x8x8192x128 .f32 := (extf .f32 · bitsLt_bf16_f32) main_arg0
  let main_v1 : FVec F S4x8192x512 .f32 := (extf .f32 · bitsLt_bf16_f32) main_arg1
  let main_v2 : FVec F S4x8x8192x128 .f32 := (extf .f32 · bitsLt_bf16_f32) main_arg2
  let main_v3 : FVec F S4x8x8192x128 .f32 := Host.absf main_v0
  let main_cst : FVec F S_ .f32 := constant S_ .f32 0x7F800000#32
  let main_v4 : FVec F S4x8x8192x128 .f32 := broadcastInDim S4x8x8192x128 ![] bcast_S_S4x8x8192x128 main_cst
  let main_v5 : IVec S4x8x8192x128 1 := cmpf .olt main_v3 main_v4
  let main_v6 : FVec F S4x8192x512 .f32 := Host.absf main_v1
  let main_cst_0 : FVec F S_ .f32 := constant S_ .f32 0x7F800000#32
  let main_v7 : FVec F S4x8192x512 .f32 := broadcastInDim S4x8192x512 ![] bcast_S_S4x8192x512 main_cst_0
  let main_v8 : IVec S4x8192x512 1 := cmpf .olt main_v6 main_v7
  let main_v9 : FVec F S4x4x8192x64 .f32 := (Host.slice S4x4x8192x64 ![0, 0, 0, 64] ![1, 2, 1, 1] · slicesBy_S4x8x8192x128_S4x4x8192x64_0s1_0s2_0s1_64s1) main_v0
  let main_cst_1 : FVec F S_ .f32 := constant S_ .f32 0x00000000#32
  let main_v10 : FVec F S4x4x8192x64 .f32 := broadcastInDim S4x4x8192x64 ![] bcast_S_S4x4x8192x64 main_cst_1
  let main_v11 : IVec S4x4x8192x64 1 := cmpf .oeq main_v9 main_v10
  let main_v12 : FVec F S4x4x8192x64 .f32 := (Host.slice S4x4x8192x64 ![0, 1, 0, 0] ![1, 2, 1, 1] · slicesBy_S4x8x8192x128_S4x4x8192x64_0s1_1s2_0s1_0s1) main_v0
  let main_cst_2 : FVec F S_ .f32 := constant S_ .f32 0x00000000#32
  let main_v13 : FVec F S4x4x8192x64 .f32 := broadcastInDim S4x4x8192x64 ![] bcast_S_S4x4x8192x64 main_cst_2
  let main_v14 : IVec S4x4x8192x64 1 := cmpf .oeq main_v12 main_v13
  let main_v15 : FVec F S4x4x8192x64 .f32 := (Host.slice S4x4x8192x64 ![0, 0, 0, 64] ![1, 2, 1, 1] · slicesBy_S4x8x8192x128_S4x4x8192x64_0s1_0s2_0s1_64s1) main_v2
  let main_cst_3 : FVec F S_ .f32 := constant S_ .f32 0x00000000#32
  let main_v16 : FVec F S4x4x8192x64 .f32 := broadcastInDim S4x4x8192x64 ![] bcast_S_S4x4x8192x64 main_cst_3
  let main_v17 : IVec S4x4x8192x64 1 := cmpf .oeq main_v15 main_v16
  let main_v18 : FVec F S4x4x8192x64 .f32 := (Host.slice S4x4x8192x64 ![0, 1, 0, 0] ![1, 2, 1, 1] · slicesBy_S4x8x8192x128_S4x4x8192x64_0s1_1s2_0s1_0s1) main_v2
  fn_part1 (F := F) main_v5 main_v8 main_v11 main_v14 main_v17 main_v18
-- ==== Kernel.lean ====
abbrev S4x8x8192x128 : Shape := ⟨4, ![4, 8, 8192, 128]⟩
abbrev S4x8192x512 : Shape := ⟨3, ![4, 8192, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x1x256 : Shape := ⟨4, ![1, 256, 1, 256]⟩
abbrev S2x256x1x256 : Shape := ⟨4, ![2, 256, 1, 256]⟩
abbrev S512x256 : Shape := ⟨2, ![512, 256]⟩
abbrev S_ : Shape := ⟨0, ![]⟩
abbrev S1x512x256 : Shape := ⟨3, ![1, 512, 256]⟩
abbrev S2x512x256 : Shape := ⟨3, ![2, 512, 256]⟩
abbrev S1x2x8192x128 : Shape := ⟨4, ![1, 2, 8192, 128]⟩
abbrev S1x8192x128 : Shape := ⟨3, ![1, 8192, 128]⟩
abbrev S2x256x512 : Shape := ⟨3, ![2, 256, 512]⟩
abbrev S512x1 : Shape := ⟨2, ![512, 1]⟩
abbrev S256x128 : Shape := ⟨2, ![256, 128]⟩
abbrev S1x256x512 : Shape := ⟨3, ![1, 256, 512]⟩
abbrev S256x512 : Shape := ⟨2, ![256, 512]⟩
abbrev S1x1x256x128 : Shape := ⟨4, ![1, 1, 256, 128]⟩
abbrev S512x128 : Shape := ⟨2, ![512, 128]⟩
abbrev S1x256x128 : Shape := ⟨3, ![1, 256, 128]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 30
  | .vmem => 14
  | .smem => 0
  | _ => 0

abbrev bufTy : (tb : Table) → Fin (tcTables nBuf tb) → BufTy
  | .hbm, ⟨0, _⟩ => ⟨S4x8x8192x128, .bf16⟩
  | .hbm, ⟨1, _⟩ => ⟨S4x8192x512, .bf16⟩
  | .hbm, ⟨2, _⟩ => ⟨S4x8x8192x128, .bf16⟩
  | .hbm, ⟨3, _⟩ => ⟨S256, .i32⟩
  | .hbm, ⟨4, _⟩ => ⟨S256x1, .i32⟩
  | .hbm, ⟨5, _⟩ => ⟨S1x256, .i32⟩
  | .hbm, ⟨6, _⟩ => ⟨S256x256, .i32⟩
  | .hbm, ⟨7, _⟩ => ⟨S256x256, .i32⟩
  | .hbm, ⟨8, _⟩ => ⟨S256x256, .i1⟩
  | .hbm, ⟨9, _⟩ => ⟨S256x256, .bf16⟩
  | .hbm, ⟨10, _⟩ => ⟨S1x256, .i32⟩
  | .hbm, ⟨11, _⟩ => ⟨S256x1, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S1x256x1x256, .i1⟩
  | .hbm, ⟨16, _⟩ => ⟨S2x256x1x256, .i1⟩
  | .hbm, ⟨17, _⟩ => ⟨S512x256, .i1⟩
  | .hbm, ⟨18, _⟩ => ⟨S_, .f32⟩
  | .hbm, ⟨19, _⟩ => ⟨S512x256, .f32⟩
  | .hbm, ⟨20, _⟩ => ⟨S_, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S1x512x256, .f32⟩
  | .hbm, ⟨27, _⟩ => ⟨S1x512x256, .f32⟩
  | .hbm, ⟨28, _⟩ => ⟨S2x512x256, .f32⟩
  | .hbm, ⟨29, _⟩ => ⟨S4x8192x512, .bf16⟩
  | .local _ .vmem, ⟨0, _⟩ => ⟨S1x2x8192x128, .bf16⟩
  | .local _ .vmem, ⟨1, _⟩ => ⟨S1x2x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x2x8192x128, .bf16⟩
  | .local _ .vmem, ⟨5, _⟩ => ⟨S1x2x8192x128, .bf16⟩
  | .local _ .vmem, ⟨6, _⟩ => ⟨S256x256, .bf16⟩
  | .local _ .vmem, ⟨7, _⟩ => ⟨S2x512x256, .f32⟩
  | .local _ .vmem, ⟨8, _⟩ => ⟨S1x8192x128, .bf16⟩
  | .local _ .vmem, ⟨9, _⟩ => ⟨S1x8192x128, .bf16⟩
  | .local _ .vmem, ⟨10, _⟩ => ⟨S2x512x256, .f32⟩
  | .local _ .vmem, ⟨11, _⟩ => ⟨S2x512x256, .bf16⟩
  | .local _ .vmem, ⟨12, _⟩ => ⟨S2x512x256, .f32⟩
  | .local _ .vmem, ⟨13, _⟩ => ⟨S2x256x512, .bf16⟩
  | _, _ => ⟨S4x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 (arg25 : BitVec 32) : BitVec 32 :=
  let c256_i32 : BitVec 32 := 256#32
  let v21 : BitVec 32 := Scalar.muli arg25 c256_i32
  v21

def k0_off1 (arg25 : BitVec 32) : Fin 4 → Nat :=
  let c0_31 : Index := 0#32
  let c0_32 : Index := 0#32
  let c256_i32 : BitVec 32 := 256#32
  let v21 : BitVec 32 := Scalar.muli arg25 c256_i32
  let v22 : BitVec 32 := v21
  let v23 : Index := Scalar.indexCast v22
  let c0_33 : Index := 0#32
  ![0, 0, v23.toNat, 0]
def k0_off2 (arg25 : BitVec 32) : Fin 4 → Nat :=
  let c0_34 : Index := 0#32
  let c1_35 : Index := 1#32
  let c256_i32 : BitVec 32 := 256#32
  let v21 : BitVec 32 := Scalar.muli arg25 c256_i32
  let v22 : BitVec 32 := v21
  let v26 : Index := Scalar.indexCast v22
  let c0_36 : Index := 0#32
  ![0, 1, v26.toNat, 0]

def k0_chk1 (arg25 : BitVec 32) : Prop :=
  (256 ∣ (k0_mult1 arg25).toNat) ∧
  (∀ a, (k0_off1 arg25) a + S1x1x256x128.size a ≤ S1x2x8192x128.size a) ∧
  (∀ a, (k0_off2 arg25) a + S1x1x256x128.size a ≤ S1x2x8192x128.size a)
theorem k0_mult1_dvd : ∀ (arg25 : BitVec 32) (k0_hw1 : k0_chk1 arg25), 256 ∣ (k0_mult1 arg25).toNat := fun arg25 k0_hw1 => k0_hw1.1
theorem k0_off1_inb : ∀ (arg25 : BitVec 32) (k0_hw1 : k0_chk1 arg25), ∀ a, (k0_off1 arg25) a + S1x1x256x128.size a ≤ S1x2x8192x128.size a := fun arg25 k0_hw1 => k0_hw1.2.1
theorem k0_off2_inb : ∀ (arg25 : BitVec 32) (k0_hw1 : k0_chk1 arg25), ∀ a, (k0_off2 arg25) a + S1x1x256x128.size a ≤ S1x2x8192x128.size a := fun arg25 k0_hw1 => k0_hw1.2.2

def k0_mult2 (arg24 : BitVec 32) : BitVec 32 :=
  let c256_i32_39 : BitVec 32 := 256#32
  let v37 : BitVec 32 := Scalar.muli arg24 c256_i32_39
  v37

def k0_off3 (arg24 : BitVec 32) : Fin 3 → Nat :=
  let c0_40 : Index := 0#32
  let c256_i32_39 : BitVec 32 := 256#32
  let v37 : BitVec 32 := Scalar.muli arg24 c256_i32_39
  let v38 : BitVec 32 := v37
  let v39 : Index := Scalar.indexCast v38
  let c0_41 : Index := 0#32
  ![0, v39.toNat, 0]

def k0_chk2 (arg24 : BitVec 32) : Prop :=
  (256 ∣ (k0_mult2 arg24).toNat) ∧
  (∀ a, (k0_off3 arg24) a + S1x256x128.size a ≤ S1x8192x128.size a) ∧
  (∀ (hinb : ∀ a, (k0_off3 arg24) a + S1x256x128.size a ≤ S1x8192x128.size a), (Rect.unit (s := S1x8192x128) (k0_off3 arg24) S1x256x128.size hinb).PackedRows (EltTy.packing .bf16))
theorem k0_mult2_dvd : ∀ (arg24 : BitVec 32) (k0_hw2 : k0_chk2 arg24), 256 ∣ (k0_mult2 arg24).toNat := fun arg24 k0_hw2 => k0_hw2.1
theorem k0_off3_inb : ∀ (arg24 : BitVec 32) (k0_hw2 : k0_chk2 arg24), ∀ a, (k0_off3 arg24) a + S1x256x128.size a ≤ S1x8192x128.size a := fun arg24 k0_hw2 => k0_hw2.2.1
theorem k0_off3_packedbf16 : ∀ (arg24 : BitVec 32) (k0_hw2 : k0_chk2 arg24), (Rect.unit (s := S1x8192x128) (k0_off3 arg24) S1x256x128.size (k0_off3_inb arg24 k0_hw2)).PackedRows (EltTy.packing .bf16) := fun arg24 k0_hw2 => k0_hw2.2.2 (k0_off3_inb arg24 k0_hw2)

def k0_off4 (arg18 : BitVec 32) (arg19 : BitVec 32) : Fin 3 → Nat :=
  let v59 : BitVec 1 := Scalar.cmpi .eq arg19 arg18
  let v62 : BitVec 32 := Scalar.extui v59
  let v63 : Index := Scalar.indexCast v62
  let c0_57 : Index := 0#32
  let c0_58 : Index := 0#32
  ![v63.toNat, 0, 0]

def k0_chk3 (arg18 : BitVec 32) (arg19 : BitVec 32) : Prop :=
  (∀ a, (k0_off4 arg18 arg19) a + S1x512x256.size a ≤ S2x512x256.size a)
theorem k0_off4_inb : ∀ (arg18 : BitVec 32) (arg19 : BitVec 32) (k0_hw3 : k0_chk3 arg18 arg19), ∀ a, (k0_off4 arg18 arg19) a + S1x512x256.size a ≤ S2x512x256.size a := fun arg18 arg19 k0_hw3 => k0_hw3

def k0_mult3 (arg13 : BitVec 32) : BitVec 32 :=
  let c256_i32_81 : BitVec 32 := 256#32
  let v117 : BitVec 32 := Scalar.muli arg13 c256_i32_81
  v117

def k0_off5 (arg13 : BitVec 32) : Fin 3 → Nat :=
  let c0_82 : Index := 0#32
  let c256_i32_81 : BitVec 32 := 256#32
  let v117 : BitVec 32 := Scalar.muli arg13 c256_i32_81
  let v118 : BitVec 32 := v117
  let v119 : Index := Scalar.indexCast v118
  let c0_83 : Index := 0#32
  ![0, v119.toNat, 0]
def k0_mult4 (arg12 : BitVec 32) : BitVec 32 :=
  let c256_i32_84 : BitVec 32 := 256#32
  let v122 : BitVec 32 := Scalar.muli arg12 c256_i32_84
  v122

def k0_off6 (arg12 : BitVec 32) : Fin 4 → Nat :=
  let c0_85 : Index := 0#32
  let c0_86 : Index := 0#32
  let c256_i32_84 : BitVec 32 := 256#32
  let v122 : BitVec 32 := Scalar.muli arg12 c256_i32_84
  let v123 : BitVec 32 := v122
  let v124 : Index := Scalar.indexCast v123
  let c0_87 : Index := 0#32
  ![0, 0, v124.toNat, 0]
def k0_off7 (arg12 : BitVec 32) : Fin 4 → Nat :=
  let c0_88 : Index := 0#32
  let c1_89 : Index := 1#32
  let c256_i32_84 : BitVec 32 := 256#32
  let v122 : BitVec 32 := Scalar.muli arg12 c256_i32_84
  let v123 : BitVec 32 := v122
  let v127 : Index := Scalar.indexCast v123
  let c0_90 : Index := 0#32
  ![0, 1, v127.toNat, 0]

def k0_chk5 (arg12 : BitVec 32) : Prop :=
  (256 ∣ (k0_mult4 arg12).toNat) ∧
  (∀ a, (k0_off6 arg12) a + S1x1x256x128.size a ≤ S1x2x8192x128.size a) ∧
  (∀ a, (k0_off7 arg12) a + S1x1x256x128.size a ≤ S1x2x8192x128.size a)
theorem k0_mult4_dvd : ∀ (arg12 : BitVec 32) (k0_hw5 : k0_chk5 arg12), 256 ∣ (k0_mult4 arg12).toNat := fun arg12 k0_hw5 => k0_hw5.1
theorem k0_off6_inb : ∀ (arg12 : BitVec 32) (k0_hw5 : k0_chk5 arg12), ∀ a, (k0_off6 arg12) a + S1x1x256x128.size a ≤ S1x2x8192x128.size a := fun arg12 k0_hw5 => k0_hw5.2.1
theorem k0_off7_inb : ∀ (arg12 : BitVec 32) (k0_hw5 : k0_chk5 arg12), ∀ a, (k0_off7 arg12) a + S1x1x256x128.size a ≤ S1x2x8192x128.size a := fun arg12 k0_hw5 => k0_hw5.2.2

def k0_mult5 (arg22 : BitVec 32) : BitVec 32 :=
  let c256_i32_98 : BitVec 32 := 256#32
  let v137 : BitVec 32 := Scalar.muli arg22 c256_i32_98
  v137

def k0_off8 (arg22 : BitVec 32) : Fin 4 → Nat :=
  let c0_99 : Index := 0#32
  let c0_100 : Index := 0#32
  let c256_i32_98 : BitVec 32 := 256#32
  let v137 : BitVec 32 := Scalar.muli arg22 c256_i32_98
  let v138 : BitVec 32 := v137
  let v139 : Index := Scalar.indexCast v138
  let c0_101 : Index := 0#32
  ![0, 0, v139.toNat, 0]
def k0_off9 (arg22 : BitVec 32) : Fin 4 → Nat :=
  let c0_102 : Index := 0#32
  let c1_103 : Index := 1#32
  let c256_i32_98 : BitVec 32 := 256#32
  let v137 : BitVec 32 := Scalar.muli arg22 c256_i32_98
  let v138 : BitVec 32 := v137
  let v142 : Index := Scalar.indexCast v138
  let c0_104 : Index := 0#32
  ![0, 1, v142.toNat, 0]

def k0_chk6 (arg22 : BitVec 32) : Prop :=
  (256 ∣ (k0_mult5 arg22).toNat) ∧
  (∀ a, (k0_off8 arg22) a + S1x1x256x128.size a ≤ S1x2x8192x128.size a) ∧
  (∀ a, (k0_off9 arg22) a + S1x1x256x128.size a ≤ S1x2x8192x128.size a)
theorem k0_mult5_dvd : ∀ (arg22 : BitVec 32) (k0_hw6 : k0_chk6 arg22), 256 ∣ (k0_mult5 arg22).toNat := fun arg22 k0_hw6 => k0_hw6.1
theorem k0_off8_inb : ∀ (arg22 : BitVec 32) (k0_hw6 : k0_chk6 arg22), ∀ a, (k0_off8 arg22) a + S1x1x256x128.size a ≤ S1x2x8192x128.size a := fun arg22 k0_hw6 => k0_hw6.2.1
theorem k0_off9_inb : ∀ (arg22 : BitVec 32) (k0_hw6 : k0_chk6 arg22), ∀ a, (k0_off9 arg22) a + S1x1x256x128.size a ≤ S1x2x8192x128.size a := fun arg22 k0_hw6 => k0_hw6.2.2

def k0_mult6 (arg21 : BitVec 32) : BitVec 32 :=
  let c256_i32_107 : BitVec 32 := 256#32
  let v153 : BitVec 32 := Scalar.muli arg21 c256_i32_107
  v153

def k0_off10 (arg21 : BitVec 32) : Fin 3 → Nat :=
  let c0_108 : Index := 0#32
  let c256_i32_107 : BitVec 32 := 256#32
  let v153 : BitVec 32 := Scalar.muli arg21 c256_i32_107
  let v154 : BitVec 32 := v153
  let v155 : Index := Scalar.indexCast v154
  let c0_109 : Index := 0#32
  ![0, v155.toNat, 0]

def k0_chk7 (arg21 : BitVec 32) : Prop :=
  (256 ∣ (k0_mult6 arg21).toNat) ∧
  (∀ a, (k0_off10 arg21) a + S1x256x128.size a ≤ S1x8192x128.size a) ∧
  (∀ (hinb : ∀ a, (k0_off10 arg21) a + S1x256x128.size a ≤ S1x8192x128.size a), (Rect.unit (s := S1x8192x128) (k0_off10 arg21) S1x256x128.size hinb).PackedRows (EltTy.packing .bf16))
theorem k0_mult6_dvd : ∀ (arg21 : BitVec 32) (k0_hw7 : k0_chk7 arg21), 256 ∣ (k0_mult6 arg21).toNat := fun arg21 k0_hw7 => k0_hw7.1
theorem k0_off10_inb : ∀ (arg21 : BitVec 32) (k0_hw7 : k0_chk7 arg21), ∀ a, (k0_off10 arg21) a + S1x256x128.size a ≤ S1x8192x128.size a := fun arg21 k0_hw7 => k0_hw7.2.1
theorem k0_off10_packedbf16 : ∀ (arg21 : BitVec 32) (k0_hw7 : k0_chk7 arg21), (Rect.unit (s := S1x8192x128) (k0_off10 arg21) S1x256x128.size (k0_off10_inb arg21 k0_hw7)).PackedRows (EltTy.packing .bf16) := fun arg21 k0_hw7 => k0_hw7.2.2 (k0_off10_inb arg21 k0_hw7)

def k0_off11 (arg12 : BitVec 32) (arg13 : BitVec 32) : Fin 3 → Nat :=
  let v175 : BitVec 1 := Scalar.cmpi .eq arg13 arg12
  let v178 : BitVec 32 := Scalar.extui v175
  let v179 : Index := Scalar.indexCast v178
  let c0_125 : Index := 0#32
  let c0_126 : Index := 0#32
  ![v179.toNat, 0, 0]

def k0_chk4 (arg12 : BitVec 32) (arg13 : BitVec 32) : Prop :=
  (256 ∣ (k0_mult3 arg13).toNat) ∧
  (∀ a, (k0_off5 arg13) a + S1x256x128.size a ≤ S1x8192x128.size a) ∧
  (∀ a, (k0_off11 arg12 arg13) a + S1x512x256.size a ≤ S2x512x256.size a)
theorem k0_mult3_dvd : ∀ (arg12 : BitVec 32) (arg13 : BitVec 32) (k0_hw4 : k0_chk4 arg12 arg13), 256 ∣ (k0_mult3 arg13).toNat := fun arg12 arg13 k0_hw4 => k0_hw4.1
theorem k0_off5_inb : ∀ (arg12 : BitVec 32) (arg13 : BitVec 32) (k0_hw4 : k0_chk4 arg12 arg13), ∀ a, (k0_off5 arg13) a + S1x256x128.size a ≤ S1x8192x128.size a := fun arg12 arg13 k0_hw4 => k0_hw4.2.1
theorem k0_off11_inb : ∀ (arg12 : BitVec 32) (arg13 : BitVec 32) (k0_hw4 : k0_chk4 arg12 arg13), ∀ a, (k0_off11 arg12 arg13) a + S1x512x256.size a ≤ S2x512x256.size a := fun arg12 arg13 k0_hw4 => k0_hw4.2.2

def k0_mult7 (arg16 : BitVec 32) (arg18 : BitVec 32) (arg19 : BitVec 32) (arg20 : BitVec 32) (v99 : BitVec 1) : BitVec 32 :=
  let c1_i32_74 : BitVec 32 := 1#32
  let v104 : BitVec 1 := Scalar.cmpi .eq arg20 c1_i32_74
  let c0_i32_71 : BitVec 32 := 0#32
  let v94 : BitVec 1 := Scalar.cmpi .eq arg19 c0_i32_71
  let v100 : BitVec 1 := Scalar.ori v94 v99
  let c2_i32 : BitVec 32 := 2#32
  let v101 : BitVec 32 := Scalar.addi arg18 c2_i32
  let c31_i32 : BitVec 32 := 31#32
  let v102 : BitVec 1 := Scalar.cmpi .sgt v101 c31_i32
  let v103 : BitVec 1 := Scalar.andi v100 v102
  let c0_i32_78 : BitVec 32 := 0#32
  let c2_i32_76 : BitVec 32 := 2#32
  let v110 : BitVec 32 := Scalar.addi arg18 c2_i32_76
  let c1_i32_77 : BitVec 32 := 1#32
  let v111 : BitVec 32 := Scalar.subi arg19 c1_i32_77
  let v112 : BitVec 32 := Scalar.select v100 v110 v111
  let v113 : BitVec 32 := Scalar.select v103 c0_i32_78 v112
  let v114 : BitVec 32 := Scalar.select v104 v113 arg16
  let c256_i32_152 : BitVec 32 := 256#32
  let v233 : BitVec 32 := Scalar.muli v114 c256_i32_152
  v233

def k0_off12 (arg16 : BitVec 32) (arg18 : BitVec 32) (arg19 : BitVec 32) (arg20 : BitVec 32) (v99 : BitVec 1) : Fin 3 → Nat :=
  let c0_153 : Index := 0#32
  let c1_i32_74 : BitVec 32 := 1#32
  let v104 : BitVec 1 := Scalar.cmpi .eq arg20 c1_i32_74
  let c0_i32_71 : BitVec 32 := 0#32
  let v94 : BitVec 1 := Scalar.cmpi .eq arg19 c0_i32_71
  let v100 : BitVec 1 := Scalar.ori v94 v99
  let c2_i32 : BitVec 32 := 2#32
  let v101 : BitVec 32 := Scalar.addi arg18 c2_i32
  let c31_i32 : BitVec 32 := 31#32
  let v102 : BitVec 1 := Scalar.cmpi .sgt v101 c31_i32
  let v103 : BitVec 1 := Scalar.andi v100 v102
  let c0_i32_78 : BitVec 32 := 0#32
  let c2_i32_76 : BitVec 32 := 2#32
  let v110 : BitVec 32 := Scalar.addi arg18 c2_i32_76
  let c1_i32_77 : BitVec 32 := 1#32
  let v111 : BitVec 32 := Scalar.subi arg19 c1_i32_77
  let v112 : BitVec 32 := Scalar.select v100 v110 v111
  let v113 : BitVec 32 := Scalar.select v103 c0_i32_78 v112
  let v114 : BitVec 32 := Scalar.select v104 v113 arg16
  let c256_i32_152 : BitVec 32 := 256#32
  let v233 : BitVec 32 := Scalar.muli v114 c256_i32_152
  let v234 : BitVec 32 := v233
  let v235 : Index := Scalar.indexCast v234
  let c0_154 : Index := 0#32
  ![0, v235.toNat, 0]
def k0_mult8 (arg15 : BitVec 32) (arg18 : BitVec 32) (arg19 : BitVec 32) (arg20 : BitVec 32) (v99 : BitVec 1) : BitVec 32 :=
  let c1_i32_74 : BitVec 32 := 1#32
  let v104 : BitVec 1 := Scalar.cmpi .eq arg20 c1_i32_74
  let c0_i32_71 : BitVec 32 := 0#32
  let v94 : BitVec 1 := Scalar.cmpi .eq arg19 c0_i32_71
  let v100 : BitVec 1 := Scalar.ori v94 v99
  let c2_i32 : BitVec 32 := 2#32
  let v101 : BitVec 32 := Scalar.addi arg18 c2_i32
  let c31_i32 : BitVec 32 := 31#32
  let v102 : BitVec 1 := Scalar.cmpi .sgt v101 c31_i32
  let v103 : BitVec 1 := Scalar.andi v100 v102
  let v_true : BitVec 1 := 1#1
  let v105 : BitVec 1 := Scalar.xori v103 v_true
  let v106 : BitVec 1 := Scalar.andi v100 v105
  let c2_i32_75 : BitVec 32 := 2#32
  let v107 : BitVec 32 := Scalar.addi arg18 c2_i32_75
  let v108 : BitVec 32 := Scalar.select v106 v107 arg18
  let v109 : BitVec 32 := Scalar.select v104 v108 arg15
  let c256_i32_155 : BitVec 32 := 256#32
  let v238 : BitVec 32 := Scalar.muli v109 c256_i32_155
  v238
def k0_off13 (arg15 : BitVec 32) (arg18 : BitVec 32) (arg19 : BitVec 32) (arg20 : BitVec 32) (v99 : BitVec 1) : Fin 4 → Nat :=
  let c0_156 : Index := 0#32
  let c0_157 : Index := 0#32
  let c1_i32_74 : BitVec 32 := 1#32
  let v104 : BitVec 1 := Scalar.cmpi .eq arg20 c1_i32_74
  let c0_i32_71 : BitVec 32 := 0#32
  let v94 : BitVec 1 := Scalar.cmpi .eq arg19 c0_i32_71
  let v100 : BitVec 1 := Scalar.ori v94 v99
  let c2_i32 : BitVec 32 := 2#32
  let v101 : BitVec 32 := Scalar.addi arg18 c2_i32
  let c31_i32 : BitVec 32 := 31#32
  let v102 : BitVec 1 := Scalar.cmpi .sgt v101 c31_i32
  let v103 : BitVec 1 := Scalar.andi v100 v102
  let v_true : BitVec 1 := 1#1
  let v105 : BitVec 1 := Scalar.xori v103 v_true
  let v106 : BitVec 1 := Scalar.andi v100 v105
  let c2_i32_75 : BitVec 32 := 2#32
  let v107 : BitVec 32 := Scalar.addi arg18 c2_i32_75
  let v108 : BitVec 32 := Scalar.select v106 v107 arg18
  let v109 : BitVec 32 := Scalar.select v104 v108 arg15
  let c256_i32_155 : BitVec 32 := 256#32
  let v238 : BitVec 32 := Scalar.muli v109 c256_i32_155
  let v239 : BitVec 32 := v238
  let v240 : Index := Scalar.indexCast v239
  let c0_158 : Index := 0#32
  ![0, 0, v240.toNat, 0]
def k0_off14 (arg15 : BitVec 32) (arg18 : BitVec 32) (arg19 : BitVec 32) (arg20 : BitVec 32) (v99 : BitVec 1) : Fin 4 → Nat :=
  let c0_159 : Index := 0#32
  let c1_160 : Index := 1#32
  let c1_i32_74 : BitVec 32 := 1#32
  let v104 : BitVec 1 := Scalar.cmpi .eq arg20 c1_i32_74
  let c0_i32_71 : BitVec 32 := 0#32
  let v94 : BitVec 1 := Scalar.cmpi .eq arg19 c0_i32_71
  let v100 : BitVec 1 := Scalar.ori v94 v99
  let c2_i32 : BitVec 32 := 2#32
  let v101 : BitVec 32 := Scalar.addi arg18 c2_i32
  let c31_i32 : BitVec 32 := 31#32
  let v102 : BitVec 1 := Scalar.cmpi .sgt v101 c31_i32
  let v103 : BitVec 1 := Scalar.andi v100 v102
  let v_true : BitVec 1 := 1#1
  let v105 : BitVec 1 := Scalar.xori v103 v_true
  let v106 : BitVec 1 := Scalar.andi v100 v105
  let c2_i32_75 : BitVec 32 := 2#32
  let v107 : BitVec 32 := Scalar.addi arg18 c2_i32_75
  let v108 : BitVec 32 := Scalar.select v106 v107 arg18
  let v109 : BitVec 32 := Scalar.select v104 v108 arg15
  let c256_i32_155 : BitVec 32 := 256#32
  let v238 : BitVec 32 := Scalar.muli v109 c256_i32_155
  let v239 : BitVec 32 := v238
  let v243 : Index := Scalar.indexCast v239
  let c0_161 : Index := 0#32
  ![0, 1, v243.toNat, 0]

def k0_chk8 (arg15 : BitVec 32) (arg16 : BitVec 32) (arg18 : BitVec 32) (arg19 : BitVec 32) (arg20 : BitVec 32) (v99 : BitVec 1) : Prop :=
  (256 ∣ (k0_mult7 arg16 arg18 arg19 arg20 v99).toNat) ∧
  (∀ a, (k0_off12 arg16 arg18 arg19 arg20 v99) a + S1x256x128.size a ≤ S1x8192x128.size a) ∧
  (256 ∣ (k0_mult8 arg15 arg18 arg19 arg20 v99).toNat) ∧
  (∀ a, (k0_off13 arg15 arg18 arg19 arg20 v99) a + S1x1x256x128.size a ≤ S1x2x8192x128.size a) ∧
  (∀ a, (k0_off14 arg15 arg18 arg19 arg20 v99) a + S1x1x256x128.size a ≤ S1x2x8192x128.size a)
theorem k0_mult7_dvd : ∀ (arg15 : BitVec 32) (arg16 : BitVec 32) (arg18 : BitVec 32) (arg19 : BitVec 32) (arg20 : BitVec 32) (v99 : BitVec 1) (k0_hw8 : k0_chk8 arg15 arg16 arg18 arg19 arg20 v99), 256 ∣ (k0_mult7 arg16 arg18 arg19 arg20 v99).toNat := fun arg15 arg16 arg18 arg19 arg20 v99 k0_hw8 => k0_hw8.1
theorem k0_off12_inb : ∀ (arg15 : BitVec 32) (arg16 : BitVec 32) (arg18 : BitVec 32) (arg19 : BitVec 32) (arg20 : BitVec 32) (v99 : BitVec 1) (k0_hw8 : k0_chk8 arg15 arg16 arg18 arg19 arg20 v99), ∀ a, (k0_off12 arg16 arg18 arg19 arg20 v99) a + S1x256x128.size a ≤ S1x8192x128.size a := fun arg15 arg16 arg18 arg19 arg20 v99 k0_hw8 => k0_hw8.2.1
theorem k0_mult8_dvd : ∀ (arg15 : BitVec 32) (arg16 : BitVec 32) (arg18 : BitVec 32) (arg19 : BitVec 32) (arg20 : BitVec 32) (v99 : BitVec 1) (k0_hw8 : k0_chk8 arg15 arg16 arg18 arg19 arg20 v99), 256 ∣ (k0_mult8 arg15 arg18 arg19 arg20 v99).toNat := fun arg15 arg16 arg18 arg19 arg20 v99 k0_hw8 => k0_hw8.2.2.1
theorem k0_off13_inb : ∀ (arg15 : BitVec 32) (arg16 : BitVec 32) (arg18 : BitVec 32) (arg19 : BitVec 32) (arg20 : BitVec 32) (v99 : BitVec 1) (k0_hw8 : k0_chk8 arg15 arg16 arg18 arg19 arg20 v99), ∀ a, (k0_off13 arg15 arg18 arg19 arg20 v99) a + S1x1x256x128.size a ≤ S1x2x8192x128.size a := fun arg15 arg16 arg18 arg19 arg20 v99 k0_hw8 => k0_hw8.2.2.2.1
theorem k0_off14_inb : ∀ (arg15 : BitVec 32) (arg16 : BitVec 32) (arg18 : BitVec 32) (arg19 : BitVec 32) (arg20 : BitVec 32) (v99 : BitVec 1) (k0_hw8 : k0_chk8 arg15 arg16 arg18 arg19 arg20 v99), ∀ a, (k0_off14 arg15 arg18 arg19 arg20 v99) a + S1x1x256x128.size a ≤ S1x2x8192x128.size a := fun arg15 arg16 arg18 arg19 arg20 v99 k0_hw8 => k0_hw8.2.2.2.2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2_e" => some (((Real.log 2)⁻¹ : ℝ) : EReal)
  | "never" => some ⊤
  | _ => none
-- ==== ReferenceIdeal.lean ====
abbrev S4x8x8192x128 : Shape := ⟨4, ![4, 8, 8192, 128]⟩
abbrev S4x8192x512 : Shape := ⟨3, ![4, 8192, 512]⟩
abbrev S4x8192x8x64 : Shape := ⟨4, ![4, 8192, 8, 64]⟩
abbrev S4x8x8192x64 : Shape := ⟨4, ![4, 8, 8192, 64]⟩
abbrev S4x8x8192x8192 : Shape := ⟨4, ![4, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 79
  | .vmem => 0
  | .smem => 0
  | _ => 0

abbrev bufTy : (tb : Table) → Fin (tcTables nBuf tb) → BufTy
  | .hbm, ⟨0, _⟩ => ⟨S4x8x8192x128, .bf16⟩
  | .hbm, ⟨1, _⟩ => ⟨S4x8192x512, .bf16⟩
  | .hbm, ⟨2, _⟩ => ⟨S4x8x8192x128, .bf16⟩
  | .hbm, ⟨3, _⟩ => ⟨S4x8192x512, .f32⟩
  | .hbm, ⟨4, _⟩ => ⟨S4x8192x8x64, .f32⟩
  | .hbm, ⟨5, _⟩ => ⟨S4x8x8192x64, .f32⟩
  | .hbm, ⟨6, _⟩ => ⟨S4x8x8192x128, .f32⟩
  | .hbm, ⟨7, _⟩ => ⟨S4x8x8192x64, .f32⟩
  | .hbm, ⟨8, _⟩ => ⟨S4x8x8192x64, .f32⟩
  | .hbm, ⟨9, _⟩ => ⟨S4x8x8192x64, .f32⟩
  | .hbm, ⟨10, _⟩ => ⟨S4x8x8192x128, .f32⟩
  | .hbm, ⟨11, _⟩ => ⟨S4x8x8192x64, .f32⟩
  | .hbm, ⟨12, _⟩ => ⟨S4x8x8192x64, .f32⟩
  | .hbm, ⟨13, _⟩ => ⟨S4x8x8192x64, .f32⟩
  | .hbm, ⟨14, _⟩ => ⟨S4x8x8192x8192, .f32⟩
  | .hbm, ⟨15, _⟩ => ⟨S_, .f32⟩
  | .hbm, ⟨16, _⟩ => ⟨S_, .f32⟩
  | .hbm, ⟨17, _⟩ => ⟨S4x8x8192x8192, .f32⟩
  | .hbm, ⟨18, _⟩ => ⟨S4x8x8192x8192, .f32⟩
  | .hbm, ⟨19, _⟩ => ⟨S8192, .i32⟩
  | .hbm, ⟨20, _⟩ => ⟨S8192x1, .i32⟩
  | .hbm, ⟨21, _⟩ => ⟨S8192, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S4x8x8192x8192, .f32⟩
  | .hbm, ⟨27, _⟩ => ⟨S4x8x8192x8192, .f32⟩
  | .hbm, ⟨28, _⟩ => ⟨S_, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .i1⟩
  | .hbm, ⟨34, _⟩ => ⟨S4x8x8192x8192, .f32⟩
  | .hbm, ⟨35, _⟩ => ⟨S4x8x8192x8192, .f32⟩
  | .hbm, ⟨36, _⟩ => ⟨S4x8x8192x8192, .f32⟩
  | .hbm, ⟨37, _⟩ => ⟨S4x8x8192x8192, .f32⟩
  | .hbm, ⟨38, _⟩ => ⟨S4x8x8192x8192, .f32⟩
  | .hbm, ⟨39, _⟩ => ⟨S4x8x8192x8192, .f32⟩
  | .hbm, ⟨40, _⟩ => ⟨S4x8x8192x8192, .f32⟩
  | .hbm, ⟨41, _⟩ => ⟨S4x8x8192x8192, .f32⟩
  | .hbm, ⟨42, _⟩ => ⟨S4x8x8192x8192, .f32⟩
  | .hbm, ⟨43, _⟩ => ⟨S_, .f32⟩
  | .hbm, ⟨44, _⟩ => ⟨S_, .f32⟩
  | .hbm, ⟨45, _⟩ => ⟨S4x8x8192x8192, .i1⟩
  | .hbm, ⟨46, _⟩ => ⟨S4x8x8192x8192, .f32⟩
  | .hbm, ⟨47, _⟩ => ⟨S4x8x8192x8192, .f32⟩
  | .hbm, ⟨48, _⟩ => ⟨S_, .f32⟩
  | .hbm, ⟨49, _⟩ => ⟨S_, .f32⟩
  | .hbm, ⟨50, _⟩ => ⟨S4x8x8192x8192, .f32⟩
  | .hbm, ⟨51, _⟩ => ⟨S4x8x8192x8192, .f32⟩
  | .hbm, ⟨52, _⟩ => ⟨S4x8x8192x8192, .f32⟩
  | .hbm, ⟨53, _⟩ => ⟨S_, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .i1⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S4x8x8192x8192, .f32⟩
  | .hbm, ⟨67, _⟩ => ⟨S4x8x8192x8192, .f32⟩
  | .hbm, ⟨68, _⟩ => ⟨S4x8x8192x8192, .f32⟩
  | .hbm, ⟨69, _⟩ => ⟨S4x8x8192x8192, .f32⟩
  | .hbm, ⟨70, _⟩ => ⟨S_, .f32⟩
  | .hbm, ⟨71, _⟩ => ⟨S_, .f32⟩
  | .hbm, ⟨72, _⟩ => ⟨S4x8x8192x8192, .i1⟩
  | .hbm, ⟨73, _⟩ => ⟨S4x8x8192x8192, .f32⟩
  | .hbm, ⟨74, _⟩ => ⟨S4x8x8192x8192, .f32⟩
  | .hbm, ⟨75, _⟩ => ⟨S4x8x8192x64, .f32⟩
  | .hbm, ⟨76, _⟩ => ⟨S4x8192x8x64, .f32⟩
  | .hbm, ⟨77, _⟩ => ⟨S4x8192x512, .f32⟩
  | .hbm, ⟨78, _⟩ => ⟨S4x8192x512, .bf16⟩
  | _, _ => ⟨S4x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v23 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_call2_cst : Ref sig .tc := ⟨.hbm, 48, rfl⟩
abbrev main_call2_v0 : Ref sig .tc := ⟨.hbm, 49, rfl⟩
abbrev main_v25 : Ref sig .tc := ⟨.hbm, 50, rfl⟩
abbrev main_v26 : Ref sig .tc := ⟨.hbm, 51, rfl⟩
abbrev main_call3_v0 : Ref sig .tc := ⟨.hbm, 52, rfl⟩
abbrev main_call3_call0_cst : Ref sig .tc := ⟨.hbm, 53, rfl⟩
abbrev main_call3_call0_v0 : Ref sig .tc := ⟨.hbm, 54, rfl⟩
abbrev main_call3_call0_v1 : Ref sig .tc := ⟨.hbm, 55, rfl⟩
abbrev main_call3_call0_v2 : Ref sig .tc := ⟨.hbm, 56, rfl⟩
abbrev main_call3_call0_v3 : Ref sig .tc := ⟨.hbm, 57, rfl⟩
abbrev main_call3_call0_v4 : Ref sig .tc := ⟨.hbm, 58, rfl⟩
abbrev main_call3_call0_v5 : Ref sig .tc := ⟨.hbm, 59, rfl⟩
abbrev main_call3_call0_v6 : Ref sig .tc := ⟨.hbm, 60, rfl⟩
abbrev main_call3_call0_v7 : Ref sig .tc := ⟨.hbm, 61, rfl⟩
abbrev main_call3_call0_v8 : Ref sig .tc := ⟨.hbm, 62, rfl⟩
abbrev main_call3_call0_v9 : Ref sig .tc := ⟨.hbm, 63, rfl⟩
abbrev main_call3_call0_v10 : Ref sig .tc := ⟨.hbm, 64, rfl⟩
abbrev main_call3_call0_v11 : Ref sig .tc := ⟨.hbm, 65, rfl⟩
abbrev main_call3_v1 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_1 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S1x4x8192x256 : Shape := ⟨4, ![1, 4, 8192, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S4x8192x256 : Shape := ⟨3, ![4, 8192, 256]⟩
abbrev S1x512x1024 : Shape := ⟨3, ![1, 512, 1024]⟩
abbrev S1x512x512 : Shape := ⟨3, ![1, 512, 512]⟩
abbrev S1x512x256 : Shape := ⟨3, ![1, 512, 256]⟩
abbrev S512x2816 : Shape := ⟨2, ![512, 2816]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 30
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1x4x8192x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024x1024, .f32⟩
  | .hbm, ⟨11, _⟩ => ⟨S1x256x1024, .f32⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S1024, .f32⟩
  | .hbm, ⟨23, _⟩ => ⟨S1x1024, .f32⟩
  | .hbm, ⟨24, _⟩ => ⟨S1024x1024, .f32⟩
  | .hbm, ⟨25, _⟩ => ⟨S1024x1024, .bf16⟩
  | .hbm, ⟨26, _⟩ => ⟨S256x1024, .f32⟩
  | .hbm, ⟨27, _⟩ => ⟨S256x1024, .bf16⟩
  | .hbm, ⟨28, _⟩ => ⟨S4x8192x256, .f32⟩
  | .hbm, ⟨29, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .f32⟩
  | .local _ .vmem, ⟨7, _⟩ => ⟨S1x512x256, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S1x512x1024, .f32⟩
  | .local _ .vmem, ⟨17, _⟩ => ⟨S1x512x1024, .f32⟩
  | .local _ .vmem, ⟨18, _⟩ => ⟨S512x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S4x8192x512 : Shape := ⟨3, ![4, 8192, 512]⟩
abbrev S1x4x8192x256 : Shape := ⟨4, ![1, 4, 8192, 256]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S4x8192x256 : Shape := ⟨3, ![4, 8192, 256]⟩
abbrev S256x1024 : Shape := ⟨2, ![256, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S1x4x8192x256, .f32⟩
  | .hbm, ⟨4, _⟩ => ⟨S1x1024x1024, .f32⟩
  | .hbm, ⟨5, _⟩ => ⟨S1x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024, .f32⟩
  | .hbm, ⟨10, _⟩ => ⟨S1x1024x1024, .f32⟩
  | .hbm, ⟨11, _⟩ => ⟨S1x256x1024, .f32⟩
  | .hbm, ⟨12, _⟩ => ⟨S4x8192x512, .f32⟩
  | .hbm, ⟨13, _⟩ => ⟨S4x8192x512, .f32⟩
  | .hbm, ⟨14, _⟩ => ⟨S4x8192x1024, .f32⟩
  | .hbm, ⟨15, _⟩ => ⟨S1024x1024, .f32⟩
  | .hbm, ⟨16, _⟩ => ⟨S4x8192x1024, .f32⟩
  | .hbm, ⟨17, _⟩ => ⟨S4x8192x1024, .f32⟩
  | .hbm, ⟨18, _⟩ => ⟨S1024, .f32⟩
  | .hbm, ⟨19, _⟩ => ⟨S4x8192x1024, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S1x1x1024, .f32⟩
  | .hbm, ⟨33, _⟩ => ⟨S4x8192x1024, .f32⟩
  | .hbm, ⟨34, _⟩ => ⟨S4x8192x1024, .f32⟩
  | .hbm, ⟨35, _⟩ => ⟨S1024x2816, .f32⟩
  | .hbm, ⟨36, _⟩ => ⟨S1024x2816, .f32⟩
  | .hbm, ⟨37, _⟩ => ⟨S2816x1024, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S_, .f32⟩
  | .hbm, ⟨42, _⟩ => ⟨S4x8192x2816, .f32⟩
  | .hbm, ⟨43, _⟩ => ⟨S4x8192x2816, .f32⟩
  | .hbm, ⟨44, _⟩ => ⟨S_, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S4x8192x1024, .f32⟩
  | .hbm, ⟨51, _⟩ => ⟨S_, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S1024, .f32⟩
  | .hbm, ⟨56, _⟩ => ⟨S4x8192x1024, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S_, .f32⟩
  | .hbm, ⟨64, _⟩ => ⟨S4x8192x1, .f32⟩
  | .hbm, ⟨65, _⟩ => ⟨S4x8192x1, .f32⟩
  | .hbm, ⟨66, _⟩ => ⟨S4x8192x1, .f32⟩
  | .hbm, ⟨67, _⟩ => ⟨S4x8192x1024, .f32⟩
  | .hbm, ⟨68, _⟩ => ⟨S4x8192x1024, .f32⟩
  | .hbm, ⟨69, _⟩ => ⟨S1x1x1024, .f32⟩
  | .hbm, ⟨70, _⟩ => ⟨S4x8192x1024, .f32⟩
  | .hbm, ⟨71, _⟩ => ⟨S4x8192x1024, .f32⟩
  | .hbm, ⟨72, _⟩ => ⟨S1024x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S_, .f32⟩
  | .hbm, ⟨77, _⟩ => ⟨S4x8192x1024, .f32⟩
  | .hbm, ⟨78, _⟩ => ⟨S4x8192x1024, .f32⟩
  | .hbm, ⟨79, _⟩ => ⟨S_, .f32⟩
  | .hbm, ⟨80, _⟩ => ⟨S4x8192x1024, .f32⟩
  | .hbm, ⟨81, _⟩ => ⟨S4x8192x1024, .f32⟩
  | .hbm, ⟨82, _⟩ => ⟨S4x8192x256, .f32⟩
  | .hbm, ⟨83, _⟩ => ⟨S256x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]
-- ==== Kernel3.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3072 : Shape := ⟨3, ![1, 1024, 3072]⟩
abbrev S1x3x512 : Shape := ⟨3, ![1, 3, 512]⟩
abbrev S1x512 : Shape := ⟨2, ![1, 512]⟩
abbrev S1x64 : Shape := ⟨2, ![1, 64]⟩
abbrev S512 : Shape := ⟨1, ![512]⟩
abbrev S_ : Shape := ⟨0, ![]⟩
abbrev S512x1 : Shape := ⟨2, ![512, 1]⟩
abbrev S512x512 : Shape := ⟨2, ![512, 512]⟩
abbrev S1024 : Shape := ⟨1, ![1024]⟩
abbrev S1024x2816 : Shape := ⟨2, ![1024, 2816]⟩
abbrev S2816x1024 : Shape := ⟨2, ![2816, 1024]⟩
abbrev S1024x3072 : Shape := ⟨2, ![1024, 3072]⟩
abbrev S3x512 : Shape := ⟨2, ![3, 512]⟩
abbrev S64 : Shape := ⟨1, ![64]⟩
abbrev S8x64 : Shape := ⟨2, ![8, 64]⟩
abbrev S4x8192x512 : Shape := ⟨3, ![4, 8192, 512]⟩
abbrev S4x8x8192x128 : Shape := ⟨4, ![4, 8, 8192, 128]⟩
abbrev S1x512x1024 : Shape := ⟨3, ![1, 512, 1024]⟩
abbrev S1x512x512 : Shape := ⟨3, ![1, 512, 512]⟩
abbrev S1x8x512x128 : Shape := ⟨4, ![1, 8, 512, 128]⟩
abbrev S512x2816 : Shape := ⟨2, ![512, 2816]⟩
abbrev S8x512 : Shape := ⟨2, ![8, 512]⟩
abbrev S512x1024 : Shape := ⟨2, ![512, 1024]⟩
abbrev S1024x256 : Shape := ⟨2, ![1024, 256]⟩
abbrev S512x256 : Shape := ⟨2, ![512, 256]⟩
abbrev S1024x512 : Shape := ⟨2, ![1024, 512]⟩
abbrev S512x128 : Shape := ⟨2, ![512, 128]⟩
abbrev S1x1x512x128 : Shape := ⟨4, ![1, 1, 512, 128]⟩

abbrev nBuf : Space → Nat
  | .hbm => 66
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x3072, .f32⟩
  | .hbm, ⟨7, _⟩ => ⟨S1x3x512, .f32⟩
  | .hbm, ⟨8, _⟩ => ⟨S1x512, .f32⟩
  | .hbm, ⟨9, _⟩ => ⟨S1x64, .f32⟩
  | .hbm, ⟨10, _⟩ => ⟨S1x64, .f32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S512x512, .bf16⟩
  | .hbm, ⟨36, _⟩ => ⟨S1024, .f32⟩
  | .hbm, ⟨37, _⟩ => ⟨S1x1024, .f32⟩
  | .hbm, ⟨38, _⟩ => ⟨S1024x2816, .f32⟩
  | .hbm, ⟨39, _⟩ => ⟨S1024x2816, .bf16⟩
  | .hbm, ⟨40, _⟩ => ⟨S1024x2816, .f32⟩
  | .hbm, ⟨41, _⟩ => ⟨S1024x2816, .bf16⟩
  | .hbm, ⟨42, _⟩ => ⟨S2816x1024, .f32⟩
  | .hbm, ⟨43, _⟩ => ⟨S2816x1024, .bf16⟩
  | .hbm, ⟨44, _⟩ => ⟨S1024, .f32⟩
  | .hbm, ⟨45, _⟩ => ⟨S1x1024, .f32⟩
  | .hbm, ⟨46, _⟩ => ⟨S1024x3072, .f32⟩
  | .hbm, ⟨47, _⟩ => ⟨S1024x3072, .bf16⟩
  | .hbm, ⟨48, _⟩ => ⟨S3x512, .f32⟩
  | .hbm, ⟨49, _⟩ => ⟨S512, .f32⟩
  | .hbm, ⟨50, _⟩ => ⟨S1x512, .f32⟩
  | .hbm, ⟨51, _⟩ => ⟨S64, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S64, .f32⟩
  | .hbm, ⟨57, _⟩ => ⟨S1x64, .f32⟩
  | .hbm, ⟨58, _⟩ => ⟨S8x64, .f32⟩
  | .hbm, ⟨59, _⟩ => ⟨S512, .f32⟩
  | .hbm, ⟨60, _⟩ => ⟨S1x512, .f32⟩
  | .hbm, ⟨61, _⟩ => ⟨S4x8192x1024, .f32⟩
  | .hbm, ⟨62, _⟩ => ⟨S4x8192x512, .bf16⟩
  | .hbm, ⟨63, _⟩ => ⟨S4x8x8192x128, .bf16⟩
  | .hbm, ⟨64, _⟩ => ⟨S4x8192x512, .bf16⟩
  | .hbm, ⟨65, _⟩ => ⟨S4x8x8192x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x3072, .bf16⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x512, .bf16⟩
  | .local _ .vmem, ⟨16, _⟩ => ⟨S1x512x512, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x512x512, .bf16⟩
  | .local _ .vmem, ⟨20, _⟩ => ⟨S1x512x512, .bf16⟩
  | .local _ .vmem, ⟨21, _⟩ => ⟨S1x8x512x128, .bf16⟩
  | .local _ .vmem, ⟨22, _⟩ => ⟨S1x8x512x128, .bf16⟩
  | .local _ .vmem, ⟨23, _⟩ => ⟨S512x2816, .bf16⟩
  | .local _ .vmem, ⟨24, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33_0 : Ref sig .tc := ⟨.hbm, 61, rfl⟩
abbrev main_v33_1 : Ref sig .tc := ⟨.hbm, 62, rfl⟩
abbrev main_v33_2 : Ref sig .tc := ⟨.hbm, 63, rfl⟩
abbrev main_v33_3 : Ref sig .tc := ⟨.hbm, 64, rfl⟩
abbrev main_v33_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel3Ideal.lean ====
variable {F : FTy → Type} [FloatOps F] [Named F]
def κ : String → Option EReal := fun
  | "query_scale" => some (((Real.log 256)⁻¹ : ℝ) : EReal)
  | _ => none
-- ==== Reference3Ideal.lean ====
abbrev S4x8192x1024 : Shape := ⟨3, ![4, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3072 : Shape := ⟨3, ![1, 1024, 3072]⟩
abbrev S1x3x512 : Shape := ⟨3, ![1, 3, 512]⟩
abbrev S1x512 : Shape := ⟨2, ![1, 512]⟩
abbrev S1x64 : Shape := ⟨2, ![1, 64]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S4x8192x2816 : Shape := ⟨3, ![4, 8192, 2816]⟩
abbrev S1024x3072 : Shape := ⟨2, ![1024, 3072]⟩
abbrev S4x8192x3072 : Shape := ⟨3, ![4, 8192, 3072]⟩
abbrev S4x8192x512 : Shape := ⟨3, ![4, 8192, 512]⟩
abbrev S3x512 : Shape := ⟨2, ![3, 512]⟩
abbrev S512 : Shape := ⟨1, ![512]⟩
abbrev S4x2x512 : Shape := ⟨3, ![4, 2, 512]⟩
abbrev S4x8194x512 : Shape := ⟨3, ![4, 8194, 512]⟩
abbrev S1x1x512 : Shape := ⟨3, ![1, 1, 512]⟩
abbrev S4x8192x8x64 : Shape := ⟨4, ![4, 8192, 8, 64]⟩
abbrev S64 : Shape := ⟨1, ![64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8x8192x64 : Shape := ⟨4, ![4, 8, 8192, 64]⟩
abbrev S8 : Shape := ⟨1, ![8]⟩
abbrev S1x8x1x1 : Shape := ⟨4, ![1, 8, 1, 1]⟩
abbrev S4x8x8192x128 : Shape := ⟨4, ![4, 8, 8192, 128]⟩

abbrev nBuf : Space → Nat
  | .hbm => 220
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x1024, .f32⟩
  | 6 => ⟨S1x1024x3072, .f32⟩
  | 7 => ⟨S1x3x512, .f32⟩
  | 8 => ⟨S1x512, .f32⟩
  | 9 => ⟨S1x64, .f32⟩
  | 10 => ⟨S1x64, .f32⟩
  | 11 => ⟨S1024, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S_, .f32⟩
  | 20 => ⟨S4x8192x1, .f32⟩
  | 21 => ⟨S4x8192x1, .f32⟩
  | 22 => ⟨S4x8192x1, .f32⟩
  | 23 => ⟨S4x8192x1024, .f32⟩
  | 24 => ⟨S4x8192x1024, .f32⟩
  | 25 => ⟨S1x1x1024, .f32⟩
  | 26 => ⟨S4x8192x1024, .f32⟩
  | 27 => ⟨S4x8192x1024, .f32⟩
  | 28 => ⟨S1024x2816, .f32⟩
  | 29 => ⟨S1024x2816, .f32⟩
  | 30 => ⟨S2816x1024, .f32⟩
  | 31 => ⟨S4x8192x2816, .f32⟩
  | 32 => ⟨S4x8192x2816, .f32⟩
  | 33 => ⟨S4x8192x2816, .f32⟩
  | 34 => ⟨S_, .f32⟩
  | 35 => ⟨S4x8192x2816, .f32⟩
  | 36 => ⟨S4x8192x2816, .f32⟩
  | 37 => ⟨S_, .f32⟩
  | 38 => ⟨S4x8192x2816, .f32⟩
  | 39 => ⟨S4x8192x2816, .f32⟩
  | 40 => ⟨S4x8192x2816, .f32⟩
  | 41 => ⟨S4x8192x2816, .f32⟩
  | 42 => ⟨S4x8192x2816, .f32⟩
  | 43 => ⟨S4x8192x1024, .f32⟩
  | 44 => ⟨S_, .f32⟩
  | 45 => ⟨S4x8192x1024, .f32⟩
  | 46 => ⟨S4x8192x1024, .f32⟩
  | 47 => ⟨S4x8192x1024, .f32⟩
  | 48 => ⟨S1024, .f32⟩
  | 49 => ⟨S4x8192x1024, .f32⟩
  | 50 => ⟨S_, .f32⟩
  | 51 => ⟨S4x8192, .f32⟩
  | 52 => ⟨S4x8192x1, .f32⟩
  | 53 => ⟨S_, .f32⟩
  | 54 => ⟨S4x8192x1, .f32⟩
  | 55 => ⟨S4x8192x1, .f32⟩
  | 56 => ⟨S_, .f32⟩
  | 57 => ⟨S4x8192x1, .f32⟩
  | 58 => ⟨S4x8192x1, .f32⟩
  | 59 => ⟨S4x8192x1, .f32⟩
  | 60 => ⟨S4x8192x1024, .f32⟩
  | 61 => ⟨S4x8192x1024, .f32⟩
  | 62 => ⟨S1x1x1024, .f32⟩
  | 63 => ⟨S4x8192x1024, .f32⟩
  | 64 => ⟨S4x8192x1024, .f32⟩
  | 65 => ⟨S1024x3072, .f32⟩
  | 66 => ⟨S4x8192x3072, .f32⟩
  | 67 => ⟨S4x8192x512, .f32⟩
  | 68 => ⟨S4x8192x512, .f32⟩
  | 69 => ⟨S4x8192x512, .f32⟩
  | 70 => ⟨S4x8192x512, .f32⟩
  | 71 => ⟨S4x8192x512, .f32⟩
  | 72 => ⟨S4x8192x512, .f32⟩
  | 73 => ⟨S3x512, .f32⟩
  | 74 => ⟨S512, .f32⟩
  | 75 => ⟨S4x8192x512, .f32⟩
  | 76 => ⟨S_, .f32⟩
  | 77 => ⟨S4x2x512, .f32⟩
  | 78 => ⟨S4x8194x512, .f32⟩
  | 79 => ⟨S4x8192x512, .f32⟩
  | 80 => ⟨S1x512, .f32⟩
  | 81 => ⟨S512, .f32⟩
  | 82 => ⟨S1x1x512, .f32⟩
  | 83 => ⟨S4x8192x512, .f32⟩
  | 84 => ⟨S4x8192x512, .f32⟩
  | 85 => ⟨S4x8192x512, .f32⟩
  | 86 => ⟨S1x512, .f32⟩
  | 87 => ⟨S512, .f32⟩
  | 88 => ⟨S1x1x512, .f32⟩
  | 89 => ⟨S4x8192x512, .f32⟩
  | 90 => ⟨S4x8192x512, .f32⟩
  | 91 => ⟨S4x8192x512, .f32⟩
  | 92 => ⟨S4x8192x512, .f32⟩
  | 93 => ⟨S1x512, .f32⟩
  | 94 => ⟨S512, .f32⟩
  | 95 => ⟨S1x1x512, .f32⟩
  | 96 => ⟨S4x8192x512, .f32⟩
  | 97 => ⟨S4x8192x512, .f32⟩
  | 98 => ⟨S4x8192x512, .f32⟩
  | 99 => ⟨S1x1x512, .f32⟩
  | 100 => ⟨S4x8192x512, .f32⟩
  | 101 => ⟨S4x8192x512, .f32⟩
  | 102 => ⟨S4x8192x512, .f32⟩
  | 103 => ⟨S4x8192x8x64, .f32⟩
  | 104 => ⟨S64, .f32⟩
  | 105 => ⟨S4x8192x8x64, .f32⟩
  | 106 => ⟨S_, .f32⟩
  | 107 => ⟨S4x8192x8, .f32⟩
  | 108 => ⟨S4x8192x8x1, .f32⟩
  | 109 => ⟨S_, .f32⟩
  | 110 => ⟨S4x8192x8x1, .f32⟩
  | 111 => ⟨S4x8192x8x1, .f32⟩
  | 112 => ⟨S_, .f32⟩
  | 113 => ⟨S4x8192x8x1, .f32⟩
  | 114 => ⟨S4x8192x8x1, .f32⟩
  | 115 => ⟨S4x8192x8x1, .f32⟩
  | 116 => ⟨S4x8192x8x64, .f32⟩
  | 117 => ⟨S4x8192x8x64, .f32⟩
  | 118 => ⟨S1x1x1x64, .f32⟩
  | 119 => ⟨S4x8192x8x64, .f32⟩
  | 120 => ⟨S4x8192x8x64, .f32⟩
  | 121 => ⟨S_, .f32⟩
  | 122 => ⟨S4x8192x8x64, .f32⟩
  | 123 => ⟨S4x8192x8x64, .f32⟩
  | 124 => ⟨S_, .f32⟩
  | 125 => ⟨S_, .f32⟩
  | 126 => ⟨S4x8192x8x64, .f32⟩
  | 127 => ⟨S4x8192x8x64, .f32⟩
  | _ => ⟨S4x8192x1024, .f32⟩

abbrev hbmTy0_1 (i : Nat) : BufTy := match i % 128 with
  | 0 => ⟨S4x8192x8x64, .f32⟩
  | 1 => ⟨S64, .f32⟩
  | 2 => ⟨S4x8192x8x64, .f32⟩
  | 3 => ⟨S_, .f32⟩
  | 4 => ⟨S4x8192x8, .f32⟩
  | 5 => ⟨S4x8192x8x1, .f32⟩
  | 6 => ⟨S_, .f32⟩
  | 7 => ⟨S4x8192x8x1, .f32⟩
  | 8 => ⟨S4x8192x8x1, .f32⟩
  | 9 => ⟨S_, .f32⟩
  | 10 => ⟨S4x8192x8x1, .f32⟩
  | 11 => ⟨S4x8192x8x1, .f32⟩
  | 12 => ⟨S4x8192x8x1, .f32⟩
  | 13 => ⟨S4x8192x8x64, .f32⟩
  | 14 => ⟨S4x8192x8x64, .f32⟩
  | 15 => ⟨S1x1x1x64, .f32⟩
  | 16 => ⟨S4x8192x8x64, .f32⟩
  | 17 => ⟨S4x8192x8x64, .f32⟩
  | 18 => ⟨S4x8192x512, .bf16⟩
  | 19 => ⟨S4x8x8192x64, .f32⟩
  | 20 => ⟨S_, .f32⟩
  | 21 => ⟨S4x8x8192x64, .f32⟩
  | 22 => ⟨S8, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S8, .i32⟩
  | 30 => ⟨S8, .i32⟩
  | 31 => ⟨S_, .i32⟩
  | 32 => ⟨S8, .i32⟩
  | 33 => ⟨S8, .i1⟩
  | 34 => ⟨S_, .i32⟩
  | 35 => ⟨S8, .i32⟩
  | 36 => ⟨S8, .i1⟩
  | 37 => ⟨S_, .i32⟩
  | 38 => ⟨S_, .i1⟩
  | 39 => ⟨S8, .i1⟩
  | 40 => ⟨S8, .i1⟩
  | 41 => ⟨S8, .i1⟩
  | 42 => ⟨S8, .i32⟩
  | 43 => ⟨S8, .i32⟩
  | 44 => ⟨S8, .i32⟩
  | 45 => ⟨S_, .i32⟩
  | 46 => ⟨S8, .i32⟩
  | 47 => ⟨S8, .i1⟩
  | 48 => ⟨S1x8x1x1, .i1⟩
  | 49 => ⟨S4x8x8192x128, .f32⟩
  | 50 => ⟨S4x8x8192x128, .f32⟩
  | 51 => ⟨S4x8x8192x128, .i1⟩
  | 52 => ⟨S4x8x8192x128, .f32⟩
  | 53 => ⟨S4x8x8192x128, .bf16⟩
  | 54 => ⟨S4x8192x512, .f32⟩
  | 55 => ⟨S4x8192x512, .bf16⟩
  | 56 => ⟨S4x8192x8x64, .f32⟩
  | 57 => ⟨S4x8x8192x64, .f32⟩
  | 58 => ⟨S_, .f32⟩
  | 59 => ⟨S4x8x8192x64, .f32⟩
  | 60 => ⟨S8, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S8, .i32⟩
  | 68 => ⟨S8, .i32⟩
  | 69 => ⟨S_, .i32⟩
  | 70 => ⟨S8, .i32⟩
  | 71 => ⟨S8, .i1⟩
  | 72 => ⟨S_, .i32⟩
  | 73 => ⟨S8, .i32⟩
  | 74 => ⟨S8, .i1⟩
  | 75 => ⟨S_, .i32⟩
  | 76 => ⟨S_, .i1⟩
  | 77 => ⟨S8, .i1⟩
  | 78 => ⟨S8, .i1⟩
  | 79 => ⟨S8, .i1⟩
  | 80 => ⟨S8, .i32⟩
  | 81 => ⟨S8, .i32⟩
  | 82 => ⟨S8, .i32⟩
  | 83 => ⟨S_, .i32⟩
  | 84 => ⟨S8, .i32⟩
  | 85 => ⟨S8, .i1⟩
  | 86 => ⟨S1x8x1x1, .i1⟩
  | 87 => ⟨S4x8x8192x128, .f32⟩
  | 88 => ⟨S4x8x8192x128, .f32⟩
  | 89 => ⟨S4x8x8192x128, .i1⟩
  | 90 => ⟨S4x8x8192x128, .f32⟩
  | 91 => ⟨S4x8x8192x128, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_7 : Ref sig .tc := ⟨.hbm, 106, rfl⟩
abbrev main_v79 : Ref sig .tc := ⟨.hbm, 107, rfl⟩
abbrev main_v80 : Ref sig .tc := ⟨.hbm, 108, rfl⟩
abbrev main_cst_8 : Ref sig .tc := ⟨.hbm, 109, rfl⟩
abbrev main_v81 : Ref sig .tc := ⟨.hbm, 110, rfl⟩
abbrev main_v82 : Ref sig .tc := ⟨.hbm, 111, rfl⟩
abbrev main_cst_9 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_10 : Ref sig .tc := ⟨.hbm, 121, rfl⟩
abbrev main_v91 : Ref sig .tc := ⟨.hbm, 122, rfl⟩
abbrev main_v92 : Ref sig .tc := ⟨.hbm, 123, rfl⟩
abbrev main_cst_11 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_12 : Ref sig .tc := ⟨.hbm, 131, rfl⟩
abbrev main_v99 : Ref sig .tc := ⟨.hbm, 132, rfl⟩
abbrev main_v100 : Ref sig .tc := ⟨.hbm, 133, rfl⟩
abbrev main_cst_13 : Ref sig .tc := ⟨.hbm, 134, rfl⟩
abbrev main_v101 : Ref sig .tc := ⟨.hbm, 135, rfl⟩
abbrev main_v102 : Ref sig .tc := ⟨.hbm, 136, rfl⟩
abbrev main_cst_14 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_15 : Ref sig .tc := ⟨.hbm, 148, rfl⟩
abbrev main_v113 : Ref sig .tc := ⟨.hbm, 149, rfl⟩
abbrev main_v114 : Ref sig .tc := ⟨.hbm, 150, rfl⟩
abbrev main_c : Ref sig .tc := ⟨.hbm, 151, rfl⟩
abbrev main_call1_v0 : Ref sig .tc := ⟨.hbm, 152, rfl⟩
abbrev main_call1_c : Ref sig .tc := ⟨.hbm, 153, rfl⟩
abbrev main_call1_v1 : Ref sig .tc := ⟨.hbm, 154, rfl⟩
abbrev main_call1_c_0 : Ref sig .tc := ⟨.hbm, 155, rfl⟩
abbrev main_call1_v2 : Ref sig .tc := ⟨.hbm, 156, rfl⟩
abbrev main_call1_v3 : Ref sig .tc := ⟨.hbm, 157, rfl⟩
abbrev main_call1_v4 : Ref sig .tc := ⟨.hbm, 158, rfl⟩
abbrev main_call1_c_1 : Ref sig .tc := ⟨.hbm, 159, rfl⟩
abbrev main_call1_v5 : Ref sig .tc := ⟨.hbm, 160, rfl⟩
abbrev main_call1_v6 : Ref sig .tc := ⟨.hbm, 161, rfl⟩
abbrev main_call1_c_2 : Ref sig .tc := ⟨.hbm, 162, rfl⟩
abbrev main_call1_v7 : Ref sig .tc := ⟨.hbm, 163, rfl⟩
abbrev main_call1_v8 : Ref sig .tc := ⟨.hbm, 164, rfl⟩
abbrev main_call1_c_3 : Ref sig .tc := ⟨.hbm, 165, rfl⟩
abbrev main_call1_v9 : Ref sig .tc := ⟨.hbm, 166, rfl⟩
abbrev main_call1_v10 : Ref sig .tc := ⟨.hbm, 167, rfl⟩
abbrev main_call1_v11 : Ref sig .tc := ⟨.hbm, 168, rfl⟩
abbrev main_call1_v12 : Ref sig .tc := ⟨.hbm, 169, rfl⟩
abbrev main_call1_v13 : Ref sig .tc := ⟨.hbm, 170, rfl⟩
abbrev main_call1_v14 : Ref sig .tc := ⟨.hbm, 171, rfl⟩
abbrev main_v115 : Ref sig .tc := ⟨.hbm, 172, rfl⟩
abbrev main_c_16 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_call2_v0 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_17 : Ref sig .tc := ⟨.hbm, 186, rfl⟩
abbrev main_v127 : Ref sig .tc := ⟨.hbm, 187, rfl⟩
abbrev main_v128 : Ref sig .tc := ⟨.hbm, 188, rfl⟩
abbrev main_c_18 : Ref sig .tc := ⟨.hbm, 189, rfl⟩
abbrev main_call3_v0 : Ref sig .tc := ⟨.hbm, 190, rfl⟩
abbrev main_call3_c : Ref sig .tc := ⟨.hbm, 191, rfl⟩
abbrev main_call3_v1 : Ref sig .tc := ⟨.hbm, 192, rfl⟩
abbrev main_call3_c_0 : Ref sig .tc := ⟨.hbm, 193, rfl⟩
abbrev main_call3_v2 : Ref sig .tc := ⟨.hbm, 194, rfl⟩
abbrev main_call3_v3 : Ref sig .tc := ⟨.hbm, 195, rfl⟩
abbrev main_call3_v4 : Ref sig .tc := ⟨.hbm, 196, rfl⟩
abbrev main_call3_c_1 : Ref sig .tc := ⟨.hbm, 197, rfl⟩
abbrev main_call3_v5 : Ref sig .tc := ⟨.hbm, 198, rfl⟩
abbrev main_call3_v6 : Ref sig .tc := ⟨.hbm, 199, rfl⟩
abbrev main_call3_c_2 : Ref sig .tc := ⟨.hbm, 200, rfl⟩
abbrev main_call3_v7 : Ref sig .tc := ⟨.hbm, 201, rfl⟩
abbrev main_call3_v8 : Ref sig .tc := ⟨.hbm, 202, rfl⟩
abbrev main_call3_c_3 : Ref sig .tc := ⟨.hbm, 203, rfl⟩
abbrev main_call3_v9 : Ref sig .tc := ⟨.hbm, 204, rfl⟩
abbrev main_call3_v10 : Ref sig .tc := ⟨.hbm, 205, rfl⟩
abbrev main_call3_v11 : Ref sig .tc := ⟨.hbm, 206, rfl⟩
abbrev main_call3_v12 : Ref sig .tc := ⟨.hbm, 207, rfl⟩
abbrev main_call3_v13 : Ref sig .tc := ⟨.hbm, 208, rfl⟩
abbrev main_call3_v14 : Ref sig .tc := ⟨.hbm, 209, rfl⟩
abbrev main_v129 : Ref sig .tc := ⟨.hbm, 210, rfl⟩
abbrev main_c_19 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_call4_v0 : Ref sig .tc := ⟨.hbm, 217, rfl⟩
abbrev main_v135 : Ref sig .tc := ⟨.hbm, 218, rfl⟩
abbrev main_v136 : Ref sig .tc := ⟨.hbm, 219, rfl⟩

abbrev nD : Nat := 1
abbrev τ : Topo := Topo.v7x

variable {F : FTy → Type} [FloatOps F]
-- ==== Proof.Attn.Items.lean ====
/- The work items of the attention call's loop and the order in which it takes them: query block `i` against key
   block `j`, from the diagonal `j = i` down to `j = 0`, then on to query block `i + 2`. Two lanes of items are in
   flight, the even query blocks and the odd ones, each item three stages deep. Here: the item after an item, as the
   loop's words compute it; the five items that one pass of the loop holds; and a measure that falls at every pass. -/
module

public import Idealize.ShloMosaic.PureOps
public import Idealize.ShloMosaic.Lib.Scf
public import Idealize.ShloMosaic.Lib.WordCmp

@[expose] public section

namespace Cert.Attn

open Idealize.ShloMosaic

/-- Query block `i` against key block `j`; `v` says that there is an item at all. -/
structure Item where
  i : Fin 32
  j : Fin 32
  v : Bool
deriving DecidableEq

namespace Item

/-- The item after `x` when `fl` says that the sweep over `x`'s keys may stop early; `p` where `x` is no item. -/
def next (fl : Bool) (x p : Item) : Item :=
  if x.v then
    if x.j.val = 0 ∨ fl = true then
      if h : x.i.val + 2 < 32 then ⟨⟨x.i.val + 2, h⟩, ⟨x.i.val + 2, h⟩, true⟩ else ⟨x.i, 0, false⟩
    else ⟨x.i, ⟨x.j.val - 1, by omega⟩, true⟩
  else p

/-- The three words the loop keeps of an item. -/
abbrev wi (x : Item) : BitVec 32 := BitVec.ofNat 32 x.i.val
abbrev wj (x : Item) : BitVec 32 := BitVec.ofNat 32 x.j.val
def wv (x : Item) : BitVec 32 := if x.v then 1#32 else 0#32

end Item

/-- Whether the sweep is done after an item, as the loop computes it of its key block and of the early-stop bit. -/
abbrev doneW (aj : BitVec 32) (fl : BitVec 1) : BitVec 1 := Scalar.ori (Scalar.cmpi .eq aj 0#32) fl
/-- Whether the lane is finished after an item. -/
abbrev finW (ai aj : BitVec 32) (fl : BitVec 1) : BitVec 1 :=
  Scalar.andi (doneW aj fl) (Scalar.cmpi .sgt (Scalar.addi ai 2#32) 31#32)
/-- The next item's query block, -/
abbrev nextI (ai aj av pi : BitVec 32) (fl : BitVec 1) : BitVec 32 :=
  Scalar.select (Scalar.cmpi .eq av 1#32)
    (Scalar.select (Scalar.andi (doneW aj fl) (Scalar.xori (finW ai aj fl) 1#1)) (Scalar.addi ai 2#32) ai) pi
/-- its key block, -/
abbrev nextJ (ai aj av pj : BitVec 32) (fl : BitVec 1) : BitVec 32 :=
  Scalar.select (Scalar.cmpi .eq av 1#32)
    (Scalar.select (finW ai aj fl) 0#32 (Scalar.select (doneW aj fl) (Scalar.addi ai 2#32) (Scalar.subi aj 1#32))) pj
/-- and whether it is one. -/
abbrev nextV (ai aj av pv : BitVec 32) (fl : BitVec 1) : BitVec 32 :=
  Scalar.select (Scalar.cmpi .eq av 1#32) (Scalar.select (finW ai aj fl) 0#32 1#32) pv

theorem bit_cases (b : BitVec 1) : b = 0#1 ∨ b = 1#1 := by
  revert b; decide

theorem next_words_true : ∀ (i j : Fin 32) (fl : Bool),
    (let y := Item.next fl ⟨i, j, true⟩ ⟨i, j, true⟩
     let b : BitVec 1 := if fl then 1#1 else 0#1
     nextI (BitVec.ofNat 32 i.val) (BitVec.ofNat 32 j.val) 1#32 0#32 b = y.wi
      ∧ nextJ (BitVec.ofNat 32 i.val) (BitVec.ofNat 32 j.val) 1#32 0#32 b = y.wj
      ∧ nextV (BitVec.ofNat 32 i.val) (BitVec.ofNat 32 j.val) 1#32 0#32 b = y.wv) := by
  decide +kernel

theorem next_words (x p : Item) (b : BitVec 1) :
    nextI x.wi x.wj x.wv p.wi b = (Item.next (b == 1#1) x p).wi
      ∧ nextJ x.wi x.wj x.wv p.wj b = (Item.next (b == 1#1) x p).wj
      ∧ nextV x.wi x.wj x.wv p.wv b = (Item.next (b == 1#1) x p).wv := by
  obtain ⟨i, j, v⟩ := x
  cases v with
  | false =>
    have h : (Scalar.cmpi .eq (0#32) 1#32 : BitVec 1) = 0#1 := by decide
    refine ⟨?_, ?_, ?_⟩ <;> simp [Item.next, Item.wv, h, Scalar.select]
  | true =>
    have h : (Scalar.cmpi .eq (1#32) 1#32 : BitVec 1) = 1#1 := by decide
    have key := next_words_true i j (b == 1#1)
    have hb : (if (b == 1#1) = true then 1#1 else 0#1 : BitVec 1) = b := by
      rcases bit_cases b with rfl | rfl <;> rfl
    simp only [hb] at key
    have e : Item.next (b == 1#1) ⟨i, j, true⟩ p = Item.next (b == 1#1) ⟨i, j, true⟩ ⟨i, j, true⟩ := by
      simp [Item.next]
    rw [e]
    refine ⟨?_, ?_, ?_⟩
    · exact (by simp [Item.wv, h, Scalar.select, nextI] :
        nextI (BitVec.ofNat 32 i.val) (BitVec.ofNat 32 j.val) (Item.wv ⟨i, j, true⟩) p.wi b
          = nextI (BitVec.ofNat 32 i.val) (BitVec.ofNat 32 j.val) 1#32 0#32 b).trans key.1
    · exact (by simp [Item.wv, h, Scalar.select, nextJ] :
        nextJ (BitVec.ofNat 32 i.val) (BitVec.ofNat 32 j.val) (Item.wv ⟨i, j, true⟩) p.wj b
          = nextJ (BitVec.ofNat 32 i.val) (BitVec.ofNat 32 j.val) 1#32 0#32 b).trans key.2.1
    · exact (by simp [Item.wv, h, Scalar.select, nextV] :
        nextV (BitVec.ofNat 32 i.val) (BitVec.ofNat 32 j.val) (Item.wv ⟨i, j, true⟩) p.wv b
          = nextV (BitVec.ofNat 32 i.val) (BitVec.ofNat 32 j.val) 1#32 0#32 b).trans key.2.2

/-- What one pass of the loop holds: lane 0's item to be scored (`p0`), lane 1's next (`n1`), lane 1's item that is
    scored (`p1`), and each lane's item that is weighted (`p2`, `p3`). -/
structure Sched where
  p0 : Item
  n1 : Item
  p1 : Item
  p2 : Item
  p3 : Item

namespace Sched

/-- Whether any item is in flight. -/
def live (s : Sched) : Bool := s.p0.v || s.n1.v || s.p1.v || s.p2.v || s.p3.v

/-- The next pass's items, the lanes' early-stop bits being `f0` and `f1`. -/
def step (f0 f1 : Bool) (s : Sched) : Sched :=
  ⟨s.p0.next f0 s.p0, s.p1.next f1 s.n1, s.p1.next f1 s.n1, s.p0, s.p1⟩

/-- The loop's test is `live`. -/
theorem test_iff (s : Sched) :
    Scalar.cmpi .sgt (Scalar.addi (Scalar.addi (Scalar.addi (Scalar.addi s.p0.wv s.n1.wv) s.p1.wv) s.p2.wv) s.p3.wv) 0#32 = 1#1
      ↔ s.live = true := by
  obtain ⟨⟨_, _, v0⟩, ⟨_, _, v1⟩, ⟨_, _, v2⟩, ⟨_, _, v3⟩, ⟨_, _, v4⟩⟩ := s
  cases v0 <;> cases v1 <;> cases v2 <;> cases v3 <;> cases v4 <;>
    simp [live, Item.wv] <;> decide

/-- How many items a lane may still take, at most, from `x` on. -/
def left (x : Item) : ℕ := if x.v then (31 - x.i.val) * 33 + x.j.val + 1 else 0

theorem left_next (f : Bool) (x p : Item) (h : x.v = true) : left (x.next f p) < left x := by
  obtain ⟨i, j, v⟩ := x
  cases h
  simp only [Item.next, ↓reduceIte, left]
  split
  · split
    · simp; omega
    · simp
  · simp; omega

/-- A measure of what is left to do. -/
def μ (s : Sched) : ℕ :=
  2 * left s.p0 + 2 * (if s.p1.v then left s.p1 else left s.n1) + (if s.n1.v && !s.p1.v then 1 else 0)
    + (if s.p2.v then 1 else 0) + (if s.p3.v then 1 else 0)

theorem next_of_not (f : Bool) (x p : Item) (h : x.v = false) : x.next f p = p := by
  simp [Item.next, h]

theorem left_of_not (x : Item) (h : x.v = false) : left x = 0 := by simp [left, h]

/-- It falls at every pass. -/
theorem μ_step (f0 f1 : Bool) (s : Sched) (h : s.live = true) : μ (step f0 f1 s) < μ s := by
  obtain ⟨p0, n1, p1, p2, p3⟩ := s
  have l0 := left_next f0 p0 p0
  have l1 := left_next f1 p1 n1
  have k0 := next_of_not f0 p0 p0
  have k1 := next_of_not f1 p1 n1
  have z0 := left_of_not p0
  have z1 := left_of_not n1
  show μ ⟨p0.next f0 p0, p1.next f1 n1, p1.next f1 n1, p0, p1⟩ < μ ⟨p0, n1, p1, p2, p3⟩
  generalize p0.next f0 p0 = y0 at *
  generalize p1.next f1 n1 = y1 at *
  simp only [live] at h
  cases h0 : p0.v <;> cases h1 : p1.v <;> cases hn : n1.v <;> cases h2 : p2.v <;> cases h3 : p3.v <;>
    simp_all [μ] <;> omega

end Sched

end Cert.Attn

end
-- ==== Proof.PI.Words.lean ====
/- The side conditions of the attention call's loop, at the words of items below 32: every block of the loop's loads
   and stores lies inside its array, at a multiple of 256 rows. -/
module

public import proofs.«01_k».proof.Proof.Gen.KernelIdeal
public import proofs.«01_k».proof.Proof.Attn.Items

@[expose] public section

namespace Cert.Proof.PI

open Idealize.ShloMosaic Cert.KernelIdeal Cert.KernelIdeal.Gen Cert.Attn

theorem chk1_of : ∀ j : Fin 32, k0_chk1 (BitVec.ofNat 32 j.val) := by
  unfold k0_chk1; decide +kernel
theorem chk2_of : ∀ j : Fin 32, k0_chk2 (BitVec.ofNat 32 j.val) := by
  unfold k0_chk2; decide +kernel
theorem chk3_of : ∀ i j : Fin 32, k0_chk3 (BitVec.ofNat 32 i.val) (BitVec.ofNat 32 j.val) := by
  unfold k0_chk3; decide +kernel
theorem chk4_of : ∀ i j : Fin 32, k0_chk4 (BitVec.ofNat 32 i.val) (BitVec.ofNat 32 j.val) := by
  unfold k0_chk4; decide +kernel
theorem chk5_of : ∀ i : Fin 32, k0_chk5 (BitVec.ofNat 32 i.val) := by
  unfold k0_chk5; decide +kernel
theorem chk6_of : ∀ i : Fin 32, k0_chk6 (BitVec.ofNat 32 i.val) := by
  unfold k0_chk6; decide +kernel
theorem chk7_of : ∀ i : Fin 32, k0_chk7 (BitVec.ofNat 32 i.val) := by
  unfold k0_chk7; decide +kernel

/-- The first rows of a block of a staged array, by the word of the block's number. -/
abbrev row (w : BitVec 32) : Nat := (Scalar.indexCast (Scalar.muli w 256#32) : Index).toNat

theorem row_of : ∀ i : Fin 32, row (BitVec.ofNat 32 i.val) = 256 * i.val := by decide +kernel

theorem dvd_of : ∀ i : Fin 32, 256 ∣ (Scalar.muli (BitVec.ofNat 32 i.val) 256#32).toNat := by decide +kernel

variable (x p : Item) (b : BitVec 1)

/-- The blocks that the lane's next item reads, spelt over that item. -/
theorem off12_eq : k0_off12 p.wj x.wi x.wj x.wv b = ![0, 256 * (x.next (b == 1#1) p).j.val, 0] :=
  (show k0_off12 p.wj x.wi x.wj x.wv b = ![0, row (nextJ x.wi x.wj x.wv p.wj b), 0] from rfl).trans
    (by rw [(next_words x p b).2.1, row_of])
theorem off13_eq : k0_off13 p.wi x.wi x.wj x.wv b = ![0, 0, 256 * (x.next (b == 1#1) p).i.val, 0] :=
  (show k0_off13 p.wi x.wi x.wj x.wv b = ![0, 0, row (nextI x.wi x.wj x.wv p.wi b), 0] from rfl).trans
    (by rw [(next_words x p b).1, row_of])
theorem off14_eq : k0_off14 p.wi x.wi x.wj x.wv b = ![0, 1, 256 * (x.next (b == 1#1) p).i.val, 0] :=
  (show k0_off14 p.wi x.wi x.wj x.wv b = ![0, 1, row (nextI x.wi x.wj x.wv p.wi b), 0] from rfl).trans
    (by rw [(next_words x p b).1, row_of])

theorem chk8_of : k0_chk8 p.wi p.wj x.wi x.wj x.wv b := by
  have hi := (x.next (b == 1#1) p).i.isLt
  have hj := (x.next (b == 1#1) p).j.isLt
  refine ⟨?_, ?_, ?_, ?_, ?_⟩
  · rw [show k0_mult7 p.wj x.wi x.wj x.wv b = Scalar.muli (nextJ x.wi x.wj x.wv p.wj b) 256#32 from rfl,
      (next_words x p b).2.1]
    exact dvd_of _
  · rw [off12_eq]; intro a; fin_cases a <;> simp <;> omega
  · rw [show k0_mult8 p.wi x.wi x.wj x.wv b = Scalar.muli (nextI x.wi x.wj x.wv p.wi b) 256#32 from rfl,
      (next_words x p b).1]
    exact dvd_of _
  · rw [off13_eq]; intro a; fin_cases a <;> simp <;> omega
  · rw [off14_eq]; intro a; fin_cases a <;> simp <;> omega

end Cert.Proof.PI

end
-- ==== Proof.PI.Loop.lean ====
/- The attention call's loop: what one pass does to the five items, the carries, the accumulators, the four scratch
   buffers and the output block, spelt over the kernel's own payloads; the passes run until no item is in flight;
   and the loop's label, answered by them. -/
module

public import proofs.«01_k».proof.Proof.Gen.KernelIdeal.Skeleton
public import proofs.«01_k».proof.Proof.PI.Words
public import Idealize.ShloMosaic.Lib.Pipeline.FrameBody
public import Idealize.ShloMosaic.Lib.Tactic

@[expose] public section

set_option maxRecDepth 16384

noncomputable section

namespace Cert.Proof.PI

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's variants: how many passes it may still take. -/
abbrev 𝒱₀ : Variants := Variants.nat

/-- The memrefs the kernel body is called on: queries, keys, values, the triangle, the mask, the output block, and
    the scratch for logits, kept-mass logarithms, exponents and weights. -/
structure Mems where
  q : Memref sig .tc .vmem S1x2x8192x128 .bf16
  hq : q.IsWhole
  k : Memref sig .tc .vmem S1x8192x128 .bf16
  hk : k.IsWhole
  v : Memref sig .tc .vmem S1x2x8192x128 .bf16
  hv : v.IsWhole
  t : Memref sig .tc .vmem S256x256 .bf16
  ht : t.IsWhole
  b : Memref sig .tc .vmem S2x512x256 .f32
  hb : b.IsWhole
  o : Memref sig .tc .vmem S1x8192x128 .bf16
  ho : o.IsWhole
  z : Memref sig .tc .vmem S2x512x256 .f32
  hz : z.IsWhole
  s : Memref sig .tc .vmem S2x512x256 .bf16
  hs : s.IsWhole
  e : Memref sig .tc .vmem S2x512x256 .f32
  he : e.IsWhole
  a : Memref sig .tc .vmem S2x256x512 .bf16
  ha : a.IsWhole

/-- The contents of a memref's buffer. -/
abbrev Cont (F : FTy → Type) {s : Shape} {t : EltTy} (m : Memref sig .tc .vmem s t) : Type := m.view.ty.Contents (Elt F)

variable (F) in
/-- The contents of the input blocks. -/
structure Ins (M : Mems) where
  q : Cont F M.q
  k : Cont F M.k
  v : Cont F M.v
  t : Cont F M.t
  b : Cont F M.b

variable (F) in
/-- What a pass of the loop starts from. -/
structure St (M : Mems) where
  w : Sched
  c0 : FVec F S512x1 .f32
  c1 : FVec F S512x1 .f32
  a0 : FVec F S256x128 .f32
  a1 : FVec F S256x128 .f32
  z : Cont F M.z
  s : Cont F M.s
  e : Cont F M.e
  a : Cont F M.a
  o : Cont F M.o

/-! ## The blocks -/

abbrev slot0 : Rect S2x512x256 := Rect.unit ![0, 0, 0] S1x512x256.size inb_S2x512x256_S1x512x256_0_0_0
abbrev slot1 : Rect S2x512x256 := Rect.unit ![1, 0, 0] S1x512x256.size inb_S2x512x256_S1x512x256_1_0_0
abbrev slotA0 : Rect S2x256x512 := Rect.unit ![0, 0, 0] S1x256x512.size inb_S2x256x512_S1x256x512_0_0_0
abbrev slotA1 : Rect S2x256x512 := Rect.unit ![1, 0, 0] S1x256x512.size inb_S2x256x512_S1x256x512_1_0_0
abbrev whT : Rect S256x256 := Rect.unit ![0, 0] S256x256.size inb_S256x256_S256x256_0_0
abbrev rV0 (x : Item) : Rect S1x2x8192x128 := Rect.unit (k0_off1 x.wj) S1x1x256x128.size (k0_off1_inb x.wj (chk1_of x.j))
abbrev rV1 (x : Item) : Rect S1x2x8192x128 := Rect.unit (k0_off2 x.wj) S1x1x256x128.size (k0_off2_inb x.wj (chk1_of x.j))
abbrev rO1 (x : Item) : Rect S1x8192x128 := Rect.unit (k0_off3 x.wi) S1x256x128.size (k0_off3_inb x.wi (chk2_of x.i))
abbrev rB1 (x : Item) : Rect S2x512x256 := Rect.unit (k0_off4 x.wi x.wj) S1x512x256.size (k0_off4_inb x.wi x.wj (chk3_of x.i x.j))
abbrev rK (x : Item) : Rect S1x8192x128 := Rect.unit (k0_off5 x.wj) S1x256x128.size (k0_off5_inb x.wi x.wj (chk4_of x.i x.j))
abbrev rQ0 (x : Item) : Rect S1x2x8192x128 := Rect.unit (k0_off6 x.wi) S1x1x256x128.size (k0_off6_inb x.wi (chk5_of x.i))
abbrev rQ1 (x : Item) : Rect S1x2x8192x128 := Rect.unit (k0_off7 x.wi) S1x1x256x128.size (k0_off7_inb x.wi (chk5_of x.i))
abbrev rV0' (x : Item) : Rect S1x2x8192x128 := Rect.unit (k0_off8 x.wj) S1x1x256x128.size (k0_off8_inb x.wj (chk6_of x.j))
abbrev rV1' (x : Item) : Rect S1x2x8192x128 := Rect.unit (k0_off9 x.wj) S1x1x256x128.size (k0_off9_inb x.wj (chk6_of x.j))
abbrev rO0 (x : Item) : Rect S1x8192x128 := Rect.unit (k0_off10 x.wi) S1x256x128.size (k0_off10_inb x.wi (chk7_of x.i))
abbrev rB0 (x : Item) : Rect S2x512x256 := Rect.unit (k0_off11 x.wi x.wj) S1x512x256.size (k0_off11_inb x.wi x.wj (chk4_of x.i x.j))
abbrev rKn (x p : Item) (b : BitVec 1) : Rect S1x8192x128 := Rect.unit (k0_off12 p.wj x.wi x.wj x.wv b) S1x256x128.size (k0_off12_inb p.wi p.wj x.wi x.wj x.wv b (chk8_of x p b))
abbrev rQn0 (x p : Item) (b : BitVec 1) : Rect S1x2x8192x128 := Rect.unit (k0_off13 p.wi x.wi x.wj x.wv b) S1x1x256x128.size (k0_off13_inb p.wi p.wj x.wi x.wj x.wv b (chk8_of x p b))
abbrev rQn1 (x p : Item) (b : BitVec 1) : Rect S1x2x8192x128 := Rect.unit (k0_off14 p.wi x.wi x.wj x.wv b) S1x1x256x128.size (k0_off14_inb p.wi p.wj x.wi x.wj x.wv b (chk8_of x p b))

/-! ## One pass -/

section Pass
variable {M : Mems} (I : Ins F M) (σ : St F M)

/-- What a memref reads of a rectangle, and its contents after a store there. -/
abbrev rd {s : Shape} {t : EltTy} (m : Memref sig .tc .vmem s t) (r : Rect s) (f : Cont F m) : r.shape.Idx → Elt F t :=
  (m.access r).read (Elt F) f
abbrev wr {s : Shape} {t : EltTy} (m : Memref sig .tc .vmem s t) (r : Rect s) (f : Cont F m) (x : r.shape.Idx → Elt F t) : Cont F m :=
  (m.access r).write (Elt F) f x Finset.univ

/-- Lane 1's accumulator and the output block after its weighting, -/
def na1 : FVec F S256x128 .f32 :=
  k0_pay8 σ.w.p3.wi σ.w.p3.wj σ.w.p3.wv σ.a1 (rd M.a slotA1 σ.a) (rd M.v (rV0 σ.w.p3) I.v) (rd M.v (rV1 σ.w.p3) I.v)
def no1 : Cont F M.o :=
  wr M.o (rO1 σ.w.p3) σ.o (k0_pay9 σ.w.p3.wi σ.w.p3.wj σ.w.p3.wv σ.a1 (rd M.a slotA1 σ.a) (rd M.v (rV0 σ.w.p3) I.v) (rd M.v (rV1 σ.w.p3) I.v))
/-- lane 0's weights, -/
def nw0 : Cont F M.a := wr M.a slotA0 σ.a (k0_pay11 (k0_pay10 (rd M.s slot1 σ.s) (rd M.t whT I.t)) (rd M.e slot1 σ.e))
/-- lane 1's logits and mask, -/
def zz1 : Vec F S1x512x256 .f32 := rd M.z slot1 σ.z
def bb1 : Vec F S1x512x256 .f32 := rd M.b (rB1 σ.w.p1) I.b
/-- its exponents and kept-mass logarithms, -/
def ne0 : Cont F M.e := wr M.e slot0 σ.e (k0_pay15 σ.w.p1.wi σ.w.p1.wj σ.c1 (zz1 σ) (bb1 I σ))
def ns0 : Cont F M.s := wr M.s slot0 σ.s (k0_pay17 (k0_pay16 (zz1 σ) (bb1 I σ)))
/-- its early-stop bit and its carry, -/
def fl1 : BitVec 1 :=
  Scalar.cmpf .ogt (k0_pay19 (k0_pay13 (zz1 σ) (bb1 I σ)) (k0_pay14 σ.w.p1.wi σ.w.p1.wj σ.c1)) (Named.named κ "never" 0x43200000#32)
def nc1 : FVec F S512x1 .f32 := k0_pay18 (k0_pay13 (zz1 σ) (bb1 I σ)) (k0_pay14 σ.w.p1.wi σ.w.p1.wj σ.c1)
/-- lane 0's logits, -/
def nz0 : Cont F M.z := wr M.z slot0 σ.z (k0_pay21 (k0_pay20 (rd M.k (rK σ.w.p0) I.k)) (rd M.q (rQ0 σ.w.p0) I.q) (rd M.q (rQ1 σ.w.p0) I.q))
/-- lane 0's accumulator and the output block after its weighting, -/
def na0 : FVec F S256x128 .f32 :=
  k0_pay22 σ.w.p2.wi σ.w.p2.wj σ.w.p2.wv σ.a0 (rd M.a slotA0 (nw0 I σ)) (rd M.v (rV0' σ.w.p2) I.v) (rd M.v (rV1' σ.w.p2) I.v)
def no2 : Cont F M.o :=
  wr M.o (rO0 σ.w.p2) (no1 I σ) (k0_pay23 σ.w.p2.wi σ.w.p2.wj σ.w.p2.wv σ.a0 (rd M.a slotA0 (nw0 I σ)) (rd M.v (rV0' σ.w.p2) I.v) (rd M.v (rV1' σ.w.p2) I.v))
/-- lane 1's weights, -/
def nw1 : Cont F M.a :=
  wr M.a slotA1 (nw0 I σ) (k0_pay24 (rd M.s slot0 (ns0 I σ)) (rd M.t whT I.t) (rd M.e slot0 (ne0 I σ)))
/-- lane 0's logits and mask, whether its item is a first one, -/
def zz0 : Vec F S1x512x256 .f32 := rd M.z slot0 (nz0 I σ)
def bb0 : Vec F S1x512x256 .f32 := rd M.b (rB0 σ.w.p0) I.b
def fs0 : BitVec 1 := Scalar.cmpi .eq σ.w.p0.wj σ.w.p0.wi
/-- its exponents and kept-mass logarithms, -/
def ne1 : Cont F M.e :=
  wr M.e slot1 (ne0 I σ) (k0_pay29 σ.c0 (fs0 σ) (k0_pay25 (zz0 I σ) (bb0 I σ)) (k0_pay26 (zz0 I σ) (bb0 I σ)) (k0_pay27 (F := F)))
def ns1 : Cont F M.s := wr M.s slot1 (ns0 I σ) (k0_pay30 (k0_pay26 (zz0 I σ) (bb0 I σ)))
/-- its early-stop bit and its carry, -/
def fl0 : BitVec 1 :=
  Scalar.cmpf .ogt (k0_pay32 σ.c0 (fs0 σ) (k0_pay26 (zz0 I σ) (bb0 I σ)) (k0_pay27 (F := F))) (Named.named κ "never" 0x43200000#32)
def nc0 : FVec F S512x1 .f32 := k0_pay31 σ.c0 (fs0 σ) (k0_pay26 (zz0 I σ) (bb0 I σ)) (k0_pay27 (F := F))
/-- and the next logits of lane 1. -/
def nz1 : Cont F M.z :=
  wr M.z slot1 (nz0 I σ) (k0_pay7 (rd M.k (rKn σ.w.p1 σ.w.n1 (fl1 I σ)) I.k)
    (rd M.q (rQn0 σ.w.p1 σ.w.n1 (fl1 I σ)) I.q) (rd M.q (rQn1 σ.w.p1 σ.w.n1 (fl1 I σ)) I.q))

/-- What a pass leaves. -/
def pass : St F M where
  w := σ.w.step (fl0 I σ == 1#1) (fl1 I σ == 1#1)
  c0 := nc0 I σ
  c1 := nc1 I σ
  a0 := na0 I σ
  a1 := na1 I σ
  z := nz1 I σ
  s := ns1 I σ
  e := ne1 I σ
  a := nw1 I σ
  o := no2 I σ

/-- The passes from `σ` on, at most `n` of them, while an item is in flight. -/
def run (I : Ins F M) : ℕ → St F M → St F M
  | 0, σ => σ
  | n + 1, σ => if σ.w.live = true then run I n (pass I σ) else σ

/-- Within the schedule's measure the passes end. -/
theorem run_done (I : Ins F M) : ∀ (n : ℕ) (σ : St F M), σ.w.μ ≤ n → (run I n σ).w.live = false := by
  intro n
  induction n with
  | zero =>
    intro σ h
    by_contra hl
    have := Sched.μ_step (fl0 I σ == 1#1) (fl1 I σ == 1#1) σ.w (by simpa [run] using hl)
    omega
  | succ n ih =>
    intro σ h
    rw [run]
    split
    · rename_i hl
      refine ih _ ?_
      have := Sched.μ_step (fl0 I σ == 1#1) (fl1 I σ == 1#1) σ.w hl
      change (σ.w.step _ _).μ ≤ n
      omega
    · rename_i hl; simpa using hl

/-- What holds at first and is kept by every pass holds at the end. -/
theorem run_induct (I : Ins F M) (J : ℕ → St F M → Prop) (hJ : ∀ t σ, J t σ → σ.w.live = true → J (t + 1) (pass I σ)) :
    ∀ (n t : ℕ) (σ : St F M), J t σ → ∃ t', J t' (run I n σ) := by
  intro n
  induction n with
  | zero => intro t σ h; exact ⟨t, h⟩
  | succ n ih =>
    intro t σ h
    rw [run]
    split
    · rename_i hl; exact ih _ _ (hJ t σ h hl)
    · exact ⟨t, h⟩

end Pass

/-! ## The loop's label -/

section Label
variable (c : Dev nD) (i : grid0.Coords) (M : Mems)

/-- The ten buffers, held whole. -/
def held (I : Ins F M) (σ : St F M) : sProp 𝕄 :=
  iprop((M.q.view.loc (c : Thread nD τ) ↦{fullShare} I.q) ∗ (M.k.view.loc (c : Thread nD τ) ↦{fullShare} I.k)
    ∗ (M.v.view.loc (c : Thread nD τ) ↦{fullShare} I.v) ∗ (M.t.view.loc (c : Thread nD τ) ↦{fullShare} I.t)
    ∗ (M.b.view.loc (c : Thread nD τ) ↦{fullShare} I.b) ∗ (M.o.view.loc (c : Thread nD τ) ↦{fullShare} σ.o)
    ∗ (M.z.view.loc (c : Thread nD τ) ↦{fullShare} σ.z) ∗ (M.s.view.loc (c : Thread nD τ) ↦{fullShare} σ.s)
    ∗ (M.e.view.loc (c : Thread nD τ) ↦{fullShare} σ.e) ∗ (M.a.view.loc (c : Thread nD τ) ↦{fullShare} σ.a))

/-- The label's specification with `n` passes to run from `σ`: it takes the buffers as `σ` has them and gives them back
    as the passes leave them. -/
def spec (I : Ins F M) (n : ℕ) (σ : St F M) : sWPT 𝕄 ((BitVec 32 × BitVec 32 × BitVec 32 × BitVec 32 × BitVec 32 × BitVec 32 × BitVec 32 × BitVec 32 × BitVec 32 × BitVec 32 × BitVec 32 × BitVec 32 × BitVec 32 × BitVec 32 × BitVec 32 × FVec F S512x1 .f32 × FVec F S512x1 .f32 × FVec F S256x128 .f32 × FVec F S256x128 .f32)) := do
  sWPT.consume (held c M I σ)
  let r ← sWPT.arbitrary
  sWPT.produce (held c M I (run I n σ))
  pure r

theorem spec_apply (I : Ins F M) (n : ℕ) (σ : St F M) (K : (BitVec 32 × BitVec 32 × BitVec 32 × BitVec 32 × BitVec 32 × BitVec 32 × BitVec 32 × BitVec 32 × BitVec 32 × BitVec 32 × BitVec 32 × BitVec 32 × BitVec 32 × BitVec 32 × BitVec 32 × FVec F S512x1 .f32 × FVec F S512x1 .f32 × FVec F S256x128 .f32 × FVec F S256x128 .f32) → sProp 𝕄) :
    spec c M I n σ K = iprop(held c M I σ ∗ ∀ r : (BitVec 32 × BitVec 32 × BitVec 32 × BitVec 32 × BitVec 32 × BitVec 32 × BitVec 32 × BitVec 32 × BitVec 32 × BitVec 32 × BitVec 32 × BitVec 32 × BitVec 32 × BitVec 32 × BitVec 32 × FVec F S512x1 .f32 × FVec F S512x1 .f32 × FVec F S256x128 .f32 × FVec F S256x128 .f32), held c M I (run I n σ) -∗ K r) := rfl

/-- The kernel's body of the label, at the record of `σ`. -/
abbrev callOn (σ : St F M) (w12 w13 w14 w15 w16 w17 w18 w19 w20 w21 w22 w23 w24 w25 w26 : BitVec 32) : Prog (TpuEff nD τ sig (Elt F) (Λ₀ F) .tc) (BitVec 32 × BitVec 32 × BitVec 32 × BitVec 32 × BitVec 32 × BitVec 32 × BitVec 32 × BitVec 32 × BitVec 32 × BitVec 32 × BitVec 32 × BitVec 32 × BitVec 32 × BitVec 32 × BitVec 32 × FVec F S512x1 .f32 × FVec F S512x1 .f32 × FVec F S256x128 .f32 × FVec F S256x128 .f32) :=
  defs₀ (F := F) .tc 1 ⟨i, M.a, M.ha, M.v, M.hv, M.o, M.ho, M.s, M.hs, M.t, M.ht, M.e, M.he, M.z, M.hz, M.b, M.hb, M.k, M.hk, M.q, M.hq,
    w12, w13, w14, w15, w16, w17, w18, w19, w20, w21, w22, w23, w24, w25, w26, σ.c0, σ.c1, σ.a0, σ.a1⟩

set_option maxHeartbeats 4000000 in
/-- The specification is met by the label's body, by induction on the passes left. -/
theorem spec_le (I : Ins F M) (E : Set ℕ) :
    ∀ (n : ℕ) (σ : St F M), (run I n σ).w.live = false → ∀ (w12 w13 w14 w15 w16 w17 w18 w19 w20 w21 w22 w23 w24 w25 w26 : BitVec 32), w12 = σ.w.p0.wi ∧ w13 = σ.w.p0.wj ∧ w14 = σ.w.p0.wv ∧ w15 = σ.w.n1.wi ∧ w16 = σ.w.n1.wj ∧ w17 = σ.w.n1.wv ∧ w18 = σ.w.p1.wi ∧ w19 = σ.w.p1.wj ∧ w20 = σ.w.p1.wv ∧ w21 = σ.w.p2.wi ∧ w22 = σ.w.p2.wj ∧ w23 = σ.w.p2.wv ∧ w24 = σ.w.p3.wi ∧ w25 = σ.w.p3.wj ∧ w26 = σ.w.p3.wv → ∀ K, spec c M I n σ K
      ⊢ wp frame (wpE (defs₀ (F := F)) 𝒱₀ (c : Thread nD τ) (some n)) E (callOn i M σ w12 w13 w14 w15 w16 w17 w18 w19 w20 w21 w22 w23 w24 w25 w26) K := by
  intro n
  induction n with
  | zero =>
    rintro σ hl w12 w13 w14 w15 w16 w17 w18 w19 w20 w21 w22 w23 w24 w25 w26 ⟨rfl, rfl, rfl, rfl, rfl, rfl, rfl, rfl, rfl, rfl, rfl, rfl, rfl, rfl, rfl⟩ K
    rw [spec_apply]
    show _ ⊢ wp frame (wpE (defs₀ (F := F)) 𝒱₀ (c : Thread nD τ) (some 0)) E (cc0_while1 i M.a M.ha M.v M.hv M.o M.ho M.s M.hs M.t M.ht M.e M.he M.z M.hz M.b M.hb M.k M.hk M.q M.hq σ.w.p0.wi σ.w.p0.wj σ.w.p0.wv σ.w.n1.wi σ.w.n1.wj σ.w.n1.wv σ.w.p1.wi σ.w.p1.wj σ.w.p1.wv σ.w.p2.wi σ.w.p2.wj σ.w.p2.wv σ.w.p3.wi σ.w.p3.wj σ.w.p3.wv σ.c0 σ.c1 σ.a0 σ.a1) K
    simp only [cc0_while1_eq_skeleton]; unfold cc0_while1_skel
    have htest := (not_congr (Sched.test_iff σ.w)).mpr (by simpa [run] using hl)
    simp only [htest, ↓reduceIte, Prog.pure_eq_ret]
    iintro ⟨H, Hk⟩
    rw [wp_ret]; imodintro
    iapply Hk
    iexact H
  | succ n ih =>
    rintro σ hl w12 w13 w14 w15 w16 w17 w18 w19 w20 w21 w22 w23 w24 w25 w26 ⟨rfl, rfl, rfl, rfl, rfl, rfl, rfl, rfl, rfl, rfl, rfl, rfl, rfl, rfl, rfl⟩ K
    rw [spec_apply]
    show _ ⊢ wp frame (wpE (defs₀ (F := F)) 𝒱₀ (c : Thread nD τ) (some (n + 1))) E (cc0_while1 i M.a M.ha M.v M.hv M.o M.ho M.s M.hs M.t M.ht M.e M.he M.z M.hz M.b M.hb M.k M.hk M.q M.hq σ.w.p0.wi σ.w.p0.wj σ.w.p0.wv σ.w.n1.wi σ.w.n1.wj σ.w.n1.wv σ.w.p1.wi σ.w.p1.wj σ.w.p1.wv σ.w.p2.wi σ.w.p2.wj σ.w.p2.wv σ.w.p3.wi σ.w.p3.wj σ.w.p3.wv σ.c0 σ.c1 σ.a0 σ.a1) K
    simp only [cc0_while1_eq_skeleton]; unfold cc0_while1_skel
    by_cases hlive : σ.w.live = true
    case neg =>
      have htest := (not_congr (Sched.test_iff σ.w)).mpr hlive
      have hr : run I (n + 1) σ = σ := by rw [run, if_neg hlive]
      rw [hr]
      simp only [htest, ↓reduceIte, Prog.pure_eq_ret]
      iintro ⟨H, Hk⟩
      rw [wp_ret]; imodintro
      iapply Hk
      iexact H
    case pos =>
    have htest := (Sched.test_iff σ.w).mpr hlive
    have hr : run I (n + 1) σ = run I n (pass I σ) := by rw [run, if_pos hlive]
    rw [hr] at hl ⊢
    simp only [htest, ↓reduceIte, k0_part1_eq_skeleton, k0_part2_eq_skeleton, k0_part3_eq_skeleton, k0_part4_eq_skeleton,
      k0_part5_eq_skeleton, k0_part6_eq_skeleton]
    unfold k0_part1_skel k0_part2_skel k0_part3_skel k0_part4_skel k0_part5_skel k0_part6_skel
    simp only [Prog.lift, Prog.bind_op, Prog.bind_ret, Prog.pure_eq_ret]
    unfold held
    iintro ⟨⟨Hq, Hk, Hv, Ht, Hb, Ho, Hz, Hs, He, Ha⟩, HK⟩
    iapply (wp_assume 𝒱₀ (c : Thread nD τ) (some (n + 1)) E (chk7_of σ.w.p2.i))
    iapply (wp_assume 𝒱₀ (c : Thread nD τ) (some (n + 1)) E (chk6_of σ.w.p2.j))
    iapply (wp_assume 𝒱₀ (c : Thread nD τ) (some (n + 1)) E (chk5_of σ.w.p0.i))
    iapply (wp_assume 𝒱₀ (c : Thread nD τ) (some (n + 1)) E (chk4_of σ.w.p0.i σ.w.p0.j))
    iapply (wp_assume 𝒱₀ (c : Thread nD τ) (some (n + 1)) E (chk3_of σ.w.p1.i σ.w.p1.j))
    iapply (wp_assume 𝒱₀ (c : Thread nD τ) (some (n + 1)) E (chk2_of σ.w.p3.i))
    iapply (wp_assume 𝒱₀ (c : Thread nD τ) (some (n + 1)) E (chk1_of σ.w.p3.j))
    iapply (wp_load_rect 𝒱₀ (c : Thread nD τ) (some (n + 1)) E (m := M.a) (r := slotA1) (Finset.subset_univ _)) $$ Ha; iintro Ha
    iapply (wp_load_rect 𝒱₀ (c : Thread nD τ) (some (n + 1)) E (m := M.v) (r := rV0 σ.w.p3) (Finset.subset_univ _)) $$ Hv; iintro Hv
    iapply (wp_load_rect 𝒱₀ (c : Thread nD τ) (some (n + 1)) E (m := M.v) (r := rV1 σ.w.p3) (Finset.subset_univ _)) $$ Hv; iintro Hv
    iapply (wp_load_rect 𝒱₀ (c : Thread nD τ) (some (n + 1)) E (m := M.o) (r := rO1 σ.w.p3) (Finset.subset_univ _)) $$ Ho; iintro Ho
    iapply (wp_store 𝒱₀ (c : Thread nD τ) (some (n + 1)) E (m := M.o) (r := rO1 σ.w.p3) (Mk := Finset.univ) (Finset.subset_univ _)) $$ Ho; iintro Ho
    iapply (wp_load_rect 𝒱₀ (c : Thread nD τ) (some (n + 1)) E (m := M.s) (r := slot1) (Finset.subset_univ _)) $$ Hs; iintro Hs
    iapply (wp_load_rect 𝒱₀ (c : Thread nD τ) (some (n + 1)) E (m := M.t) (r := whT) (Finset.subset_univ _)) $$ Ht; iintro Ht
    iapply (wp_load_rect 𝒱₀ (c : Thread nD τ) (some (n + 1)) E (m := M.e) (r := slot1) (Finset.subset_univ _)) $$ He; iintro He
    iapply (wp_load_rect 𝒱₀ (c : Thread nD τ) (some (n + 1)) E (m := M.a) (r := slotA0) (Finset.subset_univ _)) $$ Ha; iintro Ha
    iapply (wp_store 𝒱₀ (c : Thread nD τ) (some (n + 1)) E (m := M.a) (r := slotA0) (Mk := Finset.univ) (Finset.subset_univ _)) $$ Ha; iintro Ha
    iapply (wp_load_rect 𝒱₀ (c : Thread nD τ) (some (n + 1)) E (m := M.z) (r := slot1) (Finset.subset_univ _)) $$ Hz; iintro Hz
    iapply (wp_load_rect 𝒱₀ (c : Thread nD τ) (some (n + 1)) E (m := M.b) (r := rB1 σ.w.p1) (Finset.subset_univ _)) $$ Hb; iintro Hb
    iapply (wp_load_rect 𝒱₀ (c : Thread nD τ) (some (n + 1)) E (m := M.e) (r := slot0) (Finset.subset_univ _)) $$ He; iintro He
    iapply (wp_store 𝒱₀ (c : Thread nD τ) (some (n + 1)) E (m := M.e) (r := slot0) (Mk := Finset.univ) (Finset.subset_univ _)) $$ He; iintro He
    iapply (wp_load_rect 𝒱₀ (c : Thread nD τ) (some (n + 1)) E (m := M.s) (r := slot0) (Finset.subset_univ _)) $$ Hs; iintro Hs
    iapply (wp_store 𝒱₀ (c : Thread nD τ) (some (n + 1)) E (m := M.s) (r := slot0) (Mk := Finset.univ) (Finset.subset_univ _)) $$ Hs; iintro Hs
    iapply (wp_assume 𝒱₀ (c : Thread nD τ) (some (n + 1)) E (chk8_of σ.w.p1 σ.w.n1 _))
    iapply (wp_load_rect 𝒱₀ (c : Thread nD τ) (some (n + 1)) E (m := M.k) (r := rK σ.w.p0) (Finset.subset_univ _)) $$ Hk; iintro Hk
    iapply (wp_load_rect 𝒱₀ (c : Thread nD τ) (some (n + 1)) E (m := M.q) (r := rQ0 σ.w.p0) (Finset.subset_univ _)) $$ Hq; iintro Hq
    iapply (wp_load_rect 𝒱₀ (c : Thread nD τ) (some (n + 1)) E (m := M.q) (r := rQ1 σ.w.p0) (Finset.subset_univ _)) $$ Hq; iintro Hq
    iapply (wp_load_rect 𝒱₀ (c : Thread nD τ) (some (n + 1)) E (m := M.z) (r := slot0) (Finset.subset_univ _)) $$ Hz; iintro Hz
    iapply (wp_store 𝒱₀ (c : Thread nD τ) (some (n + 1)) E (m := M.z) (r := slot0) (Mk := Finset.univ) (Finset.subset_univ _)) $$ Hz; iintro Hz
    iapply (wp_load_rect 𝒱₀ (c : Thread nD τ) (some (n + 1)) E (m := M.a) (r := slotA0) (Finset.subset_univ _)) $$ Ha; iintro Ha
    iapply (wp_load_rect 𝒱₀ (c : Thread nD τ) (some (n + 1)) E (m := M.v) (r := rV0' σ.w.p2) (Finset.subset_univ _)) $$ Hv; iintro Hv
    iapply (wp_load_rect 𝒱₀ (c : Thread nD τ) (some (n + 1)) E (m := M.v) (r := rV1' σ.w.p2) (Finset.subset_univ _)) $$ Hv; iintro Hv
    iapply (wp_load_rect 𝒱₀ (c : Thread nD τ) (some (n + 1)) E (m := M.o) (r := rO0 σ.w.p2) (Finset.subset_univ _)) $$ Ho; iintro Ho
    iapply (wp_store 𝒱₀ (c : Thread nD τ) (some (n + 1)) E (m := M.o) (r := rO0 σ.w.p2) (Mk := Finset.univ) (Finset.subset_univ _)) $$ Ho; iintro Ho
    iapply (wp_load_rect 𝒱₀ (c : Thread nD τ) (some (n + 1)) E (m := M.s) (r := slot0) (Finset.subset_univ _)) $$ Hs; iintro Hs
    iapply (wp_load_rect 𝒱₀ (c : Thread nD τ) (some (n + 1)) E (m := M.t) (r := whT) (Finset.subset_univ _)) $$ Ht; iintro Ht
    iapply (wp_load_rect 𝒱₀ (c : Thread nD τ) (some (n + 1)) E (m := M.e) (r := slot0) (Finset.subset_univ _)) $$ He; iintro He
    iapply (wp_load_rect 𝒱₀ (c : Thread nD τ) (some (n + 1)) E (m := M.a) (r := slotA1) (Finset.subset_univ _)) $$ Ha; iintro Ha
    iapply (wp_store 𝒱₀ (c : Thread nD τ) (some (n + 1)) E (m := M.a) (r := slotA1) (Mk := Finset.univ) (Finset.subset_univ _)) $$ Ha; iintro Ha
    iapply (wp_load_rect 𝒱₀ (c : Thread nD τ) (some (n + 1)) E (m := M.z) (r := slot0) (Finset.subset_univ _)) $$ Hz; iintro Hz
    iapply (wp_load_rect 𝒱₀ (c : Thread nD τ) (some (n + 1)) E (m := M.b) (r := rB0 σ.w.p0) (Finset.subset_univ _)) $$ Hb; iintro Hb
    iapply (wp_load_rect 𝒱₀ (c : Thread nD τ) (some (n + 1)) E (m := M.e) (r := slot1) (Finset.subset_univ _)) $$ He; iintro He
    iapply (wp_store 𝒱₀ (c : Thread nD τ) (some (n + 1)) E (m := M.e) (r := slot1) (Mk := Finset.univ) (Finset.subset_univ _)) $$ He; iintro He
    iapply (wp_load_rect 𝒱₀ (c : Thread nD τ) (some (n + 1)) E (m := M.s) (r := slot1) (Finset.subset_univ _)) $$ Hs; iintro Hs
    iapply (wp_store 𝒱₀ (c : Thread nD τ) (some (n + 1)) E (m := M.s) (r := slot1) (Mk := Finset.univ) (Finset.subset_univ _)) $$ Hs; iintro Hs
    iapply (wp_load_rect 𝒱₀ (c : Thread nD τ) (some (n + 1)) E (m := M.k) (r := rKn σ.w.p1 σ.w.n1 (fl1 I σ)) (Finset.subset_univ _)) $$ Hk; iintro Hk
    iapply (wp_load_rect 𝒱₀ (c : Thread nD τ) (some (n + 1)) E (m := M.q) (r := rQn0 σ.w.p1 σ.w.n1 (fl1 I σ)) (Finset.subset_univ _)) $$ Hq; iintro Hq
    iapply (wp_load_rect 𝒱₀ (c : Thread nD τ) (some (n + 1)) E (m := M.q) (r := rQn1 σ.w.p1 σ.w.n1 (fl1 I σ)) (Finset.subset_univ _)) $$ Hq; iintro Hq
    iapply (wp_load_rect 𝒱₀ (c : Thread nD τ) (some (n + 1)) E (m := M.z) (r := slot1) (Finset.subset_univ _)) $$ Hz; iintro Hz
    iapply (wp_store 𝒱₀ (c : Thread nD τ) (some (n + 1)) E (m := M.z) (r := slot1) (Mk := Finset.univ) (Finset.subset_univ _)) $$ Hz; iintro Hz
    iapply (wp_call_spec 𝒱₀ (c : Thread nD τ) (some (n + 1)) E (spec c M I n (pass I σ)) n
      (fun u hu => by cases hu; exact Nat.lt_succ_self n)
      (ih (pass I σ) hl _ _ _ _ _ _ _ _ _ _ _ _ _ _ _ ⟨(next_words σ.w.p0 σ.w.p0 _).1, (next_words σ.w.p0 σ.w.p0 _).2.1, (next_words σ.w.p0 σ.w.p0 _).2.2,
        (next_words σ.w.p1 σ.w.n1 _).1, (next_words σ.w.p1 σ.w.n1 _).2.1, (next_words σ.w.p1 σ.w.n1 _).2.2,
        (next_words σ.w.p1 σ.w.n1 _).1, (next_words σ.w.p1 σ.w.n1 _).2.1, (next_words σ.w.p1 σ.w.n1 _).2.2, rfl, rfl, rfl, rfl, rfl, rfl⟩))
    rw [spec_apply]; unfold held
    isplitl [Hq Hk Hv Ht Hb Ho Hz Hs He Ha]
    · isplitl [Hq]; · iexact Hq
      isplitl [Hk]; · iexact Hk
      isplitl [Hv]; · iexact Hv
      isplitl [Ht]; · iexact Ht
      isplitl [Hb]; · iexact Hb
      isplitl [Ho]; · iexact Ho
      isplitl [Hz]; · iexact Hz
      isplitl [Hs]; · iexact Hs
      isplitl [He]; · iexact He
      iexact Ha
    iintro %r H
    rw [wp_ret]; imodintro
    iapply HK
    iexact H

end Label

end Cert.Proof.PI

end
-- ==== Proof.PI.Body.lean ====
/- The attention call's whole body: it clears the four scratch buffers and enters the loop, which takes every buffer
   from that start to where its passes end. -/
module

public import proofs.«01_k».proof.Proof.PI.Loop
public import proofs.«01_k».proof.Proof.Gen.KernelIdeal.Launch
public import proofs.«01_k».proof.Proof.Gen.KernelIdeal.Points
public import Idealize.ShloMosaic.Lib.Claim

@[expose] public section

set_option maxRecDepth 16384

noncomputable section

namespace Cert.Proof.PI

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Where the loop starts -/

abbrev whZ : Rect S2x512x256 := Rect.unit ![0, 0, 0] S2x512x256.size inb_S2x512x256_S2x512x256_0_0_0
abbrev whA : Rect S2x256x512 := Rect.unit ![0, 0, 0] S2x256x512.size inb_S2x256x512_S2x256x512_0_0_0

/-- The items at first: lane 0 about to begin, lane 1 one pass behind, nothing else in flight. -/
def sched0 : Sched := ⟨⟨0, 0, true⟩, ⟨1, 1, true⟩, ⟨0, 0, false⟩, ⟨0, 0, false⟩, ⟨0, 0, false⟩⟩

/-- The state the loop is entered at, over whatever the buffers held. -/
def start (M : Mems) (z : Cont F M.z) (s : Cont F M.s) (e : Cont F M.e) (a : Cont F M.a) (o : Cont F M.o) : St F M where
  w := sched0
  c0 := k0_pay5
  c1 := k0_pay5
  a0 := k0_pay6
  a1 := k0_pay6
  z := wr M.z whZ z k0_pay1
  s := wr M.s whZ s k0_pay2
  e := wr M.e whZ e k0_pay3
  a := wr M.a whA a k0_pay4
  o := o

/-- The state the loop ends at. -/
def finish {M : Mems} (I : Ins F M) (z : Cont F M.z) (s : Cont F M.s) (e : Cont F M.e) (a : Cont F M.a) (o : Cont F M.o) : St F M :=
  run I sched0.μ (start M z s e a o)

theorem finish_done {M : Mems} (I : Ins F M) (z : Cont F M.z) (s : Cont F M.s) (e : Cont F M.e) (a : Cont F M.a) (o : Cont F M.o) :
    (finish I z s e a o).w.live = false := run_done I _ _ (le_of_eq rfl)

set_option maxHeartbeats 1000000 in
/-- The body, on whole memrefs at any contents, runs to the continuation holding them as the loop leaves them. -/
theorem body_run (c : Dev nD) (i : grid0.Coords) (M : Mems) (I : Ins F M)
    (z : Cont F M.z) (s : Cont F M.s) (e : Cont F M.e) (a : Cont F M.a) (o : Cont F M.o) (E : Set ℕ) (K : PUnit → sProp 𝕄) :
    iprop((M.q.view.loc (c : Thread nD τ) ↦{fullShare} I.q) ∗ (M.k.view.loc (c : Thread nD τ) ↦{fullShare} I.k)
      ∗ (M.v.view.loc (c : Thread nD τ) ↦{fullShare} I.v) ∗ (M.t.view.loc (c : Thread nD τ) ↦{fullShare} I.t)
      ∗ (M.b.view.loc (c : Thread nD τ) ↦{fullShare} I.b) ∗ (M.o.view.loc (c : Thread nD τ) ↦{fullShare} o)
      ∗ (M.z.view.loc (c : Thread nD τ) ↦{fullShare} z) ∗ (M.s.view.loc (c : Thread nD τ) ↦{fullShare} s)
      ∗ (M.e.view.loc (c : Thread nD τ) ↦{fullShare} e) ∗ (M.a.view.loc (c : Thread nD τ) ↦{fullShare} a)
      ∗ (held c M I (finish I z s e a o) -∗ K ⟨⟩))
    ⊢ wp frame (wpE (defs₀ (F := F)) 𝒱₀ (c : Thread nD τ) none) E
        (cc0_attn i M.q M.hq M.k M.hk M.v M.hv M.t M.ht M.b M.hb M.o M.ho M.z M.hz M.s M.hs M.e M.he M.a M.ha) K := by
  simp only [cc0_attn_eq_skeleton]; unfold cc0_attn_skel
  simp only [Prog.lift, Prog.bind_op, Prog.bind_ret, Prog.pure_eq_ret]
  iintro ⟨Hq, Hk, Hv, Ht, Hb, Ho, Hz, Hs, He, Ha, HK⟩
  iapply (wp_load_rect 𝒱₀ (c : Thread nD τ) none E (m := M.z) (r := whZ) (Finset.subset_univ _)) $$ Hz; iintro Hz
  iapply (wp_store 𝒱₀ (c : Thread nD τ) none E (m := M.z) (r := whZ) (Mk := Finset.univ) (Finset.subset_univ _)) $$ Hz; iintro Hz
  iapply (wp_load_rect 𝒱₀ (c : Thread nD τ) none E (m := M.s) (r := whZ) (Finset.subset_univ _)) $$ Hs; iintro Hs
  iapply (wp_store 𝒱₀ (c : Thread nD τ) none E (m := M.s) (r := whZ) (Mk := Finset.univ) (Finset.subset_univ _)) $$ Hs; iintro Hs
  iapply (wp_load_rect 𝒱₀ (c : Thread nD τ) none E (m := M.e) (r := whZ) (Finset.subset_univ _)) $$ He; iintro He
  iapply (wp_store 𝒱₀ (c : Thread nD τ) none E (m := M.e) (r := whZ) (Mk := Finset.univ) (Finset.subset_univ _)) $$ He; iintro He
  iapply (wp_load_rect 𝒱₀ (c : Thread nD τ) none E (m := M.a) (r := whA) (Finset.subset_univ _)) $$ Ha; iintro Ha
  iapply (wp_store 𝒱₀ (c : Thread nD τ) none E (m := M.a) (r := whA) (Mk := Finset.univ) (Finset.subset_univ _)) $$ Ha; iintro Ha
  iapply (wp_call_spec 𝒱₀ (c : Thread nD τ) none E (spec c M I sched0.μ (start M z s e a o)) sched0.μ
    (fun u hu => nomatch hu)
    (spec_le c i M I E sched0.μ (start M z s e a o) (finish_done I z s e a o) _ _ _ _ _ _ _ _ _ _ _ _ _ _ _
      ⟨rfl, rfl, rfl, rfl, rfl, rfl, rfl, rfl, rfl, rfl, rfl, rfl, rfl, rfl, rfl⟩))
  rw [spec_apply]; unfold held
  isplitl [Hq Hk Hv Ht Hb Ho Hz Hs He Ha]
  · isplitl [Hq]; · iexact Hq
    isplitl [Hk]; · iexact Hk
    isplitl [Hv]; · iexact Hv
    isplitl [Ht]; · iexact Ht
    isplitl [Hb]; · iexact Hb
    isplitl [Ho]; · iexact Ho
    isplitl [Hz]; · iexact Hz
    isplitl [Hs]; · iexact Hs
    isplitl [He]; · iexact He
    iexact Ha
  iintro %r H
  rw [wp_ret]; imodintro
  iapply HK
  iexact H

/-- The input blocks at given values. -/
def Ins.of (M : Mems) (xq : Vec F S1x2x8192x128 .bf16) (xk : Vec F S1x8192x128 .bf16) (xv : Vec F S1x2x8192x128 .bf16)
    (xt : Vec F S256x256 .bf16) (xb : Vec F S2x512x256 .f32) : Ins F M :=
  ⟨M.hq.unread xq, M.hk.unread xk, M.hv.unread xv, M.ht.unread xt, M.hb.unread xb⟩

set_option maxHeartbeats 1200000 in
/-- The same with every memref owned at its value: the inputs end as they were, the output block as the loop leaves it
    from some contents, the scratch at something. -/
theorem body_owns (c : Dev nD) (i : grid0.Coords) (M : Mems) (xq : Vec F S1x2x8192x128 .bf16) (xk : Vec F S1x8192x128 .bf16)
    (xv : Vec F S1x2x8192x128 .bf16) (xt : Vec F S256x256 .bf16) (xb : Vec F S2x512x256 .f32) (E : Set ℕ) (K : PUnit → sProp 𝕄) :
    iprop(owns (c : Thread nD τ) M.q fullShare xq ∗ owns (c : Thread nD τ) M.k fullShare xk ∗ owns (c : Thread nD τ) M.v fullShare xv ∗ owns (c : Thread nD τ) M.t fullShare xt ∗ owns (c : Thread nD τ) M.b fullShare xb ∗ (∃ d, owns (c : Thread nD τ) M.o fullShare d) ∗ (∃ d, owns (c : Thread nD τ) M.z fullShare d) ∗ (∃ d, owns (c : Thread nD τ) M.s fullShare d) ∗ (∃ d, owns (c : Thread nD τ) M.e fullShare d) ∗ (∃ d, owns (c : Thread nD τ) M.a fullShare d)
      ∗ (∀ z s e a o, iprop(owns (c : Thread nD τ) M.q fullShare xq ∗ owns (c : Thread nD τ) M.k fullShare xk ∗ owns (c : Thread nD τ) M.v fullShare xv ∗ owns (c : Thread nD τ) M.t fullShare xt ∗ owns (c : Thread nD τ) M.b fullShare xb
          ∗ owns (c : Thread nD τ) M.o fullShare (M.o.view.read (Elt F) (finish (Ins.of M xq xk xv xt xb) z s e a o).o)
          ∗ (∃ d, owns (c : Thread nD τ) M.z fullShare d) ∗ (∃ d, owns (c : Thread nD τ) M.s fullShare d) ∗ (∃ d, owns (c : Thread nD τ) M.e fullShare d) ∗ (∃ d, owns (c : Thread nD τ) M.a fullShare d)) -∗ K ⟨⟩))
    ⊢ wp frame (wpE (defs₀ (F := F)) 𝒱₀ (c : Thread nD τ) none) E
        (cc0_attn i M.q M.hq M.k M.hk M.v M.hv M.t M.ht M.b M.hb M.o M.ho M.z M.hz M.s M.hs M.e M.he M.a M.ha) K := by
  unfold owns
  rw [M.hq.set_eq_univ, M.hk.set_eq_univ, M.hv.set_eq_univ, M.ht.set_eq_univ, M.hb.set_eq_univ, M.ho.set_eq_univ, M.hz.set_eq_univ,
    M.hs.set_eq_univ, M.he.set_eq_univ, M.ha.set_eq_univ]
  iintro ⟨⟨%fq, %hfq, Hq⟩, ⟨%fk, %hfk, Hk⟩, ⟨%fv, %hfv, Hv⟩, ⟨%ft, %hft, Ht⟩, ⟨%fb, %hfb, Hb⟩, ⟨%d5, %o, -, Ho⟩, ⟨%dz, %z, -, Hz⟩, ⟨%ds, %s, -, Hs⟩, ⟨%de, %e, -, He⟩, ⟨%da, %a, -, Ha⟩, HK⟩
  obtain rfl := M.hq.eq_unread hfq
  obtain rfl := M.hk.eq_unread hfk
  obtain rfl := M.hv.eq_unread hfv
  obtain rfl := M.ht.eq_unread hft
  obtain rfl := M.hb.eq_unread hfb
  iapply (body_run c i M (Ins.of M xq xk xv xt xb) z s e a o E K)
  isplitl [Hq]; · iexact Hq
  isplitl [Hk]; · iexact Hk
  isplitl [Hv]; · iexact Hv
  isplitl [Ht]; · iexact Ht
  isplitl [Hb]; · iexact Hb
  isplitl [Ho]; · iexact Ho
  isplitl [Hz]; · iexact Hz
  isplitl [Hs]; · iexact Hs
  isplitl [He]; · iexact He
  isplitl [Ha]; · iexact Ha
  unfold held
  iintro ⟨Hq, Hk, Hv, Ht, Hb, Ho, Hz, Hs, He, Ha⟩
  iapply HK $$ %z %s %e %a %o
  isplitl [Hq]
  · iexists _; isplitr; · ipureintro; exact M.hq.read_unread _
    iexact Hq
  isplitl [Hk]
  · iexists _; isplitr; · ipureintro; exact M.hk.read_unread _
    iexact Hk
  isplitl [Hv]
  · iexists _; isplitr; · ipureintro; exact M.hv.read_unread _
    iexact Hv
  isplitl [Ht]
  · iexists _; isplitr; · ipureintro; exact M.ht.read_unread _
    iexact Ht
  isplitl [Hb]
  · iexists _; isplitr; · ipureintro; exact M.hb.read_unread _
    iexact Hb
  isplitl [Ho]
  · iexists _; isplitr; · ipureintro; rfl
    iexact Ho
  isplitl [Hz]
  · iexists (M.z.view.read (Elt F) (finish (Ins.of M xq xk xv xt xb) z s e a o).z); iexists _; isplitr; · ipureintro; rfl
    iexact Hz
  isplitl [Hs]
  · iexists (M.s.view.read (Elt F) (finish (Ins.of M xq xk xv xt xb) z s e a o).s); iexists _; isplitr; · ipureintro; rfl
    iexact Hs
  isplitl [He]
  · iexists (M.e.view.read (Elt F) (finish (Ins.of M xq xk xv xt xb) z s e a o).e); iexists _; isplitr; · ipureintro; rfl
    iexact He
  iexists (M.a.view.read (Elt F) (finish (Ins.of M xq xk xv xt xb) z s e a o).a); iexists _; isplitr; · ipureintro; rfl
  iexact Ha

end Cert.Proof.PI

end
-- ==== Proof.PI.Frame.lean ====
/- The attention call's launch: what the host operations leave before it, what each window's staging buffer holds, and
   the frame: the run ends, the arguments are unchanged, every semaphore is back at zero. -/
module

public import proofs.«01_k».proof.Proof.PI.Body

@[expose] public section

set_option maxRecDepth 16384

noncomputable section

namespace Cert.Proof.PI

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the call, stretch by stretch. -/
abbrev hostOps : List (List (HloOp τ sig (Elt F))) := [hostOps0, hostOps0_1, hostOps0_2]

/-- Core `c`'s buffers when the region is entered. -/
abbrev V (c : Dev nD) (b : Ref sig .tc) : Buf (Elt F) ((c : Thread nD τ).loc b) := StableHlo.after hostOps.flatten (fun b => m (c, b)) b

theorem hostOps_fresh : (hostOps : List (List (HloOp τ sig (Elt F)))).Forall fun ops => ops.Forall fun op => op.fresh = ∅ := by
  simp only [List.Forall]; repeat' constructor

set_option maxHeartbeats 800000 in
/-- @main up to the region: the host operations, then the region. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOps ⟨hostOps0_sub, hostOps0_1_sub, hostOps0_2_sub⟩ hostOps_fresh main_chain

/-- No host operation writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block of its array at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Each input's staging buffer holds its block at every point, fetched there or not. -/
theorem before_0 {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body at a point -/

/-- The memrefs the body is called on at point `t`. -/
abbrev memsAt (t : Fin (cfg0 (F := F)).N) : Mems where
  q := win0_0.stage ((cfg0 (F := F)).slots t 0)
  hq := hstage0_0 (((cfg0 (F := F)).slots t 0).cast nbuf0_0)
  k := win0_1.stage ((cfg0 (F := F)).slots t 1)
  hk := hstage0_1 (((cfg0 (F := F)).slots t 1).cast nbuf0_1)
  v := win0_2.stage ((cfg0 (F := F)).slots t 2)
  hv := hstage0_2 (((cfg0 (F := F)).slots t 2).cast nbuf0_2)
  t := win0_3.stage ((cfg0 (F := F)).slots t 3)
  ht := hstage0_3 (((cfg0 (F := F)).slots t 3).cast nbuf0_3)
  b := win0_4.stage ((cfg0 (F := F)).slots t 4)
  hb := hstage0_4 (((cfg0 (F := F)).slots t 4).cast nbuf0_4)
  o := win0_5.stage ((cfg0 (F := F)).slots t 5)
  ho := hstage0_5 (((cfg0 (F := F)).slots t 5).cast nbuf0_5)
  z := Memref.whole cc0_scratch0
  hz := Memref.isWhole_whole _
  s := Memref.whole cc0_scratch1
  hs := Memref.isWhole_whole _
  e := Memref.whole cc0_scratch2
  he := Memref.isWhole_whole _
  a := Memref.whole cc0_scratch3
  ha := Memref.isWhole_whole _

/-- The scratch buffers and the generator register, each at some contents. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
        ∗ (∃ r, prngReg c r)) := by
  unfold Pipeline.ΦA; rw [scopedRest0_eq]; simp only [owns_whole]; try rfl

/-- The body table's row at point `t`'s slots is the body. -/
theorem row_at (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-! ## The frame, the output block forgotten -/

/-- Nothing is named of the output block here. -/
def forgets : Fin 6 → Bool := fun w => w.val == 5

/-- The pipeline's proof data: the arrays as the region finds them, each input block left in place. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0 (F := F)) ⟨5, h⟩ t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl

/-- What the body is called with at point `t`, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare d))

def bodyPost (c : Dev nD) (t : Fin (cfg0 (F := F)).N) : sProp 𝕄 :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ (∃ d, owns (c : Thread nD τ) (win0_5.stage ((cfg0 (F := F)).slots t 5)) fullShare d))

set_option maxHeartbeats 1200000 in
/-- The body at any point meets its two conditions. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost
  simp only [before_0 m (dats m 0 c) (A_eq m c 0) (after_0 m c), before_1 m (dats m 0 c) (A_eq m c 1) (after_1 m c), before_2 m (dats m 0 c) (A_eq m c 2) (after_2 m c), before_3 m (dats m 0 c) (A_eq m c 3) (after_3 m c), before_4 m (dats m 0 c) (A_eq m c 4) (after_4 m c)]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA_eq]
  iintro ⟨⟨⟨Hz, Hs, He, Ha⟩, Hg⟩, Howe, ⟨%d0, H0⟩, ⟨%d1, H1⟩, ⟨%d2, H2⟩, ⟨%d3, H3⟩, ⟨%d4, H4⟩, ⟨%d5, H5⟩⟩
  iapply (body_owns c (grid0.coords t) (memsAt t) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [Hz]; · iexact Hz
  isplitl [Hs]; · iexact Hs
  isplitl [He]; · iexact He
  isplitl [Ha]; · iexact Ha
  iintro %z %s %e %a %o ⟨H0, H1, H2, H3, H4, H5, Hz, Hs, He, Ha⟩
  isplitr [Howe H0 H1 H2 H3 H4 H5]
  · isplitr [Hg]
    · isplitl [Hz]; · iexact Hz
      isplitl [Hs]; · iexact Hs
      isplitl [He]; · iexact He
      iexact Ha
    iexact Hg
  isplitl [Howe]; · iexact Howe
  isplitl [H0]; · iexact H0
  isplitl [H1]; · iexact H1
  isplitl [H2]; · iexact H2
  isplitl [H3]; · iexact H3
  isplitl [H4]; · iexact H4
  iexists _; iexact H5

/-- The body obligation, at every point. -/
theorem body_obligation (c : Dev nD) : BodyObligation (dats (F := F) m 0 c) (defs₀ (F := F)) 𝒱₀ () Set.univ forgets := fun t => by
  rw [bigSep_W0, bigSep_W0, row_at]
  exact triple_restated (sound_body m c t) rfl .rfl fun _ => .rfl

set_option backward.isDefEq.respectTransparency.types false in
/-- The launch: the run ends at the pipeline's frame with every semaphore at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ 𝒱₀ forgets m ρ main
    (hbody := fun c => (body_obligation m c).loose) (hshare := fun c => (dats m 0 c).share_full fun _ => rfl)
    (howed := fun _ _ => rfl) (V := V m) (hmain := hmain m) (hA := A_eq m) (hΦ := fun _ _ => rfl)

/-- The frame: from any memory the run ends with the arguments unchanged and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c))⟩, h.2⟩) (run_main m ρ)

end Cert.Proof.PI

end
-- ==== Proof.Attn.Trace.lean ====
/- The order in which the attention call's loop takes its items when no sweep stops early: after each pass the five
   items in flight and the query blocks whose rows of the output are final. Everything here is a finite check. -/
module

public import proofs.«01_k».proof.Proof.Attn.Items

@[expose] public section

namespace Cert.Attn

/-- The items in flight and the query blocks that are done. -/
structure Tr where
  w : Sched
  d : List (Fin 32)

namespace Tr

/-- An item that ends its query block's sweep finishes the block's rows. -/
def fin (x : Item) : List (Fin 32) := if x.v = true ∧ x.j.val = 0 then [x.i] else []

/-- One pass. -/
def step (s : Tr) : Tr := ⟨s.w.step false false, fin s.w.p2 ++ (fin s.w.p3 ++ s.d)⟩

/-- What the loop starts from. -/
def init : Tr := ⟨⟨⟨0, 0, true⟩, ⟨1, 1, true⟩, ⟨0, 0, false⟩, ⟨0, 0, false⟩, ⟨0, 0, false⟩⟩, []⟩

/-- `y` is the item that follows `x` within a query block. -/
def follows (x y : Item) : Bool := !(y.v && y.j != y.i) || (x.v && x.i == y.i && x.j.val == y.j.val + 1)

/-- The facts about a pass's items that the invariant of the loop's data needs. -/
def good (s : Tr) : Bool :=
  let w := s.w
  let d' := s.step.d
  follows w.p2 w.p0 && follows w.p3 w.p1
    && follows w.p0 (w.p0.next false w.p0) && follows w.p1 (w.p1.next false w.n1)
    && (!(w.p2.v) || w.p2.j.val ≤ w.p2.i.val) && (!(w.p3.v) || w.p3.j.val ≤ w.p3.i.val)
    && (!(w.p0.v) || w.p0.j.val ≤ w.p0.i.val) && (!(w.p1.v) || w.p1.j.val ≤ w.p1.i.val)
    && (!(!w.p0.v && d'.contains w.p0.i)
        || (w.p2.v && w.p2.j.val == 0 && w.p2.i == w.p0.i) || (!w.p2.v && w.p2.i == w.p0.i && s.d.contains w.p2.i))
    && (!(!w.p1.v && d'.contains w.p1.i)
        || (w.p3.v && w.p3.j.val == 0 && w.p3.i == w.p1.i) || (!w.p3.v && w.p3.i == w.p1.i && s.d.contains w.p3.i))
    && (!(d'.contains w.p2.i) || (w.p2.v && w.p2.j.val == 0) || (!w.p2.v && s.d.contains w.p2.i))
    && (!(d'.contains w.p3.i) || w.p3.i == w.p2.i || (w.p3.v && w.p3.j.val == 0) || (!w.p3.v && s.d.contains w.p3.i))

/-- From `s` on every pass's items are as the invariant needs them, until none is in flight and every block is done. -/
def runs : ℕ → Tr → Bool
  | 0, _ => false
  | n + 1, s => if s.w.live then good s && runs n s.step else (List.finRange 32).all fun i => s.d.contains i

theorem runs_init : runs 300 init = true := by decide +kernel

end Tr

end Cert.Attn
-- ==== Proof.PI.Stream.lean ====
/- What the attention call's loop computes when no sweep stops early: for each item its logits, its exponents and
   kept-mass logarithms, its weights, the carry it starts from and the accumulator it leaves, spelt over the kernel's
   own payloads; and that at the loop's end the rows of every query block hold the accumulator of its whole sweep. -/
module

public import proofs.«01_k».proof.Proof.Attn.Trace
public import proofs.«01_k».proof.Proof.PI.Body

@[expose] public section

set_option maxRecDepth 16384

noncomputable section

namespace Cert.Proof.PI

open Cert.KernelIdeal Cert.KernelIdeal.Gen Cert.Attn
open Idealize.ShloMosaic

variable {F : FTy → Type} [FloatOps F] [Named F]

/-! ## Reading what was stored -/

theorem rd_wr_same {s : Shape} {t : EltTy} (m : Memref sig .tc .vmem s t) (r : Rect s) (f : Cont F m)
    (x : r.shape.Idx → Elt F t) : rd m r (wr m r f x) = x := View.read_write_univ (v := m.access r) f x

theorem rd_wr_disj {s : Shape} {t : EltTy} (m : Memref sig .tc .vmem s t) {r r' : Rect s} (h : Disjoint r.set r'.set)
    (f : Cont F m) (x : r'.shape.Idx → Elt F t) : rd m r (wr m r' f x) = rd m r f := by
  funext y
  refine View.read_slice_write_of_not_mem (v := m.view) r' f x Finset.univ (y := r.emb y) fun hm => ?_
  rw [Rect.map_emb_univ] at hm
  exact Finset.disjoint_left.mp h (by rw [← Rect.map_emb_univ]; exact Finset.mem_map_of_mem _ (Finset.mem_univ y)) hm

theorem rd_unit_congr {s : Shape} {t : EltTy} (m : Memref sig .tc .vmem s t) {off off' size : Fin s.rank → ℕ} {inb inb'}
    (h : off = off') (f : Cont F m) : rd m (Rect.unit off size inb) f = rd m (Rect.unit off' size inb') f := by
  subst h; rfl

theorem slots_disj : Disjoint slot1.set slot0.set := Rect.unit_disjoint (0 : Fin 3) (.inr (by decide))
theorem slots_disj' : Disjoint slot0.set slot1.set := Rect.unit_disjoint (0 : Fin 3) (.inl (by decide))
theorem slotsA_disj : Disjoint slotA0.set slotA1.set := Rect.unit_disjoint (0 : Fin 3) (.inl (by decide))
theorem slotsA_disj' : Disjoint slotA1.set slotA0.set := Rect.unit_disjoint (0 : Fin 3) (.inr (by decide))

/-- The rows of a query block in the output. -/
abbrev rOut (i : Fin 32) : Rect S1x8192x128 := rO1 ⟨i, 0, true⟩

theorem rows_disj {i i' : Fin 32} (h : i ≠ i') : Disjoint (rOut i).set (rOut i').set := by
  refine Rect.unit_disjoint (1 : Fin 3) ?_
  have e : ∀ k : Fin 32, k0_off3 (BitVec.ofNat 32 k.val) 1 = 256 * k.val := row_of
  show k0_off3 (BitVec.ofNat 32 i.val) 1 + 256 ≤ k0_off3 (BitVec.ofNat 32 i'.val) 1
    ∨ k0_off3 (BitVec.ofNat 32 i'.val) 1 + 256 ≤ k0_off3 (BitVec.ofNat 32 i.val) 1
  rw [e, e]
  have := i.isLt; have := i'.isLt
  have : i.val ≠ i'.val := fun hh => h (Fin.ext hh)
  omega

section Items
variable {M : Mems} (I : Ins F M)

/-! ## An item's values -/

/-- Its logits, -/
def zOf (x : Item) : Vec F S1x512x256 .f32 :=
  k0_pay21 (k0_pay20 (rd M.k (rK x) I.k)) (rd M.q (rQ0 x) I.q) (rd M.q (rQ1 x) I.q)
/-- its mask, -/
def bOf (x : Item) : Vec F S1x512x256 .f32 := rd M.b (rB0 x) I.b
/-- its kept-mass logarithms negated, -/
def spOf (x : Item) : FVec F S512x256 .f32 := k0_pay13 (zOf I x) (bOf I x)

/-- The `n`-th item of query block `i`'s sweep. -/
def item (i : Fin 32) (n : ℕ) : Item := ⟨i, ⟨i.val - n, by omega⟩, true⟩

theorem item_eq {x : Item} (hv : x.v = true) (hj : x.j.val ≤ x.i.val) : item x.i (x.i.val - x.j.val) = x := by
  obtain ⟨i, j, v⟩ := x
  simp only at hv hj
  subst hv
  simp only [item, Item.mk.injEq, true_and, and_true]
  apply Fin.ext
  simp only
  omega

/-- the carry after `n` items of a sweep, -/
def cN (i : Fin 32) : ℕ → FVec F S512x1 .f32
  | 0 => k0_pay27
  | n + 1 => k0_pay18 (spOf I (item i n)) (k0_pay14 (item i n).wi (item i n).wj (cN i n))
def carry (x : Item) : FVec F S512x1 .f32 := cN I x.i (x.i.val - x.j.val)
/-- its exponents and the stored kept-mass logarithms, -/
def eOf (x : Item) : Vec F S1x512x256 .f32 := k0_pay15 x.wi x.wj (carry I x) (zOf I x) (bOf I x)
def sOf (x : Item) : Vec F S1x512x256 .bf16 := k0_pay17 (k0_pay16 (zOf I x) (bOf I x))
/-- its weights, -/
def wOf (x : Item) : Vec F S1x256x512 .bf16 := k0_pay11 (k0_pay10 (sOf I x) (rd M.t whT I.t)) (eOf I x)
/-- and an accumulator after its weighting. -/
def aft (x : Item) (a : FVec F S256x128 .f32) : FVec F S256x128 .f32 :=
  k0_pay8 x.wi x.wj x.wv a (wOf I x) (rd M.v (rV0 x) I.v) (rd M.v (rV1 x) I.v)
/-- The accumulator after `n` items of a sweep. -/
def aN (i : Fin 32) : ℕ → FVec F S256x128 .f32
  | 0 => k0_pay6
  | n + 1 => aft I (item i n) (aN i n)
def acc (x : Item) : FVec F S256x128 .f32 := aN I x.i (x.i.val - x.j.val)
/-- What the rows of a query block end at. -/
def outOf (i : Fin 32) : FVec F S1x256x128 .bf16 :=
  shapeCast S1x256x128 (truncf .bf16 (aN I i (i.val + 1)) bitsLt_bf16_f32) shapeCasts_S256x128_S1x256x128

theorem cmpi_self (b : BitVec 32) : Scalar.cmpi .eq b b = 1#1 := by simp [Scalar.cmpi, IntOp.cmpi]

theorem select_one {α : Type} (a b : α) : Scalar.select 1#1 a b = a := rfl
theorem select_zero {α : Type} (a b : α) : Scalar.select 0#1 a b = b := rfl

/-- A sweep's first item starts from no carry, -/
theorem pay14_first {x : Item} (h : x.j = x.i) (c c' : FVec F S512x1 .f32) : k0_pay14 x.wi x.wj c = k0_pay14 x.wi x.wj c' := by
  have e : Scalar.cmpi .eq x.wj x.wi = 1#1 := by rw [Item.wj, Item.wi, h]; exact cmpi_self _
  unfold k0_pay14
  simp only [e, select_one]

/-- and from no accumulator; -/
theorem aft_first {x : Item} (hv : x.v = true) (h : x.j = x.i) (a a' : FVec F S256x128 .f32) : aft I x a = aft I x a' := by
  have e : Scalar.cmpi .eq x.wj x.wi = 1#1 := by rw [Item.wj, Item.wi, h]; exact cmpi_self _
  have e' : Scalar.cmpi .eq x.wv 1#32 = 1#1 := by rw [Item.wv, hv]; exact cmpi_self _
  unfold aft k0_pay8
  simp only [e, e', select_one]

/-- no item leaves the accumulator alone. -/
theorem pay8_idle {x : Item} (hv : x.v = false) (a : FVec F S256x128 .f32) (w v0 v1) : k0_pay8 x.wi x.wj x.wv a w v0 v1 = a := by
  have e' : Scalar.cmpi .eq x.wv 1#32 = 0#1 := by rw [Item.wv, hv]; decide
  unfold k0_pay8
  simp only [e', select_zero]

theorem carry_next {x y : Item} (hf : Tr.follows x y = true) (hx : x.v = true → x.j.val ≤ x.i.val) (hy : y.v = true)
    (hne : y.j ≠ y.i) (c : FVec F S512x1 .f32) (hc : x.v = true → x.j ≠ x.i → c = carry I x) :
    x.v = true ∧ k0_pay18 (spOf I x) (k0_pay14 x.wi x.wj c) = carry I y := by
  have hf' : x.v = true ∧ x.i = y.i ∧ x.j.val = y.j.val + 1 := by simpa [Tr.follows, hy, hne, and_assoc] using hf
  obtain ⟨h1, h2, h3⟩ := hf'
  have hle := hx h1
  refine ⟨h1, ?_⟩
  have e : y.i.val - y.j.val = (x.i.val - x.j.val) + 1 := by rw [← h2]; omega
  rw [carry, e, ← h2, cN, item_eq h1 hle]
  by_cases hj : x.j = x.i
  · rw [pay14_first hj c (cN I x.i (x.i.val - x.j.val))]
  · rw [hc h1 hj, carry]

theorem aft_acc {x : Item} (hx : x.j.val ≤ x.i.val) (hv : x.v = true) (a : FVec F S256x128 .f32)
    (ha : x.j ≠ x.i → a = acc I x) : aft I x a = aN I x.i (x.i.val - x.j.val + 1) := by
  rw [aN, item_eq hv hx]
  by_cases hj : x.j = x.i
  · exact aft_first I hv hj _ _
  · rw [ha hj, acc]

theorem acc_next {x y : Item} (hf : Tr.follows x y = true) (hx : x.v = true → x.j.val ≤ x.i.val) (hy : y.v = true)
    (hne : y.j ≠ y.i) (a : FVec F S256x128 .f32) (ha : x.v = true → x.j ≠ x.i → a = acc I x) :
    x.v = true ∧ aft I x a = acc I y := by
  have hf' : x.v = true ∧ x.i = y.i ∧ x.j.val = y.j.val + 1 := by simpa [Tr.follows, hy, hne, and_assoc] using hf
  obtain ⟨h1, h2, h3⟩ := hf'
  have hle := hx h1
  refine ⟨h1, ?_⟩
  rw [aft_acc I hle h1 a (ha h1), acc, ← h2]
  congr 1
  rw [← h2] at *
  omega

/-! ## The invariant -/

/-- No carry is past the early-stop threshold. -/
def NoStop (F : FTy → Type) [FloatOps F] [Named F] : Prop :=
  ∀ x : F .f32, Scalar.cmpf .ogt x (Named.named κ "never" 0x43200000#32) = 0#1

/-- What the buffers, the carries and the accumulators hold of the items in flight, and the output of the blocks done. -/
structure Inv (s : Tr) (σ : St F M) : Prop where
  w : σ.w = s.w
  z : s.w.p1.v = true → rd M.z slot1 σ.z = zOf I s.w.p1
  e : s.w.p2.v = true → rd M.e slot1 σ.e = eOf I s.w.p2
  sb : s.w.p2.v = true → rd M.s slot1 σ.s = sOf I s.w.p2
  a : s.w.p3.v = true → rd M.a slotA1 σ.a = wOf I s.w.p3
  c0 : s.w.p0.v = true → s.w.p0.j ≠ s.w.p0.i → σ.c0 = carry I s.w.p0
  c1 : s.w.p1.v = true → s.w.p1.j ≠ s.w.p1.i → σ.c1 = carry I s.w.p1
  a0 : s.w.p2.v = true → s.w.p2.j ≠ s.w.p2.i → σ.a0 = acc I s.w.p2
  a1 : s.w.p3.v = true → s.w.p3.j ≠ s.w.p3.i → σ.a1 = acc I s.w.p3
  f0 : s.w.p2.v = false → s.w.p2.i ∈ s.d → σ.a0 = aN I s.w.p2.i (s.w.p2.i.val + 1)
  f1 : s.w.p3.v = false → s.w.p3.i ∈ s.d → σ.a1 = aN I s.w.p3.i (s.w.p3.i.val + 1)
  o : ∀ i ∈ s.d, rd M.o (rOut i) σ.o = outOf I i

/-- The blocks of an item, by its numbers, -/
theorem off5_eq (x : Item) : k0_off5 x.wj = ![0, 256 * x.j.val, 0] :=
  (show k0_off5 x.wj = ![0, row x.wj, 0] from rfl).trans (by rw [Item.wj, row_of])
theorem off6_eq (x : Item) : k0_off6 x.wi = ![0, 0, 256 * x.i.val, 0] :=
  (show k0_off6 x.wi = ![0, 0, row x.wi, 0] from rfl).trans (by rw [Item.wi, row_of])
theorem off7_eq (x : Item) : k0_off7 x.wi = ![0, 1, 256 * x.i.val, 0] :=
  (show k0_off7 x.wi = ![0, 1, row x.wi, 0] from rfl).trans (by rw [Item.wi, row_of])

/-- and the logits that a pass leaves of lane 1's next item. -/
theorem nextLogits (x p : Item) (b : BitVec 1) :
    k0_pay7 (rd M.k (rKn x p b) I.k) (rd M.q (rQn0 x p b) I.q) (rd M.q (rQn1 x p b) I.q) = zOf I (x.next (b == 1#1) p) := by
  have e1 : rd M.k (rKn x p b) I.k = rd M.k (rK (x.next (b == 1#1) p)) I.k :=
    rd_unit_congr M.k ((off12_eq x p b).trans (off5_eq _).symm) I.k
  have e2 : rd M.q (rQn0 x p b) I.q = rd M.q (rQ0 (x.next (b == 1#1) p)) I.q :=
    rd_unit_congr M.q ((off13_eq x p b).trans (off6_eq _).symm) I.q
  have e3 : rd M.q (rQn1 x p b) I.q = rd M.q (rQ1 (x.next (b == 1#1) p)) I.q :=
    rd_unit_congr M.q ((off14_eq x p b).trans (off7_eq _).symm) I.q
  show k0_pay21 (k0_pay20 (rd M.k (rKn x p b) I.k)) (rd M.q (rQn0 x p b) I.q) (rd M.q (rQn1 x p b) I.q) = _
  exact congr (congr (congrArg (fun k => k0_pay21 (k0_pay20 k)) e1) e2) e3

section Step
variable {I} {s : Tr} {σ : St F M} (hσ : Inv I s σ)
include hσ

theorem nz0_rd : rd M.z slot0 (nz0 I σ) = zOf I s.w.p0 := by rw [nz0, rd_wr_same, hσ.w, zOf]

theorem ne0_rd (hv : s.w.p1.v = true) : rd M.e slot0 (ne0 I σ) = eOf I s.w.p1 := by
  rw [ne0, rd_wr_same, zz1, hσ.z hv, bb1, hσ.w, eOf]
  unfold k0_pay15
  by_cases hj : s.w.p1.j = s.w.p1.i
  · rw [pay14_first hj σ.c1 (carry I s.w.p1)]; rfl
  · rw [hσ.c1 hv hj]; rfl

theorem ns0_rd (hv : s.w.p1.v = true) : rd M.s slot0 (ns0 I σ) = sOf I s.w.p1 := by
  rw [ns0, rd_wr_same, zz1, hσ.z hv, bb1, hσ.w, sOf]; rfl

theorem nw0_rd (hv : s.w.p2.v = true) : rd M.a slotA0 (nw0 I σ) = wOf I s.w.p2 := by
  rw [nw0, rd_wr_same, hσ.sb hv, hσ.e hv, wOf]

theorem nw1_rd (hv : s.w.p1.v = true) : rd M.a slotA1 (nw1 I σ) = wOf I s.w.p1 := by
  rw [nw1, rd_wr_same, ns0_rd hσ hv, ne0_rd hσ hv, wOf]; rfl

theorem ne1_rd (hv : s.w.p0.v = true) : rd M.e slot1 (ne1 I σ) = eOf I s.w.p0 := by
  rw [ne1, rd_wr_same, zz0, nz0_rd hσ, bb0, fs0, hσ.w, eOf]
  show k0_pay15 s.w.p0.wi s.w.p0.wj σ.c0 (zOf I s.w.p0) (bOf I s.w.p0) = _
  unfold k0_pay15
  by_cases hj : s.w.p0.j = s.w.p0.i
  · rw [pay14_first hj σ.c0 (carry I s.w.p0)]
  · rw [hσ.c0 hv hj]

theorem ns1_rd : rd M.s slot1 (ns1 I σ) = sOf I s.w.p0 := by
  rw [ns1, rd_wr_same, zz0, nz0_rd hσ, bb0, hσ.w, sOf]; rfl

theorem nc1_eq (hv : s.w.p1.v = true) : nc1 I σ = k0_pay18 (spOf I s.w.p1) (k0_pay14 s.w.p1.wi s.w.p1.wj σ.c1) := by
  rw [nc1, zz1, hσ.z hv, bb1, hσ.w]; rfl

theorem nc0_eq : nc0 I σ = k0_pay18 (spOf I s.w.p0) (k0_pay14 s.w.p0.wi s.w.p0.wj σ.c0) := by
  rw [nc0, zz0, nz0_rd hσ, bb0, fs0, hσ.w]; rfl

theorem na1_eq (hv : s.w.p3.v = true) : na1 I σ = aft I s.w.p3 σ.a1 := by
  rw [na1, hσ.a hv, hσ.w]; rfl

theorem na0_eq (hv : s.w.p2.v = true) : na0 I σ = aft I s.w.p2 σ.a0 := by
  rw [na0, nw0_rd hσ hv, hσ.w]; rfl

theorem na1_idle (hv : s.w.p3.v = false) : na1 I σ = σ.a1 := by
  rw [na1, hσ.w]; exact pay8_idle hv _ _ _ _

theorem na0_idle (hv : s.w.p2.v = false) : na0 I σ = σ.a0 := by
  rw [na0, hσ.w]; exact pay8_idle hv _ _ _ _

end Step

theorem mem_fin {x : Item} {i : Fin 32} : i ∈ Tr.fin x ↔ x.v = true ∧ x.j.val = 0 ∧ i = x.i := by
  unfold Tr.fin
  split <;> simp_all

/-- An item that is none of the schedule's stays, an item that ends its sweep leaves the block's final accumulator. -/
theorem final_of {x : Item} {d : List (Fin 32)} {a a' : FVec F S256x128 .f32} (hle : x.v = true → x.j.val ≤ x.i.val)
    (ha : x.v = true → x.j ≠ x.i → a = acc I x) (hv : x.v = true → a' = aft I x a) (hi : x.v = false → a' = a)
    (hf : x.v = false → x.i ∈ d → a = aN I x.i (x.i.val + 1))
    (h : (x.v = true ∧ x.j.val = 0) ∨ (x.v = false ∧ x.i ∈ d)) : a' = aN I x.i (x.i.val + 1) := by
  rcases h with ⟨h1, h2⟩ | ⟨h1, h2⟩
  · rw [hv h1, aft_acc I (hle h1) h1 a (ha h1), h2]; rfl
  · rw [hi h1, hf h1 h2]

set_option maxHeartbeats 1000000 in
/-- A pass keeps the invariant. -/
theorem inv_step {s : Tr} {σ : St F M} (hns : NoStop F) (hg : s.good = true) (hσ : Inv I s σ) : Inv I s.step (pass I σ) := by
  simp only [Tr.good, Bool.and_eq_true] at hg
  obtain ⟨⟨⟨⟨⟨⟨⟨⟨⟨⟨⟨g1, g2⟩, g3⟩, g4⟩, g5⟩, g6⟩, g7⟩, g8⟩, g9⟩, g10⟩, g11⟩, g12⟩ := hg
  have f1 : fl1 I σ = 0#1 := hns _
  have f0 : fl0 I σ = 0#1 := hns _
  have le2 : s.w.p2.v = true → s.w.p2.j.val ≤ s.w.p2.i.val := by intro h; simpa [h] using g5
  have le3 : s.w.p3.v = true → s.w.p3.j.val ≤ s.w.p3.i.val := by intro h; simpa [h] using g6
  have le0 : s.w.p0.v = true → s.w.p0.j.val ≤ s.w.p0.i.val := by intro h; simpa [h] using g7
  have le1 : s.w.p1.v = true → s.w.p1.j.val ≤ s.w.p1.i.val := by intro h; simpa [h] using g8
  have fin2 := final_of I (d := s.d) le2 hσ.a0 (na0_eq hσ) (na0_idle hσ) hσ.f0
  have fin3 := final_of I (d := s.d) le3 hσ.a1 (na1_eq hσ) (na1_idle hσ) hσ.f1
  have ew : (pass I σ).w = s.step.w := by
    show σ.w.step (fl0 I σ == 1#1) (fl1 I σ == 1#1) = s.w.step false false
    rw [f0, f1, hσ.w]; rfl
  refine ⟨ew, ?_, ?_, ?_, ?_, ?_, ?_, ?_, ?_, ?_, ?_, ?_⟩
  · intro _
    show rd M.z slot1 (nz1 I σ) = zOf I (s.w.p1.next false s.w.n1)
    rw [nz1, rd_wr_same, hσ.w, f1]
    exact nextLogits I _ _ _
  · intro hv; exact ne1_rd hσ hv
  · intro hv; exact ns1_rd hσ
  · intro hv; exact nw1_rd hσ hv
  · intro hv hne
    obtain ⟨h1, h2⟩ := carry_next I g3 le0 hv hne σ.c0 hσ.c0
    exact (nc0_eq hσ).trans h2
  · intro hv hne
    obtain ⟨h1, h2⟩ := carry_next I g4 le1 hv hne σ.c1 hσ.c1
    exact (nc1_eq hσ h1).trans h2
  · intro hv hne
    obtain ⟨h1, h2⟩ := acc_next I g1 le2 hv hne σ.a0 hσ.a0
    exact (na0_eq hσ h1).trans h2
  · intro hv hne
    obtain ⟨h1, h2⟩ := acc_next I g2 le3 hv hne σ.a1 hσ.a1
    exact (na1_eq hσ h1).trans h2
  · intro hv hm
    change s.w.p0.v = false at hv
    change s.w.p0.i ∈ s.step.d at hm
    have h : (s.w.p2.v = true ∧ s.w.p2.j.val = 0 ∧ s.w.p2.i = s.w.p0.i) ∨ (s.w.p2.v = false ∧ s.w.p2.i = s.w.p0.i ∧ s.w.p2.i ∈ s.d) := by
      simpa [hv, hm, and_assoc] using g9
    show na0 I σ = aN I s.w.p0.i (s.w.p0.i.val + 1)
    rcases h with ⟨h1, h2, h3⟩ | ⟨h1, h2, h3⟩
    · rw [← h3]; exact fin2 (.inl ⟨h1, h2⟩)
    · rw [← h2]; exact fin2 (.inr ⟨h1, h3⟩)
  · intro hv hm
    change s.w.p1.v = false at hv
    change s.w.p1.i ∈ s.step.d at hm
    have h : (s.w.p3.v = true ∧ s.w.p3.j.val = 0 ∧ s.w.p3.i = s.w.p1.i) ∨ (s.w.p3.v = false ∧ s.w.p3.i = s.w.p1.i ∧ s.w.p3.i ∈ s.d) := by
      simpa [hv, hm, and_assoc] using g10
    show na1 I σ = aN I s.w.p1.i (s.w.p1.i.val + 1)
    rcases h with ⟨h1, h2, h3⟩ | ⟨h1, h2, h3⟩
    · rw [← h3]; exact fin3 (.inl ⟨h1, h2⟩)
    · rw [← h2]; exact fin3 (.inr ⟨h1, h3⟩)
  · intro i hi
    show rd M.o (rOut i) (no2 I σ) = outOf I i
    have hi' : i ∈ s.step.d := hi
    have e2 : no2 I σ = wr M.o (rOut s.w.p2.i) (no1 I σ)
        (shapeCast S1x256x128 (truncf .bf16 (na0 I σ) bitsLt_bf16_f32) shapeCasts_S256x128_S1x256x128) := by
      rw [no2, na0, hσ.w]; rfl
    have e1 : no1 I σ = wr M.o (rOut s.w.p3.i) σ.o
        (shapeCast S1x256x128 (truncf .bf16 (na1 I σ) bitsLt_bf16_f32) shapeCasts_S256x128_S1x256x128) := by
      rw [no1, na1, hσ.w]; rfl
    rw [e2]
    by_cases h2 : i = s.w.p2.i
    · subst h2
      have h : (s.w.p2.v = true ∧ s.w.p2.j.val = 0) ∨ (s.w.p2.v = false ∧ s.w.p2.i ∈ s.d) := by
        simpa [hi'] using g11
      rw [rd_wr_same, fin2 h]; rfl
    rw [rd_wr_disj M.o (rows_disj h2), e1]
    by_cases h3 : i = s.w.p3.i
    · subst h3
      have h : (s.w.p3.v = true ∧ s.w.p3.j.val = 0) ∨ (s.w.p3.v = false ∧ s.w.p3.i ∈ s.d) := by
        simpa [hi', h2, or_assoc] using g12
      rw [rd_wr_same, fin3 h]; rfl
    rw [rd_wr_disj M.o (rows_disj h3)]
    refine hσ.o i ?_
    have : i ∈ Tr.fin s.w.p2 ++ (Tr.fin s.w.p3 ++ s.d) := hi
    simpa [mem_fin, h2, h3] using this

/-- What the loop starts from, -/
theorem inv_init (z : Cont F M.z) (st : Cont F M.s) (e : Cont F M.e) (a : Cont F M.a) (o : Cont F M.o) :
    Inv I Tr.init (start M z st e a o) := by
  refine ⟨rfl, ?_, ?_, ?_, ?_, ?_, ?_, ?_, ?_, ?_, ?_, ?_⟩
  all_goals first
    | (intro h; exact absurd h (by decide))
    | (intro _ h; exact absurd h (by decide))
    | (intro i h; exact absurd h (by simp [Tr.init]))

/-- and what it ends at: every query block's rows hold its sweep's accumulator. -/
theorem run_out (hns : NoStop F) : ∀ (n : ℕ) (k : ℕ) (s : Tr) (σ : St F M), Tr.runs k s = true → Inv I s σ →
    (run I n σ).w.live = false → ∀ i, rd M.o (rOut i) (run I n σ).o = outOf I i := by
  have stop : ∀ (k : ℕ) (s : Tr) (σ : St F M), Tr.runs k s = true → Inv I s σ → σ.w.live = false →
      ∀ i, rd M.o (rOut i) σ.o = outOf I i := by
    intro k s σ hk hσ hl i
    cases k with
    | zero => exact absurd hk (by simp [Tr.runs])
    | succ k =>
      rw [hσ.w] at hl
      rw [Tr.runs, hl] at hk
      refine hσ.o i ?_
      have := List.all_eq_true.mp (by simpa using hk : (List.finRange 32).all (fun i => s.d.contains i) = true) i (List.mem_finRange i)
      simpa using this
  intro n
  induction n with
  | zero => intro k s σ hk hσ hl; exact stop k s σ hk hσ hl
  | succ n ih =>
    intro k s σ hk hσ hl
    rw [run] at hl ⊢
    split at hl
    · rename_i hlive
      rw [if_pos hlive]
      cases k with
      | zero => exact absurd hk (by simp [Tr.runs])
      | succ k =>
        rw [hσ.w] at hlive
        rw [Tr.runs, hlive] at hk
        have hk' : s.good = true ∧ Tr.runs k s.step = true := by simpa using hk
        exact ih k s.step _ hk'.2 (inv_step I hns hk'.1 hσ) hl
    · rename_i hlive
      rw [if_neg hlive]
      exact stop k s σ hk hσ hl

theorem finish_out (hns : NoStop F) (z : Cont F M.z) (st : Cont F M.s) (e : Cont F M.e) (a : Cont F M.a) (o : Cont F M.o) (i : Fin 32) :
    rd M.o (rOut i) (finish I z st e a o).o = outOf I i :=
  run_out I hns _ 300 Tr.init _ Tr.runs_init (inv_init I z st e a o) (finish_done I z st e a o) i

end Items

end Cert.Proof.PI

end
-- ==== Proof.PI.Run.lean ====
/- The attention call's run with its result named: each point leaves its output block at the swept rows, and the array
   ends holding them, block by block. -/
module

public import proofs.«01_k».proof.Proof.PI.Frame
public import proofs.«01_k».proof.Proof.PI.Stream
public import Idealize.ShloMosaic.Lib.Pipeline.Value
public import Idealize.ShloMosaic.Lib.Pointwise

@[expose] public section

set_option maxRecDepth 16384

noncomputable section

namespace Cert.Proof.PI.Run

open Cert.Proof.PI
open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (hns : NoStop F)
variable (m : (ℓ : Loc nD τ sig) → Buf (Elt F) ℓ) (ρ : Dev nD → PrngReg)

/-- The input blocks of point `t`. -/
abbrev insAt (c : Dev nD) (t : Fin (cfg0 (F := F)).N) : Ins F (memsAt (F := F) t) :=
  Ins.of (memsAt (F := F) t) (iblk m c 0 t) (iblk m c 1 t) (iblk m c 2 t) (iblk m c 3 t) (iblk m c 4 t)

/-- Query block and row of an output row. -/
def qb (n : Fin 8192) : Fin 32 := ⟨n.val / 256, by omega⟩
def qr (n : Fin 8192) : Fin 256 := ⟨n.val % 256, by omega⟩

/-- What the output block holds after point `t`: each query block's rows as its sweep leaves them. -/
def outAt (c : Dev nD) (t : Fin (cfg0 (F := F)).N) : Vec F S1x8192x128 .bf16 := fun y =>
  outOf (insAt m c t) (qb (y 1)) (ix3 0 (qr (y 1)) (y 2))

theorem off3_eq (x : Item) : k0_off3 x.wi = ![0, 256 * x.i.val, 0] :=
  (show k0_off3 x.wi = ![0, row x.wi, 0] from rfl).trans (by rw [Item.wi, row_of])

include hns in
/-- Whatever the loop starts from, the output block ends at that. -/
theorem read_finish (c : Dev nD) (t : Fin (cfg0 (F := F)).N) (z s e a o) :
    (memsAt (F := F) t).o.view.read (Elt F) (finish (insAt m c t) z s e a o).o = outAt m c t := by
  funext y
  refine Eq.trans ?_ (congrFun (finish_out (I := insAt m c t) hns z s e a o (qb (y 1))) (ix3 0 (qr (y 1)) (y 2)))
  refine congrArg ((memsAt (F := F) t).o.view.read (Elt F) (finish (insAt m c t) z s e a o).o) (funext fun b => Fin.ext ?_)
  rw [Rect.emb_apply]
  show _ = k0_off3 (BitVec.ofNat 32 (qb (y 1)).val) b + 1 * _
  rw [show k0_off3 (BitVec.ofNat 32 (qb (y 1)).val) = ![0, 256 * (qb (y 1)).val, 0] from off3_eq ⟨qb (y 1), 0, true⟩]
  have h0 : (y 0).val < 1 := (y 0).isLt
  have h1 : (y 1).val = 256 * (qb (y 1)).val + (qr (y 1)).val := (Nat.div_add_mod _ 256).symm
  fin_cases b
  · show (y 0).val = 0 + 1 * 0; omega
  · show (y 1).val = 256 * (qb (y 1)).val + 1 * (qr (y 1)).val; omega
  · show (y 2).val = 0 + 1 * (y 2).val; omega

/-- The pipeline's proof data: the arrays as the region finds them, each input block left in place, the output block at
    the swept rows. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = outAt m c t := rfl

/-- What the body is called with at point `t`, and what it returns. -/
def bodyPre (c : Dev nD) (t : Fin (cfg0 (F := F)).N) : sProp 𝕄 :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare ((dats m 0 c).before 5 t d)))

def bodyPost (c : Dev nD) (t : Fin (cfg0 (F := F)).N) : sProp 𝕄 :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ owns (c : Thread nD τ) (win0_5.stage ((cfg0 (F := F)).slots t 5)) fullShare ((dats m 0 c).after 5 t))

include hns in
set_option maxHeartbeats 1200000 in
/-- The body at any point meets its two conditions. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost
  simp only [before_0 m (dats m 0 c) (A_eq m c 0) (after_0 m c), before_1 m (dats m 0 c) (A_eq m c 1) (after_1 m c), before_2 m (dats m 0 c) (A_eq m c 2) (after_2 m c), before_3 m (dats m 0 c) (A_eq m c 3) (after_3 m c), before_4 m (dats m 0 c) (A_eq m c 4) (after_4 m c)]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, PhiA_eq]
  iintro ⟨⟨⟨Hz, Hs, He, Ha⟩, Hg⟩, Howe, ⟨%d0, H0⟩, ⟨%d1, H1⟩, ⟨%d2, H2⟩, ⟨%d3, H3⟩, ⟨%d4, H4⟩, ⟨%d5, H5⟩⟩
  iapply (body_owns c (grid0.coords t) (memsAt t) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [Hz]; · iexact Hz
  isplitl [Hs]; · iexact Hs
  isplitl [He]; · iexact He
  isplitl [Ha]; · iexact Ha
  iintro %z %s %e %a %o ⟨H0, H1, H2, H3, H4, H5, Hz, Hs, He, Ha⟩
  rw [read_finish hns m c t z s e a o]
  isplitr [Howe H0 H1 H2 H3 H4 H5]
  · isplitr [Hg]
    · isplitl [Hz]; · iexact Hz
      isplitl [Hs]; · iexact Hs
      isplitl [He]; · iexact He
      iexact Ha
    iexact Hg
  isplitl [Howe]; · iexact Howe
  isplitl [H0]; · iexact H0
  isplitl [H1]; · iexact H1
  isplitl [H2]; · iexact H2
  isplitl [H3]; · iexact H3
  isplitl [H4]; · iexact H4
  iexact H5

include hns in
/-- The body obligation, at every point. -/
theorem body_obligation (c : Dev nD) : BodyObligation (dats (F := F) m 0 c) (defs₀ (F := F)) 𝒱₀ () Set.univ := fun t => by
  rw [bigSep_W0, bigSep_W0, row_at]
  exact triple_restated (sound_body hns m c t) rfl .rfl fun _ => .rfl

include hns in
set_option backward.isDefEq.respectTransparency.types false in
/-- The launch: every array ends at what the proof data name. -/
theorem run_main : θ_run defs (onTc (τ := τ) (main (F := F))) (s₀ m ρ) (fun r => Pipeline.FramePost cfgs (dats m) 0 (V m) r) :=
  Pipeline.θ_run_frame (Q' := _) cfgs (dats m) (0 : Fin 1) launch0 defs₀ 𝒱₀ m ρ main
    (hbody := fun c => (body_obligation hns m c).loose) (hshare := fun c => (dats m 0 c).share_full fun _ => rfl)
    (howed := fun _ _ => rfl) (V := V m) (hmain := hmain m) (hA := A_eq m) (hΦ := fun _ _ => rfl)

include hns in
/-- The run with its result named, the arguments unchanged. -/
theorem run_named : θ_run defs (onTc (τ := τ) (main (F := F))) ⟨m, fun _ => 0, ρ⟩ (fun r => ∀ c : Dev nD,
      r.2.mem ((c.tc : Thread nD τ).loc main_v21) = (dats m 0 c).arrAt 5 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main hns m ρ)

/-! ## The blocks of the arrays -/

/-- The point of batch entry `b` and pair of heads `p`. -/
def pt (b p : Fin 4) : Fin (cfg0 (F := F)).N := ⟨4 * b.val + p.val, by show _ < grid0.N; rw [N_0]; omega⟩

theorem pt_of (t : Fin (cfg0 (F := F)).N) : ∃ b p : Fin 4, t = pt b p := by
  have h : t.val < 16 := t.isLt.trans_eq N_0
  exact ⟨⟨t.val / 4, by omega⟩, ⟨t.val % 4, by omega⟩, Fin.ext (by show t.val = 4 * (t.val / 4) + t.val % 4; omega)⟩

theorem index_q (b p : Fin 4) : win0_0.index (pt (F := F) b p) = ![b.val, p.val, 0, 0] := by
  have H : ∀ b p : Fin 4, win0_0.index (⟨4 * b.val + p.val, by rw [N_0]; omega⟩ : Fin grid0.N) = ![b.val, p.val, 0, 0] := by decide +kernel
  exact H b p
theorem index_k (b p : Fin 4) : win0_1.index (pt (F := F) b p) = ![b.val, 0, p.val] := by
  have H : ∀ b p : Fin 4, win0_1.index (⟨4 * b.val + p.val, by rw [N_0]; omega⟩ : Fin grid0.N) = ![b.val, 0, p.val] := by decide +kernel
  exact H b p
theorem index_v (b p : Fin 4) : win0_2.index (pt (F := F) b p) = ![b.val, p.val, 0, 0] := by
  have H : ∀ b p : Fin 4, win0_2.index (⟨4 * b.val + p.val, by rw [N_0]; omega⟩ : Fin grid0.N) = ![b.val, p.val, 0, 0] := by decide +kernel
  exact H b p
theorem index_t (t : Fin (cfg0 (F := F)).N) : win0_3.index t = ![0, 0] := by
  have H : ∀ t : Fin grid0.N, win0_3.index t = ![0, 0] := by decide +kernel
  exact H t
theorem index_b (t : Fin (cfg0 (F := F)).N) : win0_4.index t = ![0, 0, 0] := by
  have H : ∀ t : Fin grid0.N, win0_4.index t = ![0, 0, 0] := by decide +kernel
  exact H t
theorem index_o (b p : Fin 4) : win0_5.index (pt (F := F) b p) = ![b.val, 0, p.val] := by
  have H : ∀ b p : Fin 4, win0_5.index (⟨4 * b.val + p.val, by rw [N_0]; omega⟩ : Fin grid0.N) = ![b.val, 0, p.val] := by decide +kernel
  exact H b p

/-- Head `h` of pair `p`. -/
def hd (p : Fin 4) (h : Fin 2) : Fin 8 := ⟨2 * p.val + h.val, by omega⟩
/-- Lane `l` of pair `p`. -/
def ln (p : Fin 4) (l : Fin 128) : Fin 512 := ⟨128 * p.val + l.val, by omega⟩

theorem iblk_q (c : Dev nD) (b p : Fin 4) (h : Fin 2) (s : Fin 8192) (d : Fin 128) :
    iblk m c 0 (pt (F := F) b p) (ix4 0 h s d) = m ((c.tc : Thread nD τ).loc main_arg0) (ix4 b (hd p h) s d) := by
  refine Eq.trans ?_ (congrFun (V_main_arg0 m c) (ix4 b (hd p h) s d))
  refine congrArg (V m c main_arg0) (funext fun a => Fin.ext ?_)
  refine (Window.rect_emb_val win0_0 (pt (F := F) b p) _ a).trans ?_
  rw [index_q]
  fin_cases a
  · show b.val * 1 + 0 = b.val; omega
  · show p.val * 2 + h.val = 2 * p.val + h.val; omega
  · show 0 * 8192 + s.val = s.val; omega
  · show 0 * 128 + d.val = d.val; omega

theorem iblk_k (c : Dev nD) (b p : Fin 4) (s : Fin 8192) (d : Fin 128) :
    iblk m c 1 (pt (F := F) b p) (ix3 0 s d) = m ((c.tc : Thread nD τ).loc main_arg1) (ix3 b s (ln p d)) := by
  refine Eq.trans ?_ (congrFun (V_main_arg1 m c) (ix3 b s (ln p d)))
  refine congrArg (V m c main_arg1) (funext fun a => Fin.ext ?_)
  refine (Window.rect_emb_val win0_1 (pt (F := F) b p) _ a).trans ?_
  rw [index_k]
  fin_cases a
  · show b.val * 1 + 0 = b.val; omega
  · show 0 * 8192 + s.val = s.val; omega
  · show p.val * 128 + d.val = 128 * p.val + d.val; omega

theorem iblk_v (c : Dev nD) (b p : Fin 4) (h : Fin 2) (s : Fin 8192) (d : Fin 128) :
    iblk m c 2 (pt (F := F) b p) (ix4 0 h s d) = m ((c.tc : Thread nD τ).loc main_arg2) (ix4 b (hd p h) s d) := by
  refine Eq.trans ?_ (congrFun (V_main_arg2 m c) (ix4 b (hd p h) s d))
  refine congrArg (V m c main_arg2) (funext fun a => Fin.ext ?_)
  refine (Window.rect_emb_val win0_2 (pt (F := F) b p) _ a).trans ?_
  rw [index_v]
  fin_cases a
  · show b.val * 1 + 0 = b.val; omega
  · show p.val * 2 + h.val = 2 * p.val + h.val; omega
  · show 0 * 8192 + s.val = s.val; omega
  · show 0 * 128 + d.val = d.val; omega

theorem iblk_t (c : Dev nD) (t : Fin (cfg0 (F := F)).N) (r s : Fin 256) :
    iblk m c 3 t (ix2 r s) = V m c main_v6 (ix2 r s) := by
  refine congrArg (V m c main_v6) (funext fun a => Fin.ext ?_)
  refine (Window.rect_emb_val win0_3 t _ a).trans ?_
  rw [index_t]
  fin_cases a
  · show 0 * 256 + r.val = r.val; omega
  · show 0 * 256 + s.val = s.val; omega

theorem iblk_b (c : Dev nD) (t : Fin (cfg0 (F := F)).N) (h : Fin 2) (r : Fin 512) (s : Fin 256) :
    iblk m c 4 t (ix3 h r s) = V m c main_v20 (ix3 h r s) := by
  refine congrArg (V m c main_v20) (funext fun a => Fin.ext ?_)
  refine (Window.rect_emb_val win0_4 t _ a).trans ?_
  rw [index_b]
  fin_cases a
  · show 0 * 2 + h.val = h.val; omega
  · show 0 * 512 + r.val = r.val; omega
  · show 0 * 256 + s.val = s.val; omega

/-- The array ends at any `G` that agrees with every point's output block. -/
theorem final (c : Dev nD) (G : S4x8192x512.Idx → Elt F .bf16)
    (hG : ∀ (b p : Fin 4) (s : Fin 8192) (l : Fin 128), outAt m c (pt b p) (ix3 0 s l) = G (ix3 b s (ln p l))) :
    (dats m 0 c).arrAt 5 (cfg0 (F := F)).N = G := by
  refine Dat.arrAt_eq_of_cover (dats m 0 c) 5 G ?_ ?_
  · intro t _
    obtain ⟨b, p, rfl⟩ := pt_of t
    funext (y : S1x8192x128.Idx)
    show outAt m c (pt b p) y = G ((win0_5.rect (pt (F := F) b p)).emb y)
    obtain ⟨s, l, rfl⟩ : ∃ (s : Fin 8192) (l : Fin 128), y = ix3 0 s l := ⟨y 1, y 2, by
      funext a; fin_cases a
      · exact Fin.ext (by have : (y 0).val < 1 := (y 0).isLt; show (y 0).val = 0; omega)
      · rfl
      · rfl⟩
    refine (hG b p s l).trans (congrArg G (funext fun a => Fin.ext ?_))
    refine Eq.symm ((Window.rect_emb_val win0_5 (pt (F := F) b p) _ a).trans ?_)
    rw [index_o]
    fin_cases a
    · show b.val * 1 + 0 = b.val; omega
    · show 0 * 8192 + s.val = s.val; omega
    · show p.val * 128 + l.val = 128 * p.val + l.val; omega
  · intro (i : S4x8192x512.Idx)
    have h2 : (i 2).val < 512 := (i 2).isLt
    let p : Fin 4 := ⟨(i 2).val / 128, by omega⟩
    let l : Fin 128 := ⟨(i 2).val % 128, by omega⟩
    let b : Fin 4 := i 0
    refine ⟨pt b p, flush0_5 _, ?_⟩
    refine Finset.mem_map.mpr ⟨ix3 0 (i 1) l, Finset.mem_univ _, funext fun a => Fin.ext ?_⟩
    refine (Window.rect_emb_val win0_5 (pt (F := F) b p) _ a).trans ?_
    rw [index_o]
    fin_cases a
    · show b.val * 1 + 0 = (i 0).val; show (i 0).val * 1 + 0 = _; omega
    · show 0 * 8192 + (i 1).val = (i 1).val; omega
    · show (i 2).val / 128 * 128 + (i 2).val % 128 = (i 2).val; omega

end Cert.Proof.PI.Run

end
-- ==== Proof.Attn.Stick.lean ====
/- Stick-breaking weights over the reals, one query row: logits `z` in base 2 over the keys, the strictly causal keys
   `s < t`. -/
module

public import Idealize.ShloMosaic.PureOps.Ideal
public import Idealize.ShloMosaic.PureOps.Ideal.Laws
public import Mathlib.Algebra.BigOperators.Intervals

@[expose] public section

noncomputable section

namespace Cert.Attn

open Idealize.ShloMosaic

/-- Minus the base-2 logarithm of the mass that a logit keeps. -/
def sp (x : ℝ) : ℝ := max x 0 + Real.log (1 + Real.rpow 2 (-|x|)) * (Real.log 2)⁻¹

/-- The same of key `s`, none where the key is not strictly earlier. -/
def spm (z : ℕ → ℝ) (t s : ℕ) : ℝ := if s < t then sp (z s) else 0

/-- The weight of key `s` in row `t`: its own share of what the keys between leave. -/
def wt (z : ℕ → ℝ) (t s : ℕ) : ℝ :=
  if s < t then Real.rpow 2 (z s - sp (z s) - ∑ u ∈ Finset.Ico (s + 1) 8192, spm z t u) else 0

theorem wt_of_le {z : ℕ → ℝ} {t s : ℕ} (h : t ≤ s) : wt z t s = 0 := if_neg (by omega)
theorem spm_of_le {z : ℕ → ℝ} {t s : ℕ} (h : t ≤ s) : spm z t s = 0 := if_neg (by omega)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The keys later than the row's own weigh nothing. -/
theorem sum_spm_cut {z : ℕ → ℝ} {t a n : ℕ} (h : t ≤ n) (hn : n ≤ 8192) (ha : a ≤ n) :
    ∑ u ∈ Finset.Ico a 8192, spm z t u = ∑ u ∈ Finset.Ico a n, spm z t u := by
  rw [← Finset.sum_Ico_consecutive _ ha hn,
    Finset.sum_eq_zero (s := Finset.Ico n 8192) (fun u hu => spm_of_le (h.trans (Finset.mem_Ico.mp hu).1)), add_zero]

/-- The softplus of the kernel, of a real logit or of a masked one. -/
theorem softplus_coe (x : ℝ) :
    max (x : EReal) 0 + Ideal.log (1 + Ideal.exp2 (0 - max (x : EReal) (-(x : EReal)))) * (((Real.log 2)⁻¹ : ℝ) : EReal) = (sp x : EReal) := by
  have e1 : max (x : EReal) (-(x : EReal)) = ((|x| : ℝ) : EReal) := by
    rw [← EReal.coe_neg, abs_eq_max_neg]; exact (EReal.coe_strictMono.monotone.map_max).symm
  have e2 : (0 : EReal) - ((|x| : ℝ) : EReal) = ((-|x| : ℝ) : EReal) := by rw [zero_sub, EReal.coe_neg]
  have e3 : (1 : EReal) + Ideal.exp2 ((-|x| : ℝ) : EReal) = ((1 + Real.rpow 2 (-|x|) : ℝ) : EReal) := by
    rw [Ideal.exp2_coe, EReal.coe_add, EReal.coe_one]
  have pos : 0 < 1 + Real.rpow 2 (-|x|) := add_pos one_pos (Real.rpow_pos_of_pos two_pos _)
  rw [e1, e2, e3, Ideal.log_coe, if_neg (not_le.mpr pos), sp, EReal.coe_add, EReal.coe_mul]
  rw [EReal.coe_strictMono.monotone.map_max (a := x) (b := 0)]
  rfl

theorem softplus_bot :
    max (⊥ : EReal) 0 + Ideal.log (1 + Ideal.exp2 (0 - max (⊥ : EReal) (-(⊥ : EReal)))) * (((Real.log 2)⁻¹ : ℝ) : EReal) = 0 := by
  have e : (0 : EReal) - max (⊥ : EReal) (-(⊥ : EReal)) = ⊥ := by simp
  rw [e, Ideal.exp2_bot, add_zero, show (1 : EReal) = ((1 : ℝ) : EReal) from rfl, Ideal.log_coe]
  simp

/-- The masked logit's softplus. -/
theorem softplus_masked (z : ℕ → ℝ) (t s : ℕ) {m : EReal} (hm : m = if s < t then (z s : EReal) else ⊥) :
    max m 0 + Ideal.log (1 + Ideal.exp2 (0 - max m (-m))) * (((Real.log 2)⁻¹ : ℝ) : EReal) = (spm z t s : EReal) := by
  subst hm
  unfold spm
  split
  · exact softplus_coe _
  · exact softplus_bot

/-- The exponent: the masked logit less its softplus less the carry. -/
theorem exponent_masked (z : ℕ → ℝ) (t s : ℕ) (C : ℝ) {m : EReal} (hm : m = if s < t then (z s : EReal) else ⊥) :
    m - (spm z t s : EReal) - (C : EReal) = if s < t then ((z s - sp (z s) - C : ℝ) : EReal) else ⊥ := by
  subst hm
  unfold spm
  split
  · rw [EReal.coe_sub, EReal.coe_sub]
  · simp

/-- The weight from the exponent: the softplus of the later keys taken off, powered. -/
theorem weight_masked (z : ℕ → ℝ) (t s : ℕ) (C D : ℝ) (h : s < t → C + D = ∑ u ∈ Finset.Ico (s + 1) 8192, spm z t u) {e : EReal}
    (he : e = if s < t then ((z s - sp (z s) - C : ℝ) : EReal) else ⊥) :
    Ideal.exp2 (e - (D : EReal)) = (wt z t s : EReal) := by
  subst he
  unfold wt
  split
  · rename_i hs
    rw [← EReal.coe_sub, Ideal.exp2_coe, ← h hs, sub_sub, sub_sub]
  · simp

/-- The reference's logarithms, base e: of the mass a key takes and of the mass it keeps. -/
theorem log_two_pos : 0 < Real.log 2 := Real.log_pos one_lt_two

theorem rpow_two (x : ℝ) : Real.rpow 2 x = Real.exp (x * Real.log 2) := by
  rw [Real.rpow_eq_pow, Real.rpow_def_of_pos two_pos, mul_comm]

/-- The natural softplus of `y = x · log 2` is `log 2` times `sp x`. -/
theorem natural_sp (x : ℝ) : max (x * Real.log 2) 0 + Real.log (1 + Real.exp (-|x * Real.log 2|)) = Real.log 2 * sp x := by
  have h := log_two_pos
  have e1 : max (x * Real.log 2) 0 = Real.log 2 * max x 0 := by
    rw [mul_max_of_nonneg _ _ h.le, mul_zero, mul_comm]
  have e2 : -|x * Real.log 2| = -|x| * Real.log 2 := by rw [abs_mul, abs_of_pos h, neg_mul]
  rw [e1, e2, ← rpow_two, sp]
  field_simp

/-- `x - sp x` is minus the softplus of `-x`. -/
theorem sub_sp (x : ℝ) : x - sp x = - sp (-x) := by
  unfold sp
  rw [abs_neg]
  rcases le_total x 0 with hx | hx
  · rw [max_eq_right hx, max_eq_left (by linarith)]; ring
  · rw [max_eq_left hx, max_eq_right (by linarith)]; ring

end Cert.Attn

end
-- ==== Proof.PI.Point.lean ====
/- The attention call's values over the reals, element by element: an item's logits, kept-mass logarithms, exponents and
   weights, the carry and the accumulator after the items of a sweep, and the final rows of a query block. -/
module

public import proofs.«01_k».proof.Proof.Attn.Stick
public import proofs.«01_k».proof.Proof.PI.Stream
public import Idealize.ShloMosaic.Lib.Pointwise

@[expose] public section

set_option maxRecDepth 16384

noncomputable section

namespace Cert.Proof.PI

open Cert.KernelIdeal Cert.KernelIdeal.Gen Cert.Attn
open Idealize.ShloMosaic

/-- Row `r` of block `i`. -/
def blk (i : Fin 32) (r : Fin 256) : Fin 8192 := ⟨256 * i.val + r.val, by omega⟩

/-- Row `r` of head `h` in a stacked pair of heads. -/
def hrow (h : Fin 2) (r : Fin 256) : Fin 512 := ⟨256 * h.val + r.val, by omega⟩

theorem hrow_zero (r : Fin 256) : (hrow 0 r).val = r.val := by simp [hrow]
theorem hrow_one (r : Fin 256) : (hrow 1 r).val = 256 + r.val := by simp [hrow]
theorem fin2 (h : Fin 2) : h = 0 ∨ h = 1 := by omega

theorem noStop_ideal : NoStop Ideal := fun x => by
  show Ideal.cmp .ogt x (⊤ : EReal) = 0#1
  simp [Ideal.cmp]

/-! ## The payloads at an element -/

theorem rd_unread {s : Shape} {t : EltTy} (m : Memref sig .tc .vmem s t) (hm : m.IsWhole) (r : Rect s)
    (x : s.Idx → Elt Ideal t) : rd m r (hm.unread x) = fun y => x (r.emb y) := by
  funext y
  show m.view.read (Elt Ideal) (hm.unread x) (r.emb y) = _
  rw [hm.read_unread]

theorem pay21_at (kb : Vec Ideal S1x256x128 .bf16) (q : Fin 2 → Vec Ideal S1x1x256x128 .bf16) (h : Fin 2) (r c : Fin 256) :
    k0_pay21 (k0_pay20 kb) (q 0) (q 1) (ix3 0 (hrow h r) c) = ∑ d : Fin 128, q h (ix4 0 0 r d) * kb (ix3 0 c d) := by
  pointwise [k0_pay21, k0_pay20]
  refine Finset.sum_congr rfl fun d _ => ?_
  congr 1
  rcases fin2 h with rfl | rfl
  · split
    · exact congrArg (q 0) (congrArg (fun a => ix4 0 0 a d) (Fin.ext (hrow_zero r)))
    · rename_i hh; exact absurd ((hrow_zero r).trans_lt r.isLt) hh
  · split
    · rename_i hh; exact absurd ((hrow_one r).symm.trans_lt hh) (by omega)
    · exact congrArg (q 1) (congrArg (fun a => ix4 0 0 a d) (Fin.ext (by show (hrow 1 r).val - 256 = r.val; rw [hrow_one]; omega)))

theorem pay12_at (z b : Vec Ideal S1x512x256 .f32) (r : Fin 512) (c : Fin 256) :
    k0_pay12 z b (ix2 r c) = min (z (ix3 0 r c)) (b (ix3 0 r c)) := by
  pointwise [k0_pay12]

theorem pay13_at (z b : Vec Ideal S1x512x256 .f32) (r : Fin 512) (c : Fin 256) {m : EReal}
    (hm : min (z (ix3 0 r c)) (b (ix3 0 r c)) = m) :
    k0_pay13 z b (ix2 r c)
      = max m 0 + Ideal.log (1 + Ideal.exp2 (0 - max m (-m))) * (((Real.log 2)⁻¹ : ℝ) : EReal) := by
  pointwise [k0_pay13, k0_pay12]
  rw [hm]; rfl

theorem pay18_at (z : FVec Ideal S512x256 .f32) (c : FVec Ideal S512x1 .f32) (r : Fin 512) :
    k0_pay18 z c (ix2 r 0) = c (ix2 r 0) + ∑ x : Fin 256, z (ix2 r x) := by
  pointwise [k0_pay18]

theorem pay15_at (i j : BitVec 32) (z b : Vec Ideal S1x512x256 .f32) (cc : FVec Ideal S512x1 .f32) (r : Fin 512) (c : Fin 256) :
    k0_pay15 i j cc z b (ix3 0 r c) = k0_pay12 z b (ix2 r c) - k0_pay13 z b (ix2 r c) - k0_pay14 i j cc (ix2 r 0) := by
  pointwise [k0_pay15]

theorem pay17_at (z b : Vec Ideal S1x512x256 .f32) (r : Fin 512) (c : Fin 256) :
    k0_pay17 (k0_pay16 z b) (ix3 0 r c) = k0_pay13 z b (ix2 r c) := by
  pointwise [k0_pay17, k0_pay16]

/-- Column `c` of head `h` in a pair of heads side by side. -/
theorem pay11_at (s : Vec Ideal S1x512x256 .bf16) (t : Vec Ideal S256x256 .bf16) (e : Vec Ideal S1x512x256 .f32) (h : Fin 2) (r c : Fin 256) :
    k0_pay11 (k0_pay10 s t) e (ix3 0 r (hrow h c))
      = Ideal.exp2 (e (ix3 0 (hrow h r) c) - ∑ x : Fin 256, s (ix3 0 (hrow h r) x) * t (ix2 x c)) := by
  pointwise [k0_pay11, k0_pay10]
  have e0 : ∀ a : Fin 256, (⟨a.val, by omega⟩ : Fin 512) = hrow 0 a := fun a => Fin.ext (hrow_zero a).symm
  have e1 : ∀ a : Fin 256, (⟨256 + a.val, by omega⟩ : Fin 512) = hrow 1 a := fun a => Fin.ext (hrow_one a).symm
  rcases fin2 h with rfl | rfl
  · split
    · have ec : (⟨(hrow 0 c).val, by rw [hrow_zero]; exact c.isLt⟩ : Fin 256) = c := Fin.ext (hrow_zero c)
      simp only [e0]
      rw [ec]; rfl
    · rename_i hh; exact absurd ((hrow_zero c).trans_lt c.isLt) hh
  · split
    · rename_i hh; exact absurd ((hrow_one c).symm.trans_lt hh) (by omega)
    · have ec : (⟨(hrow 1 c).val - 256, by rw [hrow_one]; omega⟩ : Fin 256) = c :=
        Fin.ext (by show (hrow 1 c).val - 256 = c.val; rw [hrow_one]; omega)
      simp only [e1]
      rw [ec]; rfl

theorem pay8_at (i j v : BitVec 32) (a : FVec Ideal S256x128 .f32) (w : Vec Ideal S1x256x512 .bf16)
    (v0 v1 : Vec Ideal S1x1x256x128 .bf16) (hv : Scalar.cmpi .eq v 1#32 = 1#1) (r : Fin 256) (l : Fin 128)
    (ha : Scalar.cmpi .eq j i = 1#1 → a (ix2 r l) = 0) :
    k0_pay8 i j v a w v0 v1 (ix2 r l)
      = a (ix2 r l) + ∑ x : Fin 256, (w (ix3 0 r (hrow 0 x)) * v0 (ix4 0 0 x l) + w (ix3 0 r (hrow 1 x)) * v1 (ix4 0 0 x l)) := by
  pointwise [k0_pay8]
  rw [hv, select_one, Finset.sum_add_distrib]
  have e : (∑ x : Fin 256, w (ix3 0 r ⟨x.val, by omega⟩) * v0 (ix4 0 0 x l) + ∑ x : Fin 256, w (ix3 0 r ⟨256 + x.val, by omega⟩) * v1 (ix4 0 0 x l))
      = ∑ x : Fin 256, w (ix3 0 r (hrow 0 x)) * v0 (ix4 0 0 x l) + ∑ x : Fin 256, w (ix3 0 r (hrow 1 x)) * v1 (ix4 0 0 x l) := by
    simp [hrow]
  rw [e]
  rcases bit_cases (Scalar.cmpi .eq j i) with hb | hb
  · rw [hb, select_zero]
  · rw [hb, select_one, ha hb, zero_add]

theorem pay14_at (i j : BitVec 32) (cc : FVec Ideal S512x1 .f32) (r : Fin 512) (h : Scalar.cmpi .eq j i = 1#1 → cc (ix2 r 0) = 0) :
    k0_pay14 i j cc (ix2 r 0) = cc (ix2 r 0) := by
  rcases bit_cases (Scalar.cmpi .eq j i) with hb | hb
  · unfold k0_pay14; simp only [hb, select_zero]
  · rw [h hb]
    unfold k0_pay14; simp only [hb, select_one]
    exact Ideal.ofBits_zero_f32

theorem pay27_at (r : Fin 512) : (k0_pay27 : FVec Ideal S512x1 .f32) (ix2 r 0) = 0 := Ideal.ofBits_zero_f32
theorem pay6_at (r : Fin 256) (l : Fin 128) : (k0_pay6 : FVec Ideal S256x128 .f32) (ix2 r l) = 0 := Ideal.ofBits_zero_f32

theorem word_inj {x : Item} (h : Scalar.cmpi .eq x.wj x.wi = 1#1) : x.j = x.i := by
  have e : x.wj = x.wi := by
    by_contra hne
    have h' : BitVec.ofBool (x.wj == x.wi) = 1#1 := h
    rw [beq_eq_false_iff_ne.mpr hne] at h'
    exact absurd h' (by decide)
  have := congrArg BitVec.toNat e
  simp only [Item.wj, Item.wi, BitVec.toNat_ofNat] at this
  apply Fin.ext
  omega

/-! ## The blocks at an element -/

theorem off1_eq (x : Item) : k0_off1 x.wj = ![0, 0, 256 * x.j.val, 0] :=
  (show k0_off1 x.wj = ![0, 0, row x.wj, 0] from rfl).trans (by rw [Item.wj, row_of])
theorem off2_eq (x : Item) : k0_off2 x.wj = ![0, 1, 256 * x.j.val, 0] :=
  (show k0_off2 x.wj = ![0, 1, row x.wj, 0] from rfl).trans (by rw [Item.wj, row_of])
theorem off11_eq (x : Item) : k0_off11 x.wi x.wj = ![if x.j = x.i then 1 else 0, 0, 0] := by
  have H : ∀ i j : Fin 32, k0_off11 (BitVec.ofNat 32 i.val) (BitVec.ofNat 32 j.val) = ![if j = i then 1 else 0, 0, 0] := by decide +kernel
  exact H x.i x.j

section Values
variable {M : Mems} (xq : Vec Ideal S1x2x8192x128 .bf16) (xk : Vec Ideal S1x8192x128 .bf16) (xv : Vec Ideal S1x2x8192x128 .bf16)
  (xt : Vec Ideal S256x256 .bf16) (xb : Vec Ideal S2x512x256 .f32)

theorem rdK_at (x : Item) (c : Fin 256) (d : Fin 128) : rd M.k (rK x) (M.hk.unread xk) (ix3 0 c d) = xk (ix3 0 (blk x.j c) d) := by
  rw [rd_unread]
  refine congrArg xk (funext fun a => Fin.ext ?_)
  rw [Rect.emb_apply]
  show k0_off5 x.wj a + 1 * _ = _
  rw [off5_eq]
  fin_cases a <;> simp [ix3, blk]

theorem rdQ0_at (x : Item) (c : Fin 256) (d : Fin 128) : rd M.q (rQ0 x) (M.hq.unread xq) (ix4 0 0 c d) = xq (ix4 0 0 (blk x.i c) d) := by
  rw [rd_unread]
  refine congrArg xq (funext fun a => Fin.ext ?_)
  rw [Rect.emb_apply]
  show k0_off6 x.wi a + 1 * _ = _
  rw [off6_eq]
  fin_cases a <;> simp [ix4, blk]

theorem rdQ1_at (x : Item) (c : Fin 256) (d : Fin 128) : rd M.q (rQ1 x) (M.hq.unread xq) (ix4 0 0 c d) = xq (ix4 0 1 (blk x.i c) d) := by
  rw [rd_unread]
  refine congrArg xq (funext fun a => Fin.ext ?_)
  rw [Rect.emb_apply]
  show k0_off7 x.wi a + 1 * _ = _
  rw [off7_eq]
  fin_cases a <;> simp [ix4, blk]

theorem rdV0_at (x : Item) (c : Fin 256) (d : Fin 128) : rd M.v (rV0 x) (M.hv.unread xv) (ix4 0 0 c d) = xv (ix4 0 0 (blk x.j c) d) := by
  rw [rd_unread]
  refine congrArg xv (funext fun a => Fin.ext ?_)
  rw [Rect.emb_apply]
  show k0_off1 x.wj a + 1 * _ = _
  rw [off1_eq]
  fin_cases a <;> simp [ix4, blk]

theorem rdV1_at (x : Item) (c : Fin 256) (d : Fin 128) : rd M.v (rV1 x) (M.hv.unread xv) (ix4 0 0 c d) = xv (ix4 0 1 (blk x.j c) d) := by
  rw [rd_unread]
  refine congrArg xv (funext fun a => Fin.ext ?_)
  rw [Rect.emb_apply]
  show k0_off2 x.wj a + 1 * _ = _
  rw [off2_eq]
  fin_cases a <;> simp [ix4, blk]

theorem rdT_at (r c : Fin 256) : rd M.t whT (M.ht.unread xt) (ix2 r c) = xt (ix2 r c) := by
  rw [rd_unread]
  refine congrArg xt (funext fun a => Fin.ext ?_)
  rw [Rect.emb_apply]
  show (![0, 0] : Fin 2 → ℕ) a + 1 * _ = _
  fin_cases a <;> simp [ix2]

theorem rdB_at (x : Item) (r : Fin 512) (c : Fin 256) :
    rd M.b (rB0 x) (M.hb.unread xb) (ix3 0 r c) = xb (ix3 (if x.j = x.i then 1 else 0) r c) := by
  rw [rd_unread]
  refine congrArg xb (funext fun a => Fin.ext ?_)
  rw [Rect.emb_apply]
  show k0_off11 x.wi x.wj a + 1 * _ = _
  rw [off11_eq]
  by_cases h : x.j = x.i <;> fin_cases a <;> simp [ix3, h]

end Values

end Cert.Proof.PI

end
-- ==== Proof.PI.Host.lean ====
/- The attention call's constant inputs over the reals: the triangle of later keys and the two planes of the mask, as the
   host builds them. -/
module

public import proofs.«01_k».proof.Proof.PI.Frame
public import proofs.«01_k».proof.Proof.PI.Point
public import Idealize.ShloMosaic.Lib.StableHlo.ReadAt

@[expose] public section

set_option maxRecDepth 16384

noncomputable section

namespace Cert.Proof.PI

open Cert.KernelIdeal Cert.KernelIdeal.Gen Cert.Attn
open Idealize.ShloMosaic Idealize.ShloMosaic.TcCoe

variable (m : (ℓ : Loc nD τ sig) → Buf (Elt Ideal) ℓ)

/-- A small number's signed word. -/
theorem toInt_small (n : ℕ) (h : n < 256) : (BitVec.ofNat 32 n).toInt = n := by
  rw [BitVec.toInt_eq_toNat_cond, BitVec.toNat_ofNat, Nat.mod_eq_of_lt (by omega), if_pos (by omega)]

theorem slt_at (a b : ℕ) (ha : a < 256) (hb : b < 256) :
    IntOp.cmpi .slt (BitVec.ofNat 32 a) (BitVec.ofNat 32 b) = if a < b then 1#1 else 0#1 := by
  show BitVec.ofBool ((BitVec.ofNat 32 a).slt (BitVec.ofNat 32 b)) = _
  rw [BitVec.slt, toInt_small a ha, toInt_small b hb]
  by_cases h : a < b
  · rw [if_pos h, decide_eq_true (by omega)]; rfl
  · rw [if_neg h, decide_eq_false (by omega)]; rfl

theorem sgt_at (a b : ℕ) (ha : a < 256) (hb : b < 256) :
    IntOp.cmpi .sgt (BitVec.ofNat 32 a) (BitVec.ofNat 32 b) = if b < a then 1#1 else 0#1 :=
  slt_at b a hb ha

theorem ofBits_top : Ideal.ofBits .f32 0x7F800000#32 = (⊤ : EReal) := by simp [Ideal.ofBits, Ideal.ieee]
theorem ofBits_bot : Ideal.ofBits .f32 0xFF800000#32 = (⊥ : EReal) := by simp [Ideal.ofBits, Ideal.ieee]

/-- The triangle: one where the column is strictly earlier than the row. -/
theorem host_tri (c : Dev nD) (r s : Fin 256) : V m c main_v6 (ix2 r s) = (if s < r then 1 else 0 : EReal) := by
  simp only [V, hostOps, hostOps0, hostOps0_1, hostOps0_2, List.flatten_cons, List.flatten_nil, List.append_nil, List.cons_append, List.nil_append]
  after_reads_at
  rw [sgt_at _ _ r.isLt s.isLt]
  by_cases h : s < r
  · rw [if_pos (show s.val < r.val from h), if_pos h]
    show ((((1#1 : BitVec 1).toNat : ℕ) : ℝ) : EReal) = 1
    simp
  · rw [if_neg (show ¬ s.val < r.val from h), if_neg h]
    show ((((0#1 : BitVec 1).toNat : ℕ) : ℝ) : EReal) = 0
    simp

/-- The first plane masks nothing. -/
theorem host_off (c : Dev nD) (r : Fin 512) (s : Fin 256) : V m c main_v20 (ix3 0 r s) = (⊤ : EReal) := by
  simp only [V, hostOps, hostOps0, hostOps0_1, hostOps0_2, List.flatten_cons, List.flatten_nil, List.append_nil, List.cons_append, List.nil_append]
  after_reads_at
  exact ofBits_top

/-- The second keeps, in either head of a pair, the keys strictly before the row. -/
theorem host_diag (c : Dev nD) (h : Fin 2) (r s : Fin 256) : V m c main_v20 (ix3 1 (hrow h r) s) = (if s < r then ⊤ else ⊥ : EReal) := by
  simp only [V, hostOps, hostOps0, hostOps0_1, hostOps0_2, List.flatten_cons, List.flatten_nil, List.append_nil, List.cons_append, List.nil_append]
  after_reads_at
  show (if IntOp.cmpi .slt (BitVec.ofNat 32 s.val) (BitVec.ofNat 32 ((hrow h r).val % 256)) = 1#1
    then Ideal.ofBits .f32 0x7F800000#32 else Ideal.ofBits .f32 0xFF800000#32) = _
  have e : (hrow h r).val % 256 = r.val := by
    show (256 * h.val + r.val) % 256 = r.val
    omega
  rw [e, slt_at _ _ s.isLt r.isLt, ofBits_top, ofBits_bot]
  by_cases hs : s < r
  · rw [if_pos (show s.val < r.val from hs), if_pos hs, if_pos rfl]
  · rw [if_neg (show ¬ s.val < r.val from hs), if_neg hs, if_neg (by decide)]

end Cert.Proof.PI

end
-- ==== Proof.PI.Sweep.lean ====
/- The attention call's sweep over the reals: with the logits real, the triangle and the mask as the host builds them, an
   item's values are those of a row's own stick-breaking, the carry is the later blocks' part of its sum, and a query
   block ends at the weighted sum of all the values. -/
module

public import proofs.«01_k».proof.Proof.PI.Point

@[expose] public section

set_option maxRecDepth 16384

noncomputable section

namespace Cert.Proof.PI

open Cert.KernelIdeal Cert.KernelIdeal.Gen Cert.Attn
open Idealize.ShloMosaic

/-- A family over the keys as one over the numbers, zero beyond. -/
def onNat (f : Fin 8192 → EReal) (u : ℕ) : EReal := if h : u < 8192 then f ⟨u, h⟩ else 0

/-- A block's sum, over its numbers. -/
theorem sum_blk {α : Type} [AddCommMonoid α] (g : ℕ → α) (j : Fin 32) :
    ∑ x : Fin 256, g (blk j x).val = ∑ u ∈ Finset.Ico (256 * j.val) (256 * (j.val + 1)), g u := by
  rw [Finset.sum_Ico_eq_sum_range, show 256 * (j.val + 1) - 256 * j.val = 256 by omega, Finset.sum_range]
  rfl

/-- The part of a block's sum above a column. -/
theorem sum_blk_above {α : Type} [AddCommMonoid α] (g : ℕ → α) (j : Fin 32) (c : Fin 256) :
    ∑ x : Fin 256, (if c < x then g (blk j x).val else 0) = ∑ u ∈ Finset.Ico ((blk j c).val + 1) (256 * (j.val + 1)), g u := by
  have e : ∀ x : Fin 256, (if c < x then g (blk j x).val else 0) = (fun u => if (blk j c).val < u then g u else 0) (blk j x).val := fun x => by
    have : c < x ↔ (blk j c).val < (blk j x).val := by simp only [blk]; omega
    simp only [this]
  rw [Finset.sum_congr rfl fun x _ => e x, sum_blk (fun u => if (blk j c).val < u then g u else 0), ← Finset.sum_filter]
  refine Finset.sum_congr (Finset.ext fun u => ?_) fun _ _ => rfl
  have : (blk j c).val = 256 * j.val + c.val := rfl
  simp only [Finset.mem_filter, Finset.mem_Ico]
  omega

theorem sum_keys (f : Fin 8192 → EReal) : ∑ u ∈ Finset.Ico 0 8192, onNat f u = ∑ s : Fin 8192, f s := by
  rw [← Finset.range_eq_Ico, Finset.sum_range]
  exact Finset.sum_congr rfl fun s _ => dif_pos s.isLt

/-- What the five input blocks hold: real logits `z`, the triangle, the mask. -/
structure Fits (xq : Vec Ideal S1x2x8192x128 .bf16) (xk : Vec Ideal S1x8192x128 .bf16) (xt : Vec Ideal S256x256 .bf16)
    (xb : Vec Ideal S2x512x256 .f32) (z : Fin 2 → Fin 8192 → ℕ → ℝ) : Prop where
  logit : ∀ (h : Fin 2) (t s : Fin 8192), ∑ d : Fin 128, xq (ix4 0 h t d) * xk (ix3 0 s d) = (z h t s.val : EReal)
  tri : ∀ r c : Fin 256, xt (ix2 r c) = if c < r then 1 else 0
  off : ∀ (r : Fin 512) (c : Fin 256), xb (ix3 0 r c) = ⊤
  diag : ∀ (h : Fin 2) (r c : Fin 256), xb (ix3 1 (hrow h r) c) = if c < r then ⊤ else ⊥

section Sweep
variable {M : Mems} {xq : Vec Ideal S1x2x8192x128 .bf16} {xk : Vec Ideal S1x8192x128 .bf16} {xv : Vec Ideal S1x2x8192x128 .bf16}
  {xt : Vec Ideal S256x256 .bf16} {xb : Vec Ideal S2x512x256 .f32} {z : Fin 2 → Fin 8192 → ℕ → ℝ} (H : Fits xq xk xt xb z)
include H

theorem zOf_at (x : Item) (h : Fin 2) (r c : Fin 256) :
    zOf (Ins.of M xq xk xv xt xb) x (ix3 0 (hrow h r) c) = (z h (blk x.i r) (blk x.j c).val : EReal) := by
  unfold zOf
  refine (pay21_at _ ![rd M.q (rQ0 x) (M.hq.unread xq), rd M.q (rQ1 x) (M.hq.unread xq)] h r c).trans ?_
  rw [← H.logit h (blk x.i r) (blk x.j c)]
  refine Finset.sum_congr rfl fun d _ => ?_
  refine congrArg₂ (· * ·) ?_ (rdK_at xk x c d)
  rcases fin2 h with rfl | rfl
  · exact rdQ0_at xq x r d
  · exact rdQ1_at xq x r d

/-- The masked logit. -/
theorem mask_at (x : Item) (hj : x.j.val ≤ x.i.val) (h : Fin 2) (r c : Fin 256) :
    min (zOf (Ins.of M xq xk xv xt xb) x (ix3 0 (hrow h r) c)) (bOf (Ins.of M xq xk xv xt xb) x (ix3 0 (hrow h r) c))
      = if (blk x.j c).val < (blk x.i r).val then (z h (blk x.i r) (blk x.j c).val : EReal) else ⊥ := by
  rw [zOf_at H]
  unfold bOf
  have e := rdB_at (M := M) xb x (hrow h r) c
  refine (congrArg (min _) e).trans ?_
  have hb : (blk x.j c).val = 256 * x.j.val + c.val := rfl
  have hb' : (blk x.i r).val = 256 * x.i.val + r.val := rfl
  by_cases hd : x.j = x.i
  · rw [if_pos hd, H.diag]
    have : x.j.val = x.i.val := congrArg Fin.val hd
    by_cases hc : c < r
    · rw [if_pos hc, if_pos (by omega), min_top_right]
    · rw [if_neg hc, if_neg (by omega), min_bot_right]
  · rw [if_neg hd, H.off, min_top_right, if_pos]
    have : x.j.val ≠ x.i.val := fun e => hd (Fin.ext e)
    omega

theorem spOf_at (x : Item) (hj : x.j.val ≤ x.i.val) (h : Fin 2) (r c : Fin 256) :
    spOf (Ins.of M xq xk xv xt xb) x (ix2 (hrow h r) c) = (spm (z h (blk x.i r)) (blk x.i r).val (blk x.j c).val : EReal) := by
  unfold spOf
  rw [pay13_at _ _ _ _ rfl]
  exact softplus_masked _ _ _ (mask_at H x hj h r c)

/-- The carry is the later blocks' part of the row's sum. -/
theorem cN_at (i : Fin 32) (h : Fin 2) (r : Fin 256) : ∀ n : ℕ, n ≤ i.val + 1 →
    cN (Ins.of M xq xk xv xt xb) i n (ix2 (hrow h r) 0)
      = ((∑ u ∈ Finset.Ico (256 * (i.val + 1 - n)) (256 * (i.val + 1)), spm (z h (blk i r)) (blk i r).val u : ℝ) : EReal)
  | 0, _ => by
    rw [cN, pay27_at, Nat.sub_zero, Finset.Ico_self, Finset.sum_empty, EReal.coe_zero]
  | n + 1, hn => by
    have hle : (item i n).j.val ≤ (item i n).i.val := by show i.val - n ≤ i.val; omega
    have hs : ∀ c : Fin 256, spOf (Ins.of M xq xk xv xt xb) (item i n) (ix2 (hrow h r) c)
        = (spm (z h (blk i r)) (blk i r).val (blk (item i n).j c).val : EReal) := spOf_at H (item i n) hle h r
    rw [cN, pay18_at, pay14_at]
    · rw [cN_at i h r n (by omega), Finset.sum_congr rfl fun c _ => hs c, ← coe_sum,
        sum_blk (fun u => spm (z h (blk i r)) (blk i r).val u) (item i n).j, ← EReal.coe_add, add_comm,
        show (item i n).j.val = i.val + 1 - (n + 1) by show i.val - n = _; omega,
        show 256 * (i.val + 1 - (n + 1) + 1) = 256 * (i.val + 1 - n) by omega,
        Finset.sum_Ico_consecutive _ (by omega) (by omega)]
    · intro hc
      have := congrArg Fin.val (word_inj hc)
      have h0 : n = 0 := by simp only [item] at this; omega
      subst h0
      rw [cN, pay27_at]

/-- The exponents. -/
theorem eOf_at (x : Item) (hj : x.j.val ≤ x.i.val) (h : Fin 2) (r c : Fin 256) :
    eOf (Ins.of M xq xk xv xt xb) x (ix3 0 (hrow h r) c)
      = if (blk x.j c).val < (blk x.i r).val then ((z h (blk x.i r) (blk x.j c).val - sp (z h (blk x.i r) (blk x.j c).val)
          - ∑ u ∈ Finset.Ico (256 * (x.j.val + 1)) (256 * (x.i.val + 1)), spm (z h (blk x.i r)) (blk x.i r).val u : ℝ) : EReal) else ⊥ := by
  unfold eOf
  have e1 : k0_pay13 (zOf (Ins.of M xq xk xv xt xb) x) (bOf (Ins.of M xq xk xv xt xb) x) (ix2 (hrow h r) c) = _ := spOf_at H x hj h r c
  have e2 : carry (Ins.of M xq xk xv xt xb) x (ix2 (hrow h r) 0)
      = ((∑ u ∈ Finset.Ico (256 * (x.j.val + 1)) (256 * (x.i.val + 1)), spm (z h (blk x.i r)) (blk x.i r).val u : ℝ) : EReal) := by
    unfold carry
    rw [cN_at H x.i h r _ (by omega), show x.i.val + 1 - (x.i.val - x.j.val) = x.j.val + 1 by omega]
  rw [pay15_at, pay12_at, e1, pay14_at, e2]
  · exact exponent_masked _ _ _ _ (mask_at H x hj h r c)
  · intro hc
    rw [e2, show x.j.val = x.i.val from congrArg Fin.val (word_inj hc), Finset.Ico_self, Finset.sum_empty, EReal.coe_zero]

/-- The weights are the row's. -/
theorem wOf_at (x : Item) (hj : x.j.val ≤ x.i.val) (h : Fin 2) (r c : Fin 256) :
    wOf (Ins.of M xq xk xv xt xb) x (ix3 0 r (hrow h c)) = (wt (z h (blk x.i r)) (blk x.i r).val (blk x.j c).val : EReal) := by
  unfold wOf
  rw [pay11_at]
  have e : ∑ a : Fin 256, sOf (Ins.of M xq xk xv xt xb) x (ix3 0 (hrow h r) a) * rd M.t whT (Ins.of M xq xk xv xt xb).t (ix2 a c)
      = ((∑ u ∈ Finset.Ico ((blk x.j c).val + 1) (256 * (x.j.val + 1)), spm (z h (blk x.i r)) (blk x.i r).val u : ℝ) : EReal) := by
    rw [← sum_blk_above, coe_sum]
    refine Finset.sum_congr rfl fun a _ => ?_
    have e1 : sOf (Ins.of M xq xk xv xt xb) x (ix3 0 (hrow h r) a) = _ := (pay17_at _ _ _ _).trans (spOf_at H x hj h r a)
    have e2 : rd M.t whT (Ins.of M xq xk xv xt xb).t (ix2 a c) = _ := (rdT_at xt a c).trans (H.tri a c)
    rw [e1, e2]
    split
    · rw [mul_one]
    · rw [mul_zero, EReal.coe_zero]
  rw [e]
  refine weight_masked _ _ _ _ _ (fun hs => ?_) (eOf_at H x hj h r c)
  have hb : (blk x.j c).val = 256 * x.j.val + c.val := rfl
  have hb' : (blk x.i r).val = 256 * x.i.val + r.val := rfl
  rw [sum_spm_cut (n := 256 * (x.i.val + 1)) (by omega) (by omega) (by omega), add_comm,
    Finset.sum_Ico_consecutive _ (by omega) (by omega)]

/-- One key's part of a row's result. -/
def part (z : Fin 2 → Fin 8192 → ℕ → ℝ) (xv : Vec Ideal S1x2x8192x128 .bf16) (t : Fin 8192) (l : Fin 128) (s : Fin 8192) : EReal :=
  (wt (z 0 t) t.val s.val : EReal) * xv (ix4 0 0 s l) + (wt (z 1 t) t.val s.val : EReal) * xv (ix4 0 1 s l)

omit H in
theorem onNat_blk (f : Fin 8192 → EReal) (j : Fin 32) (x : Fin 256) : f (blk j x) = onNat f (blk j x).val := by
  unfold onNat
  rw [dif_pos (blk j x).isLt]

/-- The accumulator is the later blocks' part of the row's result. -/
theorem aN_at (i : Fin 32) (r : Fin 256) (l : Fin 128) : ∀ n : ℕ, n ≤ i.val + 1 →
    aN (Ins.of M xq xk xv xt xb) i n (ix2 r l)
      = ∑ u ∈ Finset.Ico (256 * (i.val + 1 - n)) (256 * (i.val + 1)), onNat (part z xv (blk i r) l) u
  | 0, _ => by rw [aN, pay6_at, Nat.sub_zero, Finset.Ico_self, Finset.sum_empty]
  | n + 1, hn => by
    have hle : (item i n).j.val ≤ (item i n).i.val := by show i.val - n ≤ i.val; omega
    have e' : Scalar.cmpi .eq (item i n).wv 1#32 = 1#1 := cmpi_self _
    rw [aN]
    unfold aft
    rw [pay8_at _ _ _ _ _ _ _ e']
    · rw [aN_at i r l n (by omega)]
      have e : ∀ x : Fin 256, wOf (Ins.of M xq xk xv xt xb) (item i n) (ix3 0 r (hrow 0 x)) * rd M.v (rV0 (item i n)) (Ins.of M xq xk xv xt xb).v (ix4 0 0 x l)
          + wOf (Ins.of M xq xk xv xt xb) (item i n) (ix3 0 r (hrow 1 x)) * rd M.v (rV1 (item i n)) (Ins.of M xq xk xv xt xb).v (ix4 0 0 x l)
          = onNat (part z xv (blk i r) l) (blk (item i n).j x).val := fun x => by
        have e3 : rd M.v (rV0 (item i n)) (Ins.of M xq xk xv xt xb).v (ix4 0 0 x l) = _ := rdV0_at xv (item i n) x l
        have e4 : rd M.v (rV1 (item i n)) (Ins.of M xq xk xv xt xb).v (ix4 0 0 x l) = _ := rdV1_at xv (item i n) x l
        rw [wOf_at H _ hle, wOf_at H _ hle, e3, e4, ← onNat_blk]
        rfl
      rw [Finset.sum_congr rfl fun x _ => e x, sum_blk (fun u => onNat (part z xv (blk i r) l) u), add_comm,
        show (item i n).j.val = i.val + 1 - (n + 1) by show i.val - n = _; omega,
        show 256 * (i.val + 1 - (n + 1) + 1) = 256 * (i.val + 1 - n) by omega,
        Finset.sum_Ico_consecutive _ (by omega) (by omega)]
    · intro hc
      have := congrArg Fin.val (word_inj hc)
      have h0 : n = 0 := by simp only [item] at this; omega
      subst h0
      rw [aN, pay6_at]

omit H in
/-- A key not strictly earlier has no part. -/
theorem part_of_le (t : Fin 8192) (l : Fin 128) (s : Fin 8192) (h : t.val ≤ s.val) : part z xv t l s = 0 := by
  unfold part
  rw [wt_of_le h, wt_of_le h, EReal.coe_zero, zero_mul, zero_mul, add_zero]

/-- A query block's rows end at the sum of all the keys' parts. -/
theorem outOf_at (i : Fin 32) (r : Fin 256) (l : Fin 128) :
    outOf (Ins.of M xq xk xv xt xb) i (ix3 0 r l) = ∑ s : Fin 8192, part z xv (blk i r) l s := by
  have e : outOf (Ins.of M xq xk xv xt xb) i (ix3 0 r l) = aN (Ins.of M xq xk xv xt xb) i (i.val + 1) (ix2 r l) := by
    unfold outOf
    generalize aN (Ins.of M xq xk xv xt xb) i (i.val + 1) = a
    pointwise []
  rw [e, aN_at H i r l _ le_rfl, Nat.sub_self, Nat.mul_zero, ← sum_keys,
    ← Finset.sum_Ico_consecutive _ (Nat.zero_le (256 * (i.val + 1))) (show 256 * (i.val + 1) ≤ 8192 by omega)]
  rw [Finset.sum_eq_zero (s := Finset.Ico (256 * (i.val + 1)) 8192), add_zero]
  intro u hu
  have hu' := Finset.mem_Ico.mp hu
  unfold onNat
  rw [dif_pos hu'.2]
  refine part_of_le _ _ _ ?_
  show 256 * i.val + r.val ≤ u
  omega

end Sweep

end Cert.Proof.PI

end
-- ==== Proof.RI.Cumsum.lean ====
/- The reference's running sum over the reals, from a key to the last. -/
module

public import proofs.«01_k».proof.Proof.Gen.ReferenceIdeal.Read
public import Idealize.ShloMosaic.Lib.Pointwise
public import Idealize.ShloMosaic.Lib.ValueIdx

@[expose] public section

set_option maxRecDepth 16384

noncomputable section

namespace Cert.Proof.RI

open Cert.ReferenceIdeal Cert.ReferenceIdeal.Gen Cert.ReferenceIdeal.Read
open Idealize.ShloMosaic

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

theorem foldl_fin {n : ℕ} (g : Fin n → EReal) (v : EReal) :
    (List.finRange n).foldl (fun r i => r + g i) v = v + ∑ i : Fin n, g i := by
  rw [foldl_add, Fin.sum_univ_def]

/-- An index of a window of `N` entries along the last of four axes is one of `N`. -/
def keyEquiv (N : ℕ) : (⟨4, ![1, 1, 1, N]⟩ : Shape).Idx ≃ Fin N where
  toFun w := w 3
  invFun u := ix4 (0 : Fin 1) (0 : Fin 1) (0 : Fin 1) u
  left_inv w := by
    funext a
    fin_cases a
    · exact Fin.ext (by have h : (w 0).val < 1 := (w 0).isLt; show 0 = (w 0).val; omega)
    · exact Fin.ext (by have h : (w 1).val < 1 := (w 1).isLt; show 0 = (w 1).val; omega)
    · exact Fin.ext (by have h : (w 2).val < 1 := (w 2).isLt; show 0 = (w 2).val; omega)
    · rfl
  right_inv u := rfl

theorem key_val {N : ℕ} (w : (⟨4, ![1, 1, 1, N]⟩ : Shape).Idx) : (w 3).val = (keyEquiv N w).val := rfl

/-- A sum over the window of all the later entries, each entry past the last counted as nothing: at an entry, the sum of
    it and the later ones. -/
theorem window_at {A B T N K : ℕ} (x : (⟨4, ![A, B, T, N]⟩ : Shape).Idx → EReal) (init : (⟨0, ![]⟩ : Shape).Idx → EReal) (hinit : ∀ i, init i = 0)
    (h : (⟨4, ![A, B, T, N]⟩ : Shape).ReduceWindows (![1, 1, 1, N] : Fin 4 → Nat) ![1, 1, 1, 1] ![0, 0, 0, 0] ![0, 0, 0, K] ⟨4, ![A, B, T, N]⟩) (hu : 0 < (⟨0, ![]⟩ : Shape).numel)
    (b : Fin A) (g : Fin B) (t : Fin T) (s : Fin N) :
    Host.reduceWindow (fun a b : EReal => a + b) (![1, 1, 1, N] : Fin 4 → Nat) ![1, 1, 1, 1] ![0, 0, 0, 0] ![0, 0, 0, K] x init h hu (ix4 b g t s)
      = ∑ u : Fin N, if hh : s.val + u.val < N then x (ix4 b g t ⟨s.val + u.val, hh⟩) else 0 := by
  unfold Host.reduceWindow
  refine (foldl_fin _ _).trans ?_
  rw [hinit, zero_add, ← Equiv.sum_comp ((⟨4, ![1, 1, 1, N]⟩ : Shape).rowMajor.symm.trans (keyEquiv N))]
  refine Finset.sum_congr rfl fun n _ => ?_
  let w : (⟨4, ![1, 1, 1, N]⟩ : Shape).Idx := (⟨4, ![1, 1, 1, N]⟩ : Shape).rowMajor.symm n
  show _ = if hh : s.val + (keyEquiv N w).val < N then x (ix4 b g t ⟨s.val + (keyEquiv N w).val, hh⟩) else 0
  have w0 : (w 0).val < 1 := (w 0).isLt
  have w1 : (w 1).val < 1 := (w 1).isLt
  have w2 : (w 2).val < 1 := (w 2).isLt
  by_cases hh : s.val + (w 3).val < N
  · rw [dif_pos (show s.val + (keyEquiv N w).val < N from hh)]
    have hin : ∀ a : Fin 4, (![0, 0, 0, 0] : Fin 4 → Nat) a ≤ ((ix4 b g t s : (⟨4, ![A, B, T, N]⟩ : Shape).Idx) a).val * (![1, 1, 1, 1] : Fin 4 → Nat) a + (w a).val
        ∧ ((ix4 b g t s : (⟨4, ![A, B, T, N]⟩ : Shape).Idx) a).val * (![1, 1, 1, 1] : Fin 4 → Nat) a + (w a).val - (![0, 0, 0, 0] : Fin 4 → Nat) a < (![A, B, T, N] : Fin 4 → Nat) a := by
      intro a
      fin_cases a
      · refine ⟨Nat.zero_le _, ?_⟩
        show b.val * 1 + (w 0).val - 0 < A
        omega
      · refine ⟨Nat.zero_le _, ?_⟩
        show g.val * 1 + (w 1).val - 0 < B
        omega
      · refine ⟨Nat.zero_le _, ?_⟩
        show t.val * 1 + (w 2).val - 0 < T
        omega
      · refine ⟨Nat.zero_le _, ?_⟩
        show s.val * 1 + (w 3).val - 0 < N
        omega
    refine (dif_pos hin).trans (congrArg x (funext fun a => Fin.ext ?_))
    fin_cases a
    · show b.val * 1 + (w 0).val - 0 = b.val; omega
    · show g.val * 1 + (w 1).val - 0 = g.val; omega
    · show t.val * 1 + (w 2).val - 0 = t.val; omega
    · show s.val * 1 + (w 3).val - 0 = s.val + (w 3).val; omega
  · rw [dif_neg (show ¬ s.val + (keyEquiv N w).val < N from hh)]
    refine dif_neg fun hin => hh ?_
    have h3 : s.val * 1 + (w 3).val - 0 < N := (hin 3).2
    omega

/-- The reference's running sum is that. -/
theorem windowAdd_at {A B T N K : ℕ} (x : FVec Ideal ⟨4, ![A, B, T, N]⟩ .f32) (init : FVec Ideal ⟨0, ![]⟩ .f32) (hinit : ∀ i, init i = (0 : EReal))
    (h : (⟨4, ![A, B, T, N]⟩ : Shape).ReduceWindows (![1, 1, 1, N] : Fin 4 → Nat) ![1, 1, 1, 1] ![0, 0, 0, 0] ![0, 0, 0, K] ⟨4, ![A, B, T, N]⟩) (hu : 0 < (⟨0, ![]⟩ : Shape).numel)
    (b : Fin A) (g : Fin B) (t : Fin T) (s : Fin N) :
    Host.reduceWindowAdd (![1, 1, 1, N] : Fin 4 → Nat) ![1, 1, 1, 1] ![0, 0, 0, 0] ![0, 0, 0, K] x init h hu (ix4 b g t s)
      = ∑ u : Fin N, if hh : s.val + u.val < N then (x (ix4 b g t ⟨s.val + u.val, hh⟩) : EReal) else 0 :=
  window_at x (fun _ => init (Shape.Idx.first hu)) (fun _ => hinit _) h (by decide) b g t s

/-- The same sum over the entries themselves. -/
theorem sum_later {N : ℕ} (f : ℕ → EReal) (s : ℕ) :
    ∑ u : Fin N, (if s + u.val < N then f (s + u.val) else 0) = ∑ u ∈ Finset.Ico s N, f u := by
  rw [Finset.sum_Ico_eq_sum_range, Fin.sum_univ_eq_sum_range (fun u => if s + u < N then f (s + u) else 0) N, ← Finset.sum_filter]
  refine Finset.sum_congr (Finset.ext fun u => ?_) fun _ _ => rfl
  simp only [Finset.mem_filter, Finset.mem_range]
  omega

end Cert.Proof.RI

end
-- ==== Proof.RI.Weights.lean ====
/- The reference over the reals, read at an element: with every logit real, its weights are those of stick-breaking, and
   a result is the weighted sum of the values. -/
module

public import proofs.«01_k».proof.Proof.RI.Cumsum
public import proofs.«01_k».proof.Proof.Attn.Stick

@[expose] public section

set_option maxRecDepth 16384

noncomputable section

namespace Cert.Proof.RI

open Cert.ReferenceIdeal Cert.ReferenceIdeal.Gen Cert.ReferenceIdeal.Read Cert.Attn
open Idealize.ShloMosaic

/-- The two halves of a head's padded lanes, and a head's lane among all the lanes. -/
def lo (d : Fin 64) : Fin 128 := ⟨d.val, by omega⟩
def hi (d : Fin 64) : Fin 128 := ⟨64 + d.val, by omega⟩
def lane (h : Fin 8) (d : Fin 64) : Fin 512 := ⟨64 * h.val + d.val, by omega⟩

variable (x0 x2 : S4x8x8192x128.Idx → EReal) (x1 : S4x8192x512.Idx → EReal)

theorem q_at (b : Fin 4) (h : Fin 8) (t : Fin 8192) (d : Fin 64) :
    val_main_v6 (F := Ideal) x0 (ix4 b h t d) = x0 (ix4 b h t (lo d)) + x0 (ix4 b h t (hi d)) := by
  rw [val_main_v6_apply, val_main_v4_apply, val_main_v5_apply, val_main_v3_apply, val_main_v3_apply]
  refine congrArg₂ (fun a b : EReal => a + b) (congrArg x0 (funext fun a => Fin.ext ?_)) (congrArg x0 (funext fun a => Fin.ext ?_))
  · fin_cases a <;> simp [ix4, lo]
  · fin_cases a <;> simp [ix4, hi]

theorem v_at (b : Fin 4) (h : Fin 8) (t : Fin 8192) (d : Fin 64) :
    val_main_v10 (F := Ideal) x2 (ix4 b h t d) = x2 (ix4 b h t (lo d)) + x2 (ix4 b h t (hi d)) := by
  rw [val_main_v10_apply, val_main_v8_apply, val_main_v9_apply, val_main_v7_apply, val_main_v7_apply]
  refine congrArg₂ (fun a b : EReal => a + b) (congrArg x2 (funext fun a => Fin.ext ?_)) (congrArg x2 (funext fun a => Fin.ext ?_))
  · fin_cases a <;> simp [ix4, lo]
  · fin_cases a <;> simp [ix4, hi]

theorem k_at (b : Fin 4) (h : Fin 8) (s : Fin 8192) (d : Fin 64) :
    val_main_v2 (F := Ideal) x1 (ix4 b h s d) = x1 (ix3 b s (lane h d)) := by
  rw [val_main_v2_apply, val_main_v1_apply, val_main_v0_apply]
  refine congrArg x1 (funext fun a => Fin.ext ?_)
  fin_cases a
  · show (((b.val * 8192 + s.val) * 8 + h.val) * 64 + d.val) / 4194304 = b.val; omega
  · show (((b.val * 8192 + s.val) * 8 + h.val) * 64 + d.val) / 512 % 8192 = s.val; omega
  · show (((b.val * 8192 + s.val) * 8 + h.val) * 64 + d.val) % 512 = 64 * h.val + d.val; omega

/-- A head's logit. -/
def logit (b : Fin 4) (h : Fin 8) (t s : Fin 8192) : EReal :=
  ∑ d : Fin 64, (x0 (ix4 b h t (lo d)) + x0 (ix4 b h t (hi d))) * x1 (ix3 b s (lane h d))

theorem logit_at (b : Fin 4) (h : Fin 8) (t s : Fin 8192) :
    val_main_v11 (F := Ideal) x0 x1 (ix4 b h t s) = logit x0 x1 b h t s := by
  rw [val_main_v11_apply]
  refine Finset.sum_congr rfl fun d _ => ?_
  rw [← q_at, ← k_at x1]
  refine congrArg₂ (fun a b : EReal => a * b) (congrArg _ (funext fun a => ?_)) (congrArg _ (funext fun a => ?_))
  · fin_cases a <;> rfl
  · fin_cases a <;> rfl

theorem two_bits : Ideal.ofBits .f32 0x40000000#32 = ((2 : ℝ) : EReal) := by
  simp [Ideal.ofBits, Ideal.ieee]
  norm_num
  rw [← EReal.coe_mul]
  norm_num
theorem zero_bits : Ideal.ofBits .f32 0x00000000#32 = (0 : EReal) := by
  simp [Ideal.ofBits, Ideal.ieee]

theorem log_two_at (i : S_.Idx) : val_main_v12 (F := Ideal) i = ((Real.log 2 : ℝ) : EReal) := by
  show Ideal.log (Ideal.ofBits .f32 0x40000000#32) = _
  rw [two_bits, Ideal.log_coe]
  simp

variable (z : Fin 4 → Fin 8 → Fin 8192 → ℕ → ℝ)
variable (hz : ∀ b h t (s : Fin 8192), logit x0 x1 b h t s = (z b h t s.val : EReal))

include hz in
theorem z_at (b : Fin 4) (h : Fin 8) (t s : Fin 8192) :
    val_main_v14 (F := Ideal) x0 x1 (ix4 b h t s) = ((z b h t s.val * Real.log 2 : ℝ) : EReal) := by
  rw [val_main_v14_apply, logit_at, hz, val_main_v13_apply, log_two_at]
  exact (EReal.coe_mul _ _).symm

/-- The keys a row sees. -/
theorem seen_at (t s : Fin 8192) : val_main_v21 (F := Ideal) (ix2 t s) = if s < t then 1#1 else 0#1 := by
  rw [val_main_v21_apply, val_main_v19_apply, val_main_v18_apply, val_main_v17_apply, val_main_v20_apply, val_main_v16_apply, val_main_v15_apply]
  show BitVec.ofBool ((BitVec.ofNat 32 s.val).slt (BitVec.ofNat 32 t.val)) = _
  have e : ∀ n : ℕ, n < 8192 → (BitVec.ofNat 32 n).toInt = n := fun n hn => by
    rw [BitVec.toInt_eq_toNat_cond, BitVec.toNat_ofNat, Nat.mod_eq_of_lt (by omega), if_pos (by omega)]
  rw [BitVec.slt, e _ s.isLt, e _ t.isLt]
  by_cases h : s < t
  · rw [if_pos h, decide_eq_true (by simpa using h)]; rfl
  · rw [if_neg h, decide_eq_false (by simpa using h)]; rfl

/-- The natural softplus, as the reference computes it, of a real. -/
theorem softplus_at (y : ℝ) :
    Scalar.select (Ideal.cmp .une ((y : EReal) - 0) ((y : EReal) - 0)) ((y : EReal) + 0)
      (max (y : EReal) 0 + Ideal.log1p (Ideal.exp (-(max ((y : EReal) - 0) (-((y : EReal) - 0))))))
      = ((max y 0 + Real.log (1 + Real.exp (-|y|)) : ℝ) : EReal) := by
  have e1 : max (y : EReal) (-(y : EReal)) = ((|y| : ℝ) : EReal) := by
    rw [← EReal.coe_neg, abs_eq_max_neg]; exact (EReal.coe_strictMono.monotone.map_max).symm
  have e0 : Ideal.cmp .une ((y : EReal) - 0) ((y : EReal) - 0) = 0#1 := by simp [Ideal.cmp]
  rw [e0, sub_zero, e1]
  show max (y : EReal) 0 + Ideal.log (1 + Ideal.exp (-((|y| : ℝ) : EReal))) = _
  have e3 : (1 : EReal) + Ideal.exp (-((|y| : ℝ) : EReal)) = ((1 + Real.exp (-|y|) : ℝ) : EReal) := by
    rw [← EReal.coe_neg, Ideal.exp_coe, EReal.coe_add, EReal.coe_one]
  have e4 : max (y : EReal) 0 = ((max y 0 : ℝ) : EReal) := by
    rw [← EReal.coe_zero]; exact (EReal.coe_strictMono.monotone.map_max).symm
  rw [e3, Ideal.log_coe, if_neg (not_le.mpr (by positivity)), e4, EReal.coe_add]

include hz in
/-- The log of what a key lets through. -/
theorem through_at (b : Fin 4) (h : Fin 8) (t s : Fin 8192) :
    val_main_v23 (F := Ideal) x0 x1 (ix4 b h t s) = ((-(Real.log 2 * sp (z b h t s.val)) : ℝ) : EReal) := by
  rw [EReal.coe_neg, ← natural_sp, ← softplus_at]
  have e : val_main_call0_v0 (F := Ideal) x0 x1 (ix4 b h t s) = ((z b h t s.val * Real.log 2 : ℝ) : EReal) := by
    rw [val_main_call0_v0_apply, val_main_v22_apply, z_at x0 x1 z hz]
    exact neg_neg _
  rw [← e, ← zero_bits]
  rfl

include hz in
/-- The log of what a key takes. -/
theorem takes_at (b : Fin 4) (h : Fin 8) (t s : Fin 8192) :
    val_main_v27 (F := Ideal) x0 x1 (ix4 b h t s) = ((Real.log 2 * (z b h t s.val - sp (z b h t s.val)) : ℝ) : EReal) := by
  rw [sub_sp, mul_neg, EReal.coe_neg, ← natural_sp, ← softplus_at]
  have e : val_main_call3_v0 (F := Ideal) x0 x1 (ix4 b h t s) = ((-z b h t s.val * Real.log 2 : ℝ) : EReal) := by
    rw [val_main_call3_v0_apply, z_at x0 x1 z hz, neg_mul]
    exact (EReal.coe_neg _).symm
  rw [← e, ← zero_bits]
  rfl

include hz in
theorem later_at (b : Fin 4) (h : Fin 8) (t s : Fin 8192) :
    val_main_v24 (F := Ideal) x0 x1 (ix4 b h t s) = ((-(Real.log 2 * spm (z b h t) t.val s.val) : ℝ) : EReal) := by
  rw [val_main_v24_apply, through_at x0 x1 z hz, val_main_call1_v1_apply,
    show idx_main_call1_v1 (ix4 b h t s) = ix2 t s from funext fun a => by fin_cases a <;> rfl, seen_at]
  by_cases hs : s < t
  · rw [if_pos hs, spm, if_pos (show s.val < t.val from hs)]; rfl
  · rw [if_neg hs, spm, if_neg (show ¬ s.val < t.val from hs), mul_zero, neg_zero]
    exact zero_bits

include hz in
/-- The running sum over the strictly later keys. -/
theorem between_at (b : Fin 4) (h : Fin 8) (t s : Fin 8192) :
    val_main_v26 (F := Ideal) x0 x1 (ix4 b h t s)
      = ((-(Real.log 2 * ∑ u ∈ Finset.Ico (s.val + 1) 8192, spm (z b h t) t.val u) : ℝ) : EReal) := by
  have e : val_main_v25 (F := Ideal) x0 x1 (ix4 b h t s)
      = ((-(Real.log 2 * ∑ u ∈ Finset.Ico s.val 8192, spm (z b h t) t.val u) : ℝ) : EReal) := by
    unfold val_main_v25
    rw [windowAdd_at (A := 4) (B := 8) (T := 8192) (N := 8192) (K := 8191) _ (val_main_call2_v0 (F := Ideal)) (fun _ => zero_bits)]
    rw [Finset.mul_sum, ← Finset.sum_neg_distrib, coe_sum, ← sum_later (fun u => ((-(Real.log 2 * spm (z b h t) t.val u) : ℝ) : EReal)) s.val]
    refine Finset.sum_congr rfl fun u _ => ?_
    by_cases hh : s.val + u.val < 8192
    · rw [dif_pos hh, if_pos hh, later_at x0 x1 z hz]
    · rw [dif_neg hh, if_neg hh]
  rw [val_main_v26_apply, e, later_at x0 x1 z hz]
  refine (EReal.coe_sub _ _).symm.trans (congrArg _ ?_)
  rw [Finset.sum_eq_sum_Ico_succ_bot s.isLt]
  ring

include hz in
/-- The weight of a key. -/
theorem weight_at (b : Fin 4) (h : Fin 8) (t s : Fin 8192) :
    val_main_v30 (F := Ideal) x0 x1 (ix4 b h t s) = (wt (z b h t) t.val s.val : EReal) := by
  rw [val_main_v30_apply, val_main_call4_v1_apply,
    show idx_main_call4_v1 (ix4 b h t s) = ix2 t s from funext fun a => by fin_cases a <;> rfl, seen_at,
    val_main_v29_apply, val_main_v28_apply, takes_at x0 x1 z hz, between_at x0 x1 z hz]
  by_cases hs : s < t
  · rw [if_pos hs, wt, if_pos (show s.val < t.val from hs), rpow_two]
    show Ideal.exp (((Real.log 2 * (z b h t s.val - sp (z b h t s.val)) : ℝ) : EReal) + ((-(Real.log 2 * ∑ u ∈ Finset.Ico (s.val + 1) 8192, spm (z b h t) t.val u) : ℝ) : EReal)) = _
    rw [← EReal.coe_add, Ideal.exp_coe]
    congr 2
    ring
  · rw [if_neg hs, wt, if_neg (show ¬ s.val < t.val from hs)]
    exact zero_bits

include hz in
/-- The reference's result at an element: the weighted sum of the values. -/
theorem result_at (b : Fin 4) (h : Fin 8) (t : Fin 8192) (d : Fin 64) :
    val_main_v34 (F := Ideal) x0 x1 x2 (ix3 b t (lane h d))
      = ∑ s : Fin 8192, (wt (z b h t) t.val s.val : EReal) * (x2 (ix4 b h s (lo d)) + x2 (ix4 b h s (hi d))) := by
  rw [val_main_v34_apply, val_main_v33_apply, val_main_v32_apply]
  show val_main_v31 (F := Ideal) x0 x1 x2 _ = _
  rw [show idx_main_v32 (idx_main_v33 (ix3 b t (lane h d))) = ix4 b h t d from funext fun a => Fin.ext (by
    fin_cases a
    · show ((b.val * 8192 + t.val) * 512 + (64 * h.val + d.val)) / 4194304 = b.val; omega
    · show ((b.val * 8192 + t.val) * 512 + (64 * h.val + d.val)) / 64 % 8 = h.val; omega
    · show ((b.val * 8192 + t.val) * 512 + (64 * h.val + d.val)) / 512 % 8192 = t.val; omega
    · show ((b.val * 8192 + t.val) * 512 + (64 * h.val + d.val)) % 64 = d.val; omega)]
  rw [val_main_v31_apply]
  refine Finset.sum_congr rfl fun s _ => ?_
  rw [← weight_at x0 x1 z hz, ← v_at x2]
  refine congrArg₂ (fun a b : EReal => a * b) (congrArg _ (funext fun a => ?_)) (congrArg _ (funext fun a => ?_))
  · fin_cases a <;> rfl
  · fin_cases a <;> rfl

end Cert.Proof.RI

end
-- ==== Proof.PI.Value.lean ====
/- The attention call computes the reference: under the padding of the heads, its logits are the heads' own, and each lane
   of its result is the weighted sum of the head that owns the lane. -/
module

public import proofs.«01_k».proof.Defs
public import proofs.«01_k».proof.Proof.Gen.Pre_heads_padded
public import proofs.«01_k».proof.Proof.PI.Run
public import proofs.«01_k».proof.Proof.PI.Host
public import proofs.«01_k».proof.Proof.PI.Sweep
public import proofs.«01_k».proof.Proof.RI.Weights

@[expose] public section

set_option maxRecDepth 16384

noncomputable section

namespace Cert.Proof.PI

open Cert.KernelIdeal Cert.KernelIdeal.Gen Cert.Attn Cert.Proof.PI.Run
open Cert.Proof.RI (lo hi lane logit)
open Idealize.ShloMosaic Idealize.ShloMosaic.TcCoe Idealize.SL.Sem

/-! ## The padding -/

/-- The queries and keys are real, and a head's queries and values are zero on the lanes of its pair that are not its own. -/
structure Padded (q v : S4x8x8192x128.Idx → EReal) (k : S4x8192x512.Idx → EReal) : Prop where
  q_real : ∀ i, ∃ x : ℝ, q i = (x : EReal)
  k_real : ∀ i, ∃ x : ℝ, k i = (x : EReal)
  q_even : ∀ (b p : Fin 4) (t : Fin 8192) (d : Fin 64), q (ix4 b (hd p 0) t (hi d)) = 0
  q_odd : ∀ (b p : Fin 4) (t : Fin 8192) (d : Fin 64), q (ix4 b (hd p 1) t (lo d)) = 0
  v_even : ∀ (b p : Fin 4) (t : Fin 8192) (d : Fin 64), v (ix4 b (hd p 0) t (hi d)) = 0
  v_odd : ∀ (b p : Fin 4) (t : Fin 8192) (d : Fin 64), v (ix4 b (hd p 1) t (lo d)) = 0

theorem real_of_lt {x : EReal} (h : Ideal.cmp .olt (max x (-x)) (Ideal.ofBits .f32 0x7F800000#32) = 1#1) : ∃ r : ℝ, x = (r : EReal) := by
  rw [ofBits_top] at h
  induction x with
  | bot => simp [Ideal.cmp] at h
  | top => simp [Ideal.cmp] at h
  | coe r => exact ⟨r, rfl⟩

theorem eq_of_oeq {x : EReal} (h : Ideal.cmp .oeq x (Ideal.ofBits .f32 0x00000000#32) = 1#1) : x = 0 := by
  rw [Cert.Proof.RI.zero_bits] at h
  by_contra hx
  simp [Ideal.cmp, hx] at h

attribute [local instance] Cert.Pre_heads_padded.Gen.facts in
/-- The stated precondition says that. -/
theorem padded_of_pre (m : (ℓ : Loc nD τ sig) → Buf (Elt Ideal) ℓ) (h : Cert.Pre_KernelIdeal_heads_padded m) (c : Dev nD) :
    Padded (m ((c.tc : Thread nD τ).loc main_arg0)) (m ((c.tc : Thread nD τ).loc main_arg2)) (m ((c.tc : Thread nD τ).loc main_arg1)) where
  q_real i := real_of_lt (congrFun (h c).1 i)
  k_real i := real_of_lt (congrFun (h c).2.1 i)
  q_even b p t d := by
    refine Eq.trans (congrArg (m ((c.tc : Thread nD τ).loc main_arg0)) (funext fun a => Fin.ext ?_)) (eq_of_oeq (congrFun (h c).2.2.1 (ix4 b p t d)))
    fin_cases a
    · show b.val = 0 + 1 * b.val; omega
    · show 2 * p.val + 0 = 0 + 2 * p.val; omega
    · show t.val = 0 + 1 * t.val; omega
    · show 64 + d.val = 64 + 1 * d.val; omega
  q_odd b p t d := by
    refine Eq.trans (congrArg (m ((c.tc : Thread nD τ).loc main_arg0)) (funext fun a => Fin.ext ?_)) (eq_of_oeq (congrFun (h c).2.2.2.1 (ix4 b p t d)))
    fin_cases a
    · show b.val = 0 + 1 * b.val; omega
    · show 2 * p.val + 1 = 1 + 2 * p.val; omega
    · show t.val = 0 + 1 * t.val; omega
    · show d.val = 0 + 1 * d.val; omega
  v_even b p t d := by
    refine Eq.trans (congrArg (m ((c.tc : Thread nD τ).loc main_arg2)) (funext fun a => Fin.ext ?_)) (eq_of_oeq (congrFun (h c).2.2.2.2.1 (ix4 b p t d)))
    fin_cases a
    · show b.val = 0 + 1 * b.val; omega
    · show 2 * p.val + 0 = 0 + 2 * p.val; omega
    · show t.val = 0 + 1 * t.val; omega
    · show 64 + d.val = 64 + 1 * d.val; omega
  v_odd b p t d := by
    refine Eq.trans (congrArg (m ((c.tc : Thread nD τ).loc main_arg2)) (funext fun a => Fin.ext ?_)) (eq_of_oeq (congrFun (h c).2.2.2.2.2 (ix4 b p t d)))
    fin_cases a
    · show b.val = 0 + 1 * b.val; omega
    · show 2 * p.val + 1 = 1 + 2 * p.val; omega
    · show t.val = 0 + 1 * t.val; omega
    · show d.val = 0 + 1 * d.val; omega

/-! ## The lanes -/

theorem ln_lo (p : Fin 4) (d : Fin 64) : ln p (lo d) = lane (hd p 0) d :=
  Fin.ext (by show 128 * p.val + d.val = 64 * (2 * p.val + 0) + d.val; omega)
theorem ln_hi (p : Fin 4) (d : Fin 64) : ln p (hi d) = lane (hd p 1) d :=
  Fin.ext (by show 128 * p.val + (64 + d.val) = 64 * (2 * p.val + 1) + d.val; omega)

theorem lo_or_hi (l : Fin 128) : (∃ d : Fin 64, l = lo d) ∨ ∃ d : Fin 64, l = hi d := by
  by_cases h : l.val < 64
  · exact .inl ⟨⟨l.val, h⟩, rfl⟩
  · exact .inr ⟨⟨l.val - 64, by omega⟩, Fin.ext (by show l.val = 64 + (l.val - 64); omega)⟩

theorem sum_halves (f : Fin 128 → EReal) : ∑ d, f d = ∑ d, f (lo d) + ∑ d, f (hi d) :=
  Fin.sum_univ_add (a := 64) (b := 64) f

section Lanes
variable {q v : S4x8x8192x128.Idx → EReal} {k : S4x8192x512.Idx → EReal} (H : Padded q v k)
include H

/-- The logits are real. -/
theorem logit_real : ∃ z : Fin 4 → Fin 8 → Fin 8192 → ℕ → ℝ, ∀ b h t (s : Fin 8192), logit q k b h t s = (z b h t s.val : EReal) := by
  choose qr hq using H.q_real
  choose kr hk using H.k_real
  refine ⟨fun b h t n => if hn : n < 8192 then ∑ d : Fin 64, (qr (ix4 b h t (lo d)) + qr (ix4 b h t (hi d))) * kr (ix3 b ⟨n, hn⟩ (lane h d)) else 0, fun b h t s => ?_⟩
  dsimp only
  rw [dif_pos s.isLt, coe_sum]
  refine Finset.sum_congr rfl fun d _ => ?_
  rw [hq, hq, hk, EReal.coe_mul, EReal.coe_add]

/-- Over its pair's lanes a head's logit is over its own. -/
theorem logit_pair (b p : Fin 4) (h : Fin 2) (t s : Fin 8192) :
    ∑ d : Fin 128, q (ix4 b (hd p h) t d) * k (ix3 b s (ln p d)) = logit q k b (hd p h) t s := by
  rw [sum_halves]
  unfold logit
  rcases fin2 h with rfl | rfl
  · rw [Finset.sum_eq_zero (f := fun d => q (ix4 b (hd p 0) t (hi d)) * k (ix3 b s (ln p (hi d)))) (fun d _ => by rw [H.q_even, zero_mul]), add_zero]
    exact Finset.sum_congr rfl fun d _ => by rw [H.q_even, add_zero, ln_lo]
  · rw [Finset.sum_eq_zero (f := fun d => q (ix4 b (hd p 1) t (lo d)) * k (ix3 b s (ln p (lo d)))) (fun d _ => by rw [H.q_odd, zero_mul]), zero_add]
    exact Finset.sum_congr rfl fun d _ => by rw [H.q_odd, zero_add, ln_hi]

end Lanes

/-! ## The result -/

theorem blk_row (t : Fin 8192) : blk (qb t) (qr t) = t :=
  Fin.ext (by show 256 * (t.val / 256) + t.val % 256 = t.val; omega)

/-- The call's array ends at the reference's value of the same arguments. -/
theorem array_eq (m : (ℓ : Loc nD τ sig) → Buf (Elt Ideal) ℓ) (c : Dev nD)
    (H : Padded (m ((c.tc : Thread nD τ).loc main_arg0)) (m ((c.tc : Thread nD τ).loc main_arg2)) (m ((c.tc : Thread nD τ).loc main_arg1))) :
    (Run.dats m 0 c).arrAt 5 (cfg0 (F := Ideal)).N
      = Cert.ReferenceIdeal.Read.val_main_v34 (F := Ideal) (m ((c.tc : Thread nD τ).loc main_arg0)) (m ((c.tc : Thread nD τ).loc main_arg1)) (m ((c.tc : Thread nD τ).loc main_arg2)) := by
  obtain ⟨z, hz⟩ := logit_real H
  refine Run.final m c _ fun b p t l => ?_
  have fits : Fits (iblk m c 0 (pt b p)) (iblk m c 1 (pt b p)) (iblk m c 3 (pt b p)) (iblk m c 4 (pt b p)) (fun h t n => z b (hd p h) t n) :=
    { logit := fun h t s => by
        rw [← hz, ← logit_pair H]
        exact Finset.sum_congr rfl fun d _ => congrArg₂ (fun a b : EReal => a * b) (iblk_q m c b p h t d) (iblk_k m c b p s d)
      tri := fun r s => (iblk_t m c _ r s).trans (host_tri m c r s)
      off := fun r s => (iblk_b m c _ 0 r s).trans (host_off m c r s)
      diag := fun h r s => (iblk_b m c _ 1 (hrow h r) s).trans (host_diag m c h r s) }
  refine (outOf_at fits (qb t) (qr t) l).trans ?_
  rw [blk_row]
  have part_eq : ∀ s, part (fun h t n => z b (hd p h) t n) (iblk m c 2 (pt b p)) t l s
      = (wt (z b (hd p 0) t) t.val s.val : EReal) * m ((c.tc : Thread nD τ).loc main_arg2) (ix4 b (hd p 0) s l)
        + (wt (z b (hd p 1) t) t.val s.val : EReal) * m ((c.tc : Thread nD τ).loc main_arg2) (ix4 b (hd p 1) s l) := fun s => by
    unfold part
    exact congrArg₂ (fun x y : EReal => (wt (z b (hd p 0) t) t.val s.val : EReal) * x + (wt (z b (hd p 1) t) t.val s.val : EReal) * y) (iblk_v m c b p 0 s l) (iblk_v m c b p 1 s l)
  rw [Finset.sum_congr rfl fun s _ => part_eq s]
  rcases lo_or_hi l with ⟨d, rfl⟩ | ⟨d, rfl⟩
  · rw [ln_lo, Cert.Proof.RI.result_at _ _ _ z hz]
    exact Finset.sum_congr rfl fun s _ => by rw [H.v_odd, H.v_even, mul_zero, add_zero, add_zero]
  · rw [ln_hi, Cert.Proof.RI.result_at _ _ _ z hz]
    exact Finset.sum_congr rfl fun s _ => by rw [H.v_odd, H.v_even, mul_zero, zero_add, zero_add]

/-! ## The claim -/

/-- The attention call's ideal twin and the reference end at the same array. -/
theorem algebraic_all : Cert.algebraic_KernelIdeal_ReferenceIdeal_pre_heads_padded (hKernelIdeal := Cert.KernelIdeal.Gen.facts)
    (hReferenceIdeal := Cert.ReferenceIdeal.Gen.facts) (hPre_heads_padded := Cert.Pre_heads_padded.Gen.facts) := by
  intro m g m' g' hpre hargs
  refine ⟨fun c => (Run.dats m 0 c).arrAt 5 (cfg0 (F := Ideal)).N, Run.run_named noStop_ideal m g, ?_⟩
  refine (θ_run _ _ _).mono (fun r h c => ⟨(h c).1.trans ?_, (h c).2⟩) (Cert.ReferenceIdeal.Value.run m' g')
  rw [Cert.ReferenceIdeal.Read.val_main_v34_eq, (hargs c).1, (hargs c).2.1, (hargs c).2.2]
  exact (array_eq m c (padded_of_pre m hpre c)).symm

end Cert.Proof.PI

end
-- ==== Proof.Dense.Row.lean ====
/- The dense layers of one row over the reals: root-mean-square norm, the two-branch feed-forward half step, the output
   projection of two groups of features, and the gated embedding. -/
module

public import Idealize.ShloMosaic.Lib.Pointwise
public import Idealize.ShloMosaic.Lib.Pipeline.FrameBody

@[expose] public section

set_option maxRecDepth 16384

noncomputable section

namespace Cert.Dense

open Idealize.ShloMosaic

/-- A row over its root mean square, times the gain `g`. -/
def norm (x g : Fin 1024 → EReal) (j : Fin 1024) : EReal :=
  x j * Ideal.rsqrt (Ideal.div (∑ k, x k * x k) (Ideal.ofBits .f32 0x44800000#32) + Ideal.ofBits .f32 0x358637BD#32) * g j

/-- Hidden feature `f` of the feed-forward: the gate branch through its sigmoid, times the other branch. -/
def act (h : Fin 1024 → EReal) (wg wu : Fin 1024 → Fin 2816 → EReal) (f : Fin 2816) : EReal :=
  (∑ k, h k * wg k f) * Ideal.logistic (∑ k, h k * wg k f) * ∑ k, h k * wu k f

/-- A row plus half its feed-forward. -/
def halfStep (x g : Fin 1024 → EReal) (wg wu : Fin 1024 → Fin 2816 → EReal) (wd : Fin 2816 → Fin 1024 → EReal) (j : Fin 1024) : EReal :=
  x j + Ideal.ofBits .f32 0x3F000000#32 * ∑ f, act (norm x g) wg wu f * wd f j

/-- A row plus the output projection of its two groups of 512 mixed features. -/
def mixed (x : Fin 1024 → EReal) (yc ys : Fin 512 → EReal) (wo : Fin 1024 → Fin 1024 → EReal) (j : Fin 1024) : EReal :=
  x j + ∑ k : Fin 512, yc k * wo ⟨k.val, by omega⟩ j + ∑ k : Fin 512, ys k * wo ⟨512 + k.val, by omega⟩ j

/-- A row plus its embedding's projection, gated by the row. -/
def gated (x g : Fin 1024 → EReal) (wg : Fin 1024 → Fin 1024 → EReal) (p : Fin 256 → EReal) (wp : Fin 256 → Fin 1024 → EReal) (j : Fin 1024) : EReal :=
  x j + Ideal.logistic (∑ k, norm x g k * wg k j) * ∑ k, p k * wp k j

/-! ## The hidden features, written 256 columns at a time -/

/-- After one more block of 256 columns is written, the columns up to its end hold the named values. -/
theorem canon_cols (A : Fin 512 → Fin 2816 → EReal) (n : ℕ)
    (inb : ∀ a, (![0, n] : Fin 2 → ℕ) a + (![512, 256] : Fin 2 → ℕ) a ≤ (⟨2, ![512, 2816]⟩ : Shape).size a)
    (w : (⟨2, ![512, 256]⟩ : Shape).Idx → Elt Ideal .bf16) (L : List (View.Piece (Elt Ideal) (⟨2, ![512, 2816]⟩ : Shape) .bf16))
    (hn : n + 256 ≤ 2816)
    (hw : ∀ (r : Fin 512) (f : Fin 256), w (ix2 r f) = A r ⟨n + f.val, by omega⟩)
    (hL : ∀ (r : Fin 512) (f : Fin 2816), f.val < n → View.canon L (ix2 r f) = A r f)
    (r : Fin 512) (f : Fin 2816) (hf : f.val < n + 256) :
    View.canon (Val := Elt Ideal) (⟨Rect.unit (s := ⟨2, ![512, 2816]⟩) ![0, n] ![512, 256] inb, w⟩ :: L) (ix2 r f) = A r f := by
  by_cases h : f.val < n
  · refine (View.canon_cons_of_not_mem _ L fun hm => ?_).trans (hL r f h)
    obtain ⟨h1, -⟩ := (Rect.mem_set_unit (inb := inb)).mp hm (1 : Fin 2)
    exact absurd (show n ≤ f.val from h1) (by omega)
  · have e : ix2 r f = (Rect.unit (s := ⟨2, ![512, 2816]⟩) ![0, n] ![512, 256] inb).emb (ix2 r (⟨f.val - n, by omega⟩ : Fin 256)) := by
      funext a
      refine Fin.ext ?_
      rw [Rect.emb_apply]
      fin_cases a
      · show r.val = 0 + 1 * r.val; omega
      · show f.val = n + 1 * (f.val - n); omega
    rw [e, View.canon_cons_emb]
    refine (hw r _).trans (congrArg (A r) (Fin.ext ?_))
    show n + (f.val - n) = f.val
    omega

end Cert.Dense

end
-- ==== Proof.PI2.Body.lean ====
/- The last call's body over the reals: what a grid step leaves in its output block, row by row. -/
module

public import proofs.«01_k».proof.Proof.Gen.Kernel2Ideal.Value
public import proofs.«01_k».proof.Proof.Dense.Row

@[expose] public section

set_option maxRecDepth 16384

noncomputable section

namespace Cert.Proof.PI2

open Cert.Kernel2Ideal Cert.Kernel2Ideal.Gen Cert.Dense
open Idealize.ShloMosaic Idealize.ShloMosaic.TcCoe

/-! ## The payloads at an element -/

theorem readAt_unread {s : Shape} {t : EltTy} (M : Memref sig .tc .vmem s t) (hM : M.IsWhole) (r : Rect s)
    (x : s.Idx → Elt Ideal t) : View.readAt (Elt Ideal) M.view r.toLoadRect (hM.unread x) = fun y => x (r.emb y) := by
  funext y
  show M.view.read (Elt Ideal) (hM.unread x) (r.emb y) = _
  rw [hM.read_unread]

/-- The row after the output projection. -/
theorem pay2_at (v0 : Vec Ideal S1x512x1024 .f32) (v2 v8 : Vec Ideal S1x512x512 .bf16) (v4 v10 : Vec Ideal S512x1024 .bf16)
    (r : Fin 512) (j : Fin 1024) :
    k0_pay2 (F := Ideal) v0 v2 v4 v8 v10 (ix2 r j)
      = v0 (ix3 0 r j) + ∑ k : Fin 512, v2 (ix3 0 r k) * v4 (ix2 k j) + ∑ k : Fin 512, v8 (ix3 0 r k) * v10 (ix2 k j) := by
  pointwise [k0_pay2]

/-- Its norm. -/
theorem pay3_at (v0 : Vec Ideal S1x512x1024 .f32) (v2 v8 : Vec Ideal S1x512x512 .bf16) (v4 v10 : Vec Ideal S512x1024 .bf16)
    (v14 : Vec Ideal S1x1024 .f32) (r : Fin 512) (j : Fin 1024) :
    k0_pay3 (F := Ideal) v0 v2 v4 v8 v10 v14 (ix2 r j)
      = norm (fun i => k0_pay2 (F := Ideal) v0 v2 v4 v8 v10 (ix2 r i)) (fun i => v14 (ix2 0 i)) j := by
  unfold k0_pay3
  generalize k0_pay2 (F := Ideal) v0 v2 v4 v8 v10 = y
  pointwise []
  rfl

/-- A block of 256 hidden features. -/
theorem pay6_at (h : FVec Ideal S512x1024 .bf16) (M U : Memref sig .tc .vmem S1024x2816 .bf16) (hM : M.IsWhole) (hU : U.IsWhole)
    (g u : Vec Ideal S1024x2816 .bf16) (n : ℕ) (inb : ∀ a, (![0, n] : Fin 2 → ℕ) a + S1024x256.size a ≤ S1024x2816.size a)
    (hn : n + 256 ≤ 2816) (r : Fin 512) (f : Fin 256) :
    k0_pay6 (F := Ideal) h (View.readAt (Elt Ideal) M.view (Rect.unit (s := S1024x2816) ![0, n] S1024x256.size inb).toLoadRect (hM.unread g))
      (View.readAt (Elt Ideal) U.view (Rect.unit (s := S1024x2816) ![0, n] S1024x256.size inb).toLoadRect (hU.unread u)) (ix2 r f)
      = act (fun k => h (ix2 r k)) (fun k f => g (ix2 k f)) (fun k f => u (ix2 k f)) ⟨n + f.val, by omega⟩ := by
  have e : ∀ k : Fin 1024, (Rect.unit (s := S1024x2816) ![0, n] S1024x256.size inb).emb (ix2 k f) = ix2 k (⟨n + f.val, by omega⟩ : Fin 2816) := fun k => by
    funext a
    refine Fin.ext ?_
    rw [Rect.emb_apply]
    fin_cases a
    · show 0 + 1 * k.val = k.val; omega
    · show n + 1 * f.val = n + f.val; omega
  rw [readAt_unread, readAt_unread]
  pointwise [k0_pay6]
  simp only [e]
  rfl

/-- The last step: half the feed-forward added, then the gated embedding. -/
theorem pay1_at (v13 : FVec Ideal S512x1024 .f32) (v172 : Vec Ideal S512x2816 .bf16) (v174 : FVec Ideal S2816x1024 .bf16)
    (v179 : Vec Ideal S1x1024 .f32) (v194 : Vec Ideal S1024x1024 .bf16) (v198 : Vec Ideal S1x512x256 .f32)
    (v201 : Vec Ideal S256x1024 .bf16) (r : Fin 512) (j : Fin 1024) :
    k0_pay1 (F := Ideal) v13 v172 v174 v179 v194 v198 v201 (ix3 0 r j)
      = gated (fun i => v13 (ix2 r i) + Ideal.ofBits .f32 0x3F000000#32 * ∑ f : Fin 2816, v172 (ix2 r f) * v174 (ix2 f i))
          (fun i => v179 (ix2 0 i)) (fun k i => v194 (ix2 k i)) (fun k => v198 (ix3 0 r k)) (fun k i => v201 (ix2 k i)) j := by
  pointwise [k0_pay1]
  rfl

/-! ## A grid step -/

theorem emb_rows {n0 n1 : ℕ} {size : Fin 2 → ℕ} (off : ℕ) (inb : ∀ a, (![off, 0] : Fin 2 → ℕ) a + size a ≤ (⟨2, ![n0, n1]⟩ : Shape).size a)
    (y : (⟨2, size⟩ : Shape).Idx) (i : Fin n0) (j : Fin n1) (hi : i.val = off + (y 0).val) (hj : j.val = (y 1).val) :
    (Rect.unit (s := ⟨2, ![n0, n1]⟩) ![off, 0] size inb).emb y = ix2 i j := by
  funext a
  refine Fin.ext ?_
  rw [Rect.emb_apply]
  fin_cases a
  · show off + 1 * (y 0).val = i.val; omega
  · show 0 + 1 * (y 1).val = j.val; omega

theorem emb_all3 {n0 n1 n2 : ℕ} (inb : ∀ a, (![0, 0, 0] : Fin 3 → ℕ) a + (![n0, n1, n2] : Fin 3 → ℕ) a ≤ (⟨3, ![n0, n1, n2]⟩ : Shape).size a)
    (y : (⟨3, ![n0, n1, n2]⟩ : Shape).Idx) :
    (Rect.unit (s := ⟨3, ![n0, n1, n2]⟩) ![0, 0, 0] ![n0, n1, n2] inb).emb y = y := by
  funext a
  refine Fin.ext ?_
  rw [Rect.emb_apply]
  fin_cases a
  · show 0 + 1 * (y 0).val = (y 0).val; omega
  · show 0 + 1 * (y 1).val = (y 1).val; omega
  · show 0 + 1 * (y 2).val = (y 2).val; omega

theorem emb_all2 {n0 n1 : ℕ} (inb : ∀ a, (![0, 0] : Fin 2 → ℕ) a + (![n0, n1] : Fin 2 → ℕ) a ≤ (⟨2, ![n0, n1]⟩ : Shape).size a)
    (y : (⟨2, ![n0, n1]⟩ : Shape).Idx) :
    (Rect.unit (s := ⟨2, ![n0, n1]⟩) ![0, 0] ![n0, n1] inb).emb y = y := by
  funext a
  refine Fin.ext ?_
  rw [Rect.emb_apply]
  fin_cases a
  · show 0 + 1 * (y 0).val = (y 0).val; omega
  · show 0 + 1 * (y 1).val = (y 1).val; omega

/-- A load of a whole buffer reads it. -/
theorem readAt_all3 {n0 n1 n2 : ℕ} {e : EltTy} (M : Memref sig .tc .vmem ⟨3, ![n0, n1, n2]⟩ e) (hM : M.IsWhole)
    (inb : ∀ a, (![0, 0, 0] : Fin 3 → ℕ) a + (![n0, n1, n2] : Fin 3 → ℕ) a ≤ (⟨3, ![n0, n1, n2]⟩ : Shape).size a)
    (x : (⟨3, ![n0, n1, n2]⟩ : Shape).Idx → Elt Ideal e) :
    View.readAt (Elt Ideal) M.view (Rect.unit (s := ⟨3, ![n0, n1, n2]⟩) ![0, 0, 0] ![n0, n1, n2] inb).toLoadRect (hM.unread x) = x := by
  rw [readAt_unread]
  exact funext fun y => congrArg x (emb_all3 inb y)

theorem readAt_all2 {n0 n1 : ℕ} {e : EltTy} (M : Memref sig .tc .vmem ⟨2, ![n0, n1]⟩ e) (hM : M.IsWhole)
    (inb : ∀ a, (![0, 0] : Fin 2 → ℕ) a + (![n0, n1] : Fin 2 → ℕ) a ≤ (⟨2, ![n0, n1]⟩ : Shape).size a)
    (x : (⟨2, ![n0, n1]⟩ : Shape).Idx → Elt Ideal e) :
    View.readAt (Elt Ideal) M.view (Rect.unit (s := ⟨2, ![n0, n1]⟩) ![0, 0] ![n0, n1] inb).toLoadRect (hM.unread x) = x := by
  rw [readAt_unread]
  exact funext fun y => congrArg x (emb_all2 inb y)

/-- Row blocks of the output projection: rows from `off` on. -/
theorem readAt_rows (M : Memref sig .tc .vmem S1024x1024 .bf16) (hM : M.IsWhole) (off : ℕ)
    (inb : ∀ a, (![off, 0] : Fin 2 → ℕ) a + S512x1024.size a ≤ S1024x1024.size a) (hoff : off + 512 ≤ 1024)
    (x : Vec Ideal S1024x1024 .bf16) (k : Fin 512) (j : Fin 1024) :
    View.readAt (Elt Ideal) M.view (Rect.unit (s := S1024x1024) ![off, 0] S512x1024.size inb).toLoadRect (hM.unread x) (ix2 k j)
      = x (ix2 (⟨off + k.val, by omega⟩ : Fin 1024) j) := by
  rw [readAt_unread]
  exact congrArg x (emb_rows off inb _ _ _ rfl rfl)

theorem gated_congr {x x' g g' : Fin 1024 → EReal} {wg wg' : Fin 1024 → Fin 1024 → EReal} {p p' : Fin 256 → EReal}
    {wp wp' : Fin 256 → Fin 1024 → EReal} (hx : ∀ i, x i = x' i) (hg : ∀ i, g i = g' i) (hw : ∀ k i, wg k i = wg' k i)
    (hp : ∀ k, p k = p' k) (hq : ∀ k i, wp k i = wp' k i) (j : Fin 1024) : gated x g wg p wp j = gated x' g' wg' p' wp' j := by
  obtain rfl : x = x' := funext hx
  obtain rfl : g = g' := funext hg
  obtain rfl : wg = wg' := funext fun k => funext (hw k)
  obtain rfl : p = p' := funext hp
  obtain rfl : wp = wp' := funext fun k => funext (hq k)
  rfl

section Loads

variable (M0 : Memref sig .tc .vmem S1x512x1024 .f32) (h0 : M0.IsWhole) (M1 M2 : Memref sig .tc .vmem S1x512x512 .bf16)
  (h1 : M1.IsWhole) (h2 : M2.IsWhole) (M4 : Memref sig .tc .vmem S1024x1024 .bf16) (h4 : M4.IsWhole)
  (x0 : Vec Ideal S1x512x1024 .f32) (x1 x2 : Vec Ideal S1x512x512 .bf16) (x4 : Vec Ideal S1024x1024 .bf16)

/-- The row after the output projection, from the buffers it is loaded from. -/
theorem mixed_read (r : Fin 512) (i : Fin 1024) :
    k0_pay2 (F := Ideal)
        (View.readAt (Elt Ideal) M0.view (Rect.unit ![0, 0, 0] S1x512x1024.size inb_S1x512x1024_S1x512x1024_0_0_0).toLoadRect (h0.unread x0))
        (View.readAt (Elt Ideal) M1.view (Rect.unit ![0, 0, 0] S1x512x512.size inb_S1x512x512_S1x512x512_0_0_0).toLoadRect (h1.unread x1))
        (View.readAt (Elt Ideal) M4.view (Rect.unit (s := S1024x1024) ![0, 0] S512x1024.size inb_S1024x1024_S512x1024_0_0).toLoadRect (h4.unread x4))
        (View.readAt (Elt Ideal) M2.view (Rect.unit ![0, 0, 0] S1x512x512.size inb_S1x512x512_S1x512x512_0_0_0).toLoadRect (h2.unread x2))
        (View.readAt (Elt Ideal) M4.view (Rect.unit (s := S1024x1024) ![512, 0] S512x1024.size inb_S1024x1024_S512x1024_512_0).toLoadRect (h4.unread x4))
        (ix2 r i)
      = mixed (fun i => x0 (ix3 0 r i)) (fun k => x1 (ix3 0 r k)) (fun k => x2 (ix3 0 r k)) (fun k i => x4 (ix2 k i)) i := by
  refine (pay2_at _ _ _ _ _ r i).trans ?_
  refine congrArg₂ (· + ·) (congrArg₂ (· + ·) (congrFun (readAt_all3 M0 h0 _ x0) _) ?_) ?_
  · refine Finset.sum_congr rfl fun k _ => congrArg₂ (· * ·) (congrFun (readAt_all3 M1 h1 _ x1) _) ?_
    refine (readAt_rows M4 h4 0 _ (by omega) x4 k i).trans (congrArg x4 ?_)
    exact congrArg (fun a => ix2 a i) (Fin.ext (Nat.zero_add _))
  · exact Finset.sum_congr rfl fun k _ => congrArg₂ (· * ·) (congrFun (readAt_all3 M2 h2 _ x2) _) (readAt_rows M4 h4 512 _ (by omega) x4 k i)

variable (M5 : Memref sig .tc .vmem S1x1024 .f32) (h5 : M5.IsWhole) (x5 : Vec Ideal S1x1024 .f32)
  (M6 M7 : Memref sig .tc .vmem S1024x2816 .bf16) (h6 : M6.IsWhole) (h7 : M7.IsWhole) (x6 x7 : Vec Ideal S1024x2816 .bf16)

/-- The hidden features of row `r` of the block. -/
def hidden (r : Fin 512) (f : Fin 2816) : EReal :=
  act (norm (mixed (fun i => x0 (ix3 0 r i)) (fun k => x1 (ix3 0 r k)) (fun k => x2 (ix3 0 r k)) (fun k i => x4 (ix2 k i)))
    (fun i => x5 (ix2 0 i))) (fun k f => x6 (ix2 k f)) (fun k f => x7 (ix2 k f)) f

/-- A block of 256 of them, from the buffers it is loaded from. -/
theorem hidden_read (n : ℕ) (inb : ∀ a, (![0, n] : Fin 2 → ℕ) a + S1024x256.size a ≤ S1024x2816.size a)
    (hn : n + 256 ≤ 2816) (r : Fin 512) (f : Fin 256) :
    k0_pay6 (F := Ideal)
        (k0_pay3 (F := Ideal)
            (View.readAt (Elt Ideal) M0.view (Rect.unit ![0, 0, 0] S1x512x1024.size inb_S1x512x1024_S1x512x1024_0_0_0).toLoadRect (h0.unread x0))
            (View.readAt (Elt Ideal) M1.view (Rect.unit ![0, 0, 0] S1x512x512.size inb_S1x512x512_S1x512x512_0_0_0).toLoadRect (h1.unread x1))
            (View.readAt (Elt Ideal) M4.view (Rect.unit (s := S1024x1024) ![0, 0] S512x1024.size inb_S1024x1024_S512x1024_0_0).toLoadRect (h4.unread x4))
            (View.readAt (Elt Ideal) M2.view (Rect.unit ![0, 0, 0] S1x512x512.size inb_S1x512x512_S1x512x512_0_0_0).toLoadRect (h2.unread x2))
            (View.readAt (Elt Ideal) M4.view (Rect.unit (s := S1024x1024) ![512, 0] S512x1024.size inb_S1024x1024_S512x1024_512_0).toLoadRect (h4.unread x4))
            (View.readAt (Elt Ideal) M5.view (Rect.unit ![0, 0] S1x1024.size inb_S1x1024_S1x1024_0_0).toLoadRect (h5.unread x5)))
        (View.readAt (Elt Ideal) M6.view (Rect.unit (s := S1024x2816) ![0, n] S1024x256.size inb).toLoadRect (h6.unread x6))
        (View.readAt (Elt Ideal) M7.view (Rect.unit (s := S1024x2816) ![0, n] S1024x256.size inb).toLoadRect (h7.unread x7)) (ix2 r f)
      = hidden x0 x1 x2 x4 x5 x6 x7 r ⟨n + f.val, by omega⟩ := by
  refine (pay6_at _ M6 M7 h6 h7 x6 x7 n inb hn r f).trans (congrArg (fun h => act h _ _ _) (funext fun k => ?_))
  refine (pay3_at _ _ _ _ _ _ r k).trans ?_
  refine congrArg₂ (fun x g => norm x g k) (funext fun i => mixed_read M0 h0 M1 M2 h1 h2 M4 h4 x0 x1 x2 x4 r i) (funext fun i => ?_)
  exact congrFun (readAt_all2 M5 h5 _ x5) _

variable (M3 : Memref sig .tc .vmem S1x512x256 .f32) (h3 : M3.IsWhole) (x3 : Vec Ideal S1x512x256 .f32)
  (M8 : Memref sig .tc .vmem S2816x1024 .bf16) (h8 : M8.IsWhole) (x8 : Vec Ideal S2816x1024 .bf16)
  (M9 : Memref sig .tc .vmem S1x1024 .f32) (h9 : M9.IsWhole) (x9 : Vec Ideal S1x1024 .f32)
  (M10 : Memref sig .tc .vmem S1024x1024 .bf16) (h10 : M10.IsWhole) (x10 : Vec Ideal S1024x1024 .bf16)
  (M11 : Memref sig .tc .vmem S256x1024 .bf16) (h11 : M11.IsWhole) (x11 : Vec Ideal S256x1024 .bf16)
  (M12 : Memref sig .tc .vmem S1x512x1024 .f32) (h12 : M12.IsWhole) (M13 : Memref sig .tc .vmem S512x2816 .bf16) (h13 : M13.IsWhole)

/-- A whole step at row `r`: the output projection, half the feed-forward, the gated embedding. -/
def step (r : Fin 512) (j : Fin 1024) : EReal :=
  gated
    (halfStep (mixed (fun i => x0 (ix3 0 r i)) (fun k => x1 (ix3 0 r k)) (fun k => x2 (ix3 0 r k)) (fun k i => x4 (ix2 k i)))
      (fun i => x5 (ix2 0 i)) (fun k f => x6 (ix2 k f)) (fun k f => x7 (ix2 k f)) (fun f i => x8 (ix2 f i)))
    (fun i => x9 (ix2 0 i)) (fun k i => x10 (ix2 k i)) (fun k => x3 (ix3 0 r k)) (fun k i => x11 (ix2 k i)) j

theorem down_at (r : Fin 2816) (i : Fin 1024) : k0_pay20 (F := Ideal) x8 (ix2 r i) = x8 (ix2 r i) := by
  pointwise [k0_pay20]

/-- What the step's stores leave in its output block. -/
theorem out_read (c : Dev nD) (i : grid0.Coords) (r : Fin 512) (j : Fin 1024) :
    out0_A_12 (F := Ideal) c i M0 h0 M1 h1 M2 h2 M3 h3 M4 h4 M5 h5 M6 h6 M7 h7 M8 h8 M9 h9 M10 h10 M11 h11 M12 h12 M13 h13
        x0 x1 x2 x3 x4 x5 x6 x7 x8 x9 x10 x11 (ix3 0 r j)
      = step x0 x1 x2 x4 x5 x6 x7 x3 x8 x9 x10 x11 r j := by
  unfold out0_A_12 kernelRun0_A
  unfold kernelRun0_A.sl.r kernelRun0_A.sl.v172 kernelRun0_A.sl.r_9
  dsimp only
  rw [View.read_writes_junk_eq_canon]
  refine (congrArg (View.canon _) (emb_all3 inb_S1x512x1024_S1x512x1024_0_0_0 (ix3 0 r j)).symm).trans ?_
  rw [View.canon_cons_emb]
  rw [pay1_at, readAt_all2 M8 h8, readAt_all2 M9 h9, readAt_all2 M10 h10, readAt_all2 M11 h11, readAt_all3 M3 h3]
  unfold step
  refine gated_congr (fun i => ?_) (fun _ => rfl) (fun _ _ => rfl) (fun _ => rfl) (fun _ _ => rfl) j
  unfold halfStep
  refine congrArg₂ (· + ·) (mixed_read M0 h0 M1 M2 h1 h2 M4 h4 x0 x1 x2 x4 r i) (congrArg (_ * ·) ?_)
  refine Finset.sum_congr rfl fun f _ => congrArg₂ (· * ·) ?_ (down_at x8 f i)
  rw [View.readCov_eq_canon']
  refine (congrArg (View.canon _) (emb_all2 inb_S512x2816_S512x2816_0_0 (ix2 r f))).trans ?_
  unfold kernelRun0_A.sl.HS0_11
  have hid := hidden_read M0 h0 M1 M2 h1 h2 M4 h4 x0 x1 x2 x4 M5 h5 x5 M6 M7 h6 h7 x6 x7
  have hf : f.val < 2560 + 256 := f.isLt
  clear i
  iterate 11
    refine canon_cols (hidden x0 x1 x2 x4 x5 x6 x7) _ _ _ _ (by omega) (hid _ _ (by omega)) (fun r f hf => ?_) r f hf
  exact absurd hf (Nat.not_lt_zero _)

end Loads

end Cert.Proof.PI2

end
-- ==== Proof.PI2.Blocks.lean ====
/- The last call's arrays over the reals: each input block as the argument it is cut from, and the result array block by block. -/
module

public import proofs.«01_k».proof.Proof.PI2.Body
public import Idealize.ShloMosaic.Lib.StableHlo.ReadAt
public import Idealize.ShloMosaic.Lib.Pipeline.Value

@[expose] public section

set_option maxRecDepth 16384

noncomputable section

namespace Cert.Proof.PI2

open Cert.Kernel2Ideal Cert.Kernel2Ideal.Gen Cert.Dense
open Idealize.ShloMosaic Idealize.ShloMosaic.TcCoe Idealize.SL.Sem
open Idealize.ShloMosaic.Pipeline (Dat Cfg Window)

variable (m : (ℓ : Loc nD τ sig) → Buf (Elt Ideal) ℓ)

/-- The point of batch entry `b` and row block `q`. -/
def pt (b : Fin 4) (q : Fin 16) : Fin cfg0.N := ⟨16 * b.val + q.val, by show _ < grid0.N; rw [N_0]; omega⟩

theorem pt_of (t : Fin cfg0.N) : ∃ (b : Fin 4) (q : Fin 16), t = pt b q := by
  have h : t.val < 64 := t.isLt.trans_eq N_0
  exact ⟨⟨t.val / 16, by omega⟩, ⟨t.val % 16, by omega⟩, Fin.ext (by show t.val = 16 * (t.val / 16) + t.val % 16; omega)⟩

/-- Row `r` of block `q`. -/
def row (q : Fin 16) (r : Fin 512) : Fin 8192 := ⟨512 * q.val + r.val, by omega⟩

/-! ## The rows of a step -/

theorem index_x (b : Fin 4) (q : Fin 16) : win0_0.index (pt b q) = ![b.val, q.val, 0] := by
  have H : ∀ (b : Fin 4) (q : Fin 16), win0_0.index (⟨16 * b.val + q.val, by rw [N_0]; omega⟩ : Fin grid0.N) = ![b.val, q.val, 0] := by decide +kernel
  exact H b q
theorem index_c (b : Fin 4) (q : Fin 16) : win0_1.index (pt b q) = ![b.val, q.val, 0] := by
  have H : ∀ (b : Fin 4) (q : Fin 16), win0_1.index (⟨16 * b.val + q.val, by rw [N_0]; omega⟩ : Fin grid0.N) = ![b.val, q.val, 0] := by decide +kernel
  exact H b q
theorem index_s (b : Fin 4) (q : Fin 16) : win0_2.index (pt b q) = ![b.val, q.val, 0] := by
  have H : ∀ (b : Fin 4) (q : Fin 16), win0_2.index (⟨16 * b.val + q.val, by rw [N_0]; omega⟩ : Fin grid0.N) = ![b.val, q.val, 0] := by decide +kernel
  exact H b q
theorem index_p (b : Fin 4) (q : Fin 16) : win0_3.index (pt b q) = ![b.val, q.val, 0] := by
  have H : ∀ (b : Fin 4) (q : Fin 16), win0_3.index (⟨16 * b.val + q.val, by rw [N_0]; omega⟩ : Fin grid0.N) = ![b.val, q.val, 0] := by decide +kernel
  exact H b q
theorem index_o (b : Fin 4) (q : Fin 16) : win0_12.index (pt b q) = ![b.val, q.val, 0] := by
  have H : ∀ (b : Fin 4) (q : Fin 16), win0_12.index (⟨16 * b.val + q.val, by rw [N_0]; omega⟩ : Fin grid0.N) = ![b.val, q.val, 0] := by decide +kernel
  exact H b q

theorem iblk_x (c : Dev nD) (b : Fin 4) (q : Fin 16) (r : Fin 512) (j : Fin 1024) :
    iblk m c 0 (pt b q) (ix3 0 r j) = m ((c.tc : Thread nD τ).loc main_arg0) (ix3 b (row q r) j) := by
  refine Eq.trans ?_ (congrFun (V_main_arg0 m c) (ix3 b (row q r) j))
  refine congrArg (V m c main_arg0) (funext fun a => Fin.ext ?_)
  refine (Window.rect_emb_val win0_0 (pt b q) _ a).trans ?_
  rw [index_x]
  fin_cases a
  · show b.val * 1 + 0 = b.val; omega
  · show q.val * 512 + r.val = 512 * q.val + r.val; omega
  · show 0 * 1024 + j.val = j.val; omega

theorem iblk_c (c : Dev nD) (b : Fin 4) (q : Fin 16) (r : Fin 512) (j : Fin 512) :
    iblk m c 1 (pt b q) (ix3 0 r j) = m ((c.tc : Thread nD τ).loc main_arg1) (ix3 b (row q r) j) := by
  refine Eq.trans ?_ (congrFun (V_main_arg1 m c) (ix3 b (row q r) j))
  refine congrArg (V m c main_arg1) (funext fun a => Fin.ext ?_)
  refine (Window.rect_emb_val win0_1 (pt b q) _ a).trans ?_
  rw [index_c]
  fin_cases a
  · show b.val * 1 + 0 = b.val; omega
  · show q.val * 512 + r.val = 512 * q.val + r.val; omega
  · show 0 * 512 + j.val = j.val; omega

theorem iblk_s (c : Dev nD) (b : Fin 4) (q : Fin 16) (r : Fin 512) (j : Fin 512) :
    iblk m c 2 (pt b q) (ix3 0 r j) = m ((c.tc : Thread nD τ).loc main_arg2) (ix3 b (row q r) j) := by
  refine Eq.trans ?_ (congrFun (V_main_arg2 m c) (ix3 b (row q r) j))
  refine congrArg (V m c main_arg2) (funext fun a => Fin.ext ?_)
  refine (Window.rect_emb_val win0_2 (pt b q) _ a).trans ?_
  rw [index_s]
  fin_cases a
  · show b.val * 1 + 0 = b.val; omega
  · show q.val * 512 + r.val = 512 * q.val + r.val; omega
  · show 0 * 512 + j.val = j.val; omega

theorem host_p (c : Dev nD) (b : Fin 4) (s : Fin 8192) (j : Fin 256) :
    V m c main_v16 (ix3 b s j) = m ((c.tc : Thread nD τ).loc main_arg3) (ix4 0 b s j) := by
  simp only [V, hostOps0]
  after_reads_at

theorem iblk_p (c : Dev nD) (b : Fin 4) (q : Fin 16) (r : Fin 512) (j : Fin 256) :
    iblk m c 3 (pt b q) (ix3 0 r j) = m ((c.tc : Thread nD τ).loc main_arg3) (ix4 0 b (row q r) j) := by
  refine Eq.trans ?_ (host_p m c b (row q r) j)
  refine congrArg (V m c main_v16) (funext fun a => Fin.ext ?_)
  refine (Window.rect_emb_val win0_3 (pt b q) _ a).trans ?_
  rw [index_p]
  fin_cases a
  · show b.val * 1 + 0 = b.val; omega
  · show q.val * 512 + r.val = 512 * q.val + r.val; omega
  · show 0 * 256 + j.val = j.val; omega

/-! ## The weights, whole in every step -/

theorem host_wo (c : Dev nD) (k : Fin 1024) (j : Fin 1024) : V m c main_v1 (ix2 k j) = m ((c.tc : Thread nD τ).loc main_arg4) (ix3 0 k j) := by
  simp only [V, hostOps0]
  after_reads_at

theorem iblk_wo (c : Dev nD) (t : Fin cfg0.N) (k : Fin 1024) (j : Fin 1024) :
    iblk m c 4 t (ix2 k j) = m ((c.tc : Thread nD τ).loc main_arg4) (ix3 0 k j) := by
  have H : ∀ t : Fin grid0.N, win0_4.index t = ![0, 0] := by decide +kernel
  refine Eq.trans ?_ (host_wo m c k j)
  refine congrArg (V m c main_v1) (funext fun a => Fin.ext ?_)
  refine (Window.rect_emb_val win0_4 t _ a).trans ?_
  rw [show win0_4.index t = ![0, 0] from H t]
  fin_cases a
  · show 0 * 1024 + k.val = k.val; omega
  · show 0 * 1024 + j.val = j.val; omega

theorem host_g1 (c : Dev nD) (j : Fin 1024) : V m c main_v3 (ix2 0 j) = m ((c.tc : Thread nD τ).loc main_arg5) (ix2 0 j) := by
  simp only [V, hostOps0]
  after_reads_at

theorem iblk_g1 (c : Dev nD) (t : Fin cfg0.N) (j : Fin 1024) :
    iblk m c 5 t (ix2 0 j) = m ((c.tc : Thread nD τ).loc main_arg5) (ix2 0 j) := by
  have H : ∀ t : Fin grid0.N, win0_5.index t = ![0, 0] := by decide +kernel
  refine Eq.trans ?_ (host_g1 m c j)
  refine congrArg (V m c main_v3) (funext fun a => Fin.ext ?_)
  refine (Window.rect_emb_val win0_5 t _ a).trans ?_
  rw [show win0_5.index t = ![0, 0] from H t]
  fin_cases a
  · show 0 * 1 + 0 = 0; omega
  · show 0 * 1024 + j.val = j.val; omega

theorem host_wg (c : Dev nD) (k : Fin 1024) (j : Fin 2816) : V m c main_v5 (ix2 k j) = m ((c.tc : Thread nD τ).loc main_arg6) (ix3 0 k j) := by
  simp only [V, hostOps0]
  after_reads_at

theorem iblk_wg (c : Dev nD) (t : Fin cfg0.N) (k : Fin 1024) (j : Fin 2816) :
    iblk m c 6 t (ix2 k j) = m ((c.tc : Thread nD τ).loc main_arg6) (ix3 0 k j) := by
  have H : ∀ t : Fin grid0.N, win0_6.index t = ![0, 0] := by decide +kernel
  refine Eq.trans ?_ (host_wg m c k j)
  refine congrArg (V m c main_v5) (funext fun a => Fin.ext ?_)
  refine (Window.rect_emb_val win0_6 t _ a).trans ?_
  rw [show win0_6.index t = ![0, 0] from H t]
  fin_cases a
  · show 0 * 1024 + k.val = k.val; omega
  · show 0 * 2816 + j.val = j.val; omega

theorem host_wu (c : Dev nD) (k : Fin 1024) (j : Fin 2816) : V m c main_v7 (ix2 k j) = m ((c.tc : Thread nD τ).loc main_arg7) (ix3 0 k j) := by
  simp only [V, hostOps0]
  after_reads_at

theorem iblk_wu (c : Dev nD) (t : Fin cfg0.N) (k : Fin 1024) (j : Fin 2816) :
    iblk m c 7 t (ix2 k j) = m ((c.tc : Thread nD τ).loc main_arg7) (ix3 0 k j) := by
  have H : ∀ t : Fin grid0.N, win0_7.index t = ![0, 0] := by decide +kernel
  refine Eq.trans ?_ (host_wu m c k j)
  refine congrArg (V m c main_v7) (funext fun a => Fin.ext ?_)
  refine (Window.rect_emb_val win0_7 t _ a).trans ?_
  rw [show win0_7.index t = ![0, 0] from H t]
  fin_cases a
  · show 0 * 1024 + k.val = k.val; omega
  · show 0 * 2816 + j.val = j.val; omega

theorem host_wd (c : Dev nD) (k : Fin 2816) (j : Fin 1024) : V m c main_v9 (ix2 k j) = m ((c.tc : Thread nD τ).loc main_arg8) (ix3 0 k j) := by
  simp only [V, hostOps0]
  after_reads_at

theorem iblk_wd (c : Dev nD) (t : Fin cfg0.N) (k : Fin 2816) (j : Fin 1024) :
    iblk m c 8 t (ix2 k j) = m ((c.tc : Thread nD τ).loc main_arg8) (ix3 0 k j) := by
  have H : ∀ t : Fin grid0.N, win0_8.index t = ![0, 0] := by decide +kernel
  refine Eq.trans ?_ (host_wd m c k j)
  refine congrArg (V m c main_v9) (funext fun a => Fin.ext ?_)
  refine (Window.rect_emb_val win0_8 t _ a).trans ?_
  rw [show win0_8.index t = ![0, 0] from H t]
  fin_cases a
  · show 0 * 2816 + k.val = k.val; omega
  · show 0 * 1024 + j.val = j.val; omega

theorem host_g2 (c : Dev nD) (j : Fin 1024) : V m c main_v11 (ix2 0 j) = m ((c.tc : Thread nD τ).loc main_arg9) (ix2 0 j) := by
  simp only [V, hostOps0]
  after_reads_at

theorem iblk_g2 (c : Dev nD) (t : Fin cfg0.N) (j : Fin 1024) :
    iblk m c 9 t (ix2 0 j) = m ((c.tc : Thread nD τ).loc main_arg9) (ix2 0 j) := by
  have H : ∀ t : Fin grid0.N, win0_9.index t = ![0, 0] := by decide +kernel
  refine Eq.trans ?_ (host_g2 m c j)
  refine congrArg (V m c main_v11) (funext fun a => Fin.ext ?_)
  refine (Window.rect_emb_val win0_9 t _ a).trans ?_
  rw [show win0_9.index t = ![0, 0] from H t]
  fin_cases a
  · show 0 * 1 + 0 = 0; omega
  · show 0 * 1024 + j.val = j.val; omega

theorem host_pg (c : Dev nD) (k : Fin 1024) (j : Fin 1024) : V m c main_v13 (ix2 k j) = m ((c.tc : Thread nD τ).loc main_arg10) (ix3 0 k j) := by
  simp only [V, hostOps0]
  after_reads_at

theorem iblk_pg (c : Dev nD) (t : Fin cfg0.N) (k : Fin 1024) (j : Fin 1024) :
    iblk m c 10 t (ix2 k j) = m ((c.tc : Thread nD τ).loc main_arg10) (ix3 0 k j) := by
  have H : ∀ t : Fin grid0.N, win0_10.index t = ![0, 0] := by decide +kernel
  refine Eq.trans ?_ (host_pg m c k j)
  refine congrArg (V m c main_v13) (funext fun a => Fin.ext ?_)
  refine (Window.rect_emb_val win0_10 t _ a).trans ?_
  rw [show win0_10.index t = ![0, 0] from H t]
  fin_cases a
  · show 0 * 1024 + k.val = k.val; omega
  · show 0 * 1024 + j.val = j.val; omega

theorem host_pp (c : Dev nD) (k : Fin 256) (j : Fin 1024) : V m c main_v15 (ix2 k j) = m ((c.tc : Thread nD τ).loc main_arg11) (ix3 0 k j) := by
  simp only [V, hostOps0]
  after_reads_at

theorem iblk_pp (c : Dev nD) (t : Fin cfg0.N) (k : Fin 256) (j : Fin 1024) :
    iblk m c 11 t (ix2 k j) = m ((c.tc : Thread nD τ).loc main_arg11) (ix3 0 k j) := by
  have H : ∀ t : Fin grid0.N, win0_11.index t = ![0, 0] := by decide +kernel
  refine Eq.trans ?_ (host_pp m c k j)
  refine congrArg (V m c main_v15) (funext fun a => Fin.ext ?_)
  refine (Window.rect_emb_val win0_11 t _ a).trans ?_
  rw [show win0_11.index t = ![0, 0] from H t]
  fin_cases a
  · show 0 * 256 + k.val = k.val; omega
  · show 0 * 1024 + j.val = j.val; omega

/-! ## The result -/

/-- The array ends at any `G` that agrees with every point's output block. -/
theorem final (c : Dev nD) (G : S4x8192x1024.Idx → Elt Ideal .f32)
    (hG : ∀ (b : Fin 4) (q : Fin 16) (r : Fin 512) (j : Fin 1024), outsAt0 m c (pt b q) (ix3 0 r j) = G (ix3 b (row q r) j)) :
    (dats m 0 c).arrAt 12 cfg0.N = G := by
  refine Dat.arrAt_eq_of_cover (dats m 0 c) 12 G ?_ ?_
  · intro t _
    obtain ⟨b, q, rfl⟩ := pt_of t
    rw [Cert.Kernel2Ideal.Value.flushed12]
    funext (y : S1x512x1024.Idx)
    show outsAt0 m c (pt b q) y = G ((win0_12.rect (pt b q)).emb y)
    obtain ⟨r, j, rfl⟩ : ∃ (r : Fin 512) (j : Fin 1024), y = ix3 0 r j := ⟨y 1, y 2, by
      funext a; fin_cases a
      · exact Fin.ext (by have : (y 0).val < 1 := (y 0).isLt; show (y 0).val = 0; omega)
      · rfl
      · rfl⟩
    refine (hG b q r j).trans (congrArg G (funext fun a => Fin.ext ?_))
    refine Eq.symm ((Window.rect_emb_val win0_12 (pt b q) _ a).trans ?_)
    rw [index_o]
    fin_cases a
    · show b.val * 1 + 0 = b.val; omega
    · show q.val * 512 + r.val = 512 * q.val + r.val; omega
    · show 0 * 1024 + j.val = j.val; omega
  · intro (i : S4x8192x1024.Idx)
    have h1 : (i 1).val < 8192 := (i 1).isLt
    let q : Fin 16 := ⟨(i 1).val / 512, by omega⟩
    let r : Fin 512 := ⟨(i 1).val % 512, by omega⟩
    let b : Fin 4 := i 0
    refine ⟨pt b q, flush0_12 _, ?_⟩
    refine Finset.mem_map.mpr ⟨ix3 0 r (i 2), Finset.mem_univ _, funext fun a => Fin.ext ?_⟩
    refine (Window.rect_emb_val win0_12 (pt b q) _ a).trans ?_
    rw [index_o]
    fin_cases a
    · show (i 0).val * 1 + 0 = (i 0).val; omega
    · show (i 1).val / 512 * 512 + (i 1).val % 512 = (i 1).val; omega
    · show 0 * 1024 + (i 2).val = (i 2).val; omega

end Cert.Proof.PI2

end
-- ==== Proof.RI2.Row.lean ====
/- The last call's reference over the reals, row by row. -/
module

public import proofs.«01_k».proof.Proof.Gen.Reference2Ideal.Read
public import proofs.«01_k».proof.Proof.Dense.Row

@[expose] public section

set_option maxRecDepth 16384

noncomputable section

namespace Cert.Proof.RI2

open Cert.Reference2Ideal Cert.Reference2Ideal.Gen Cert.Reference2Ideal.Read Cert.Dense
open Idealize.ShloMosaic Idealize.ShloMosaic.TcCoe

variable (x0 : (⟨S4x8192x1024, .f32⟩ : BufTy).Contents (Elt Ideal)) (x1 x2 : (⟨S4x8192x512, .bf16⟩ : BufTy).Contents (Elt Ideal))
  (x3 : (⟨S1x4x8192x256, .f32⟩ : BufTy).Contents (Elt Ideal))
  (x4 : (⟨S1x1024x1024, .f32⟩ : BufTy).Contents (Elt Ideal)) (x5 : (⟨S1x1024, .f32⟩ : BufTy).Contents (Elt Ideal))
  (x6 x7 : (⟨S1x1024x2816, .f32⟩ : BufTy).Contents (Elt Ideal)) (x8 : (⟨S1x2816x1024, .f32⟩ : BufTy).Contents (Elt Ideal))
  (x9 : (⟨S1x1024, .f32⟩ : BufTy).Contents (Elt Ideal)) (x10 : (⟨S1x1024x1024, .f32⟩ : BufTy).Contents (Elt Ideal))
  (x11 : (⟨S1x256x1024, .f32⟩ : BufTy).Contents (Elt Ideal))

/-! ## The output projection -/

theorem lo_at (b : Fin 4) (s : Fin 8192) (k : Fin 512) :
    val_main_v2 (F := Ideal) x1 x2 (ix3 b s ⟨k.val, by omega⟩) = x1 (ix3 b s k) := by
  pointwise [val_main_v2, val_main_v0, val_main_v1]

theorem hi_at (b : Fin 4) (s : Fin 8192) (k : Fin 512) :
    val_main_v2 (F := Ideal) x1 x2 (ix3 b s ⟨512 + k.val, by omega⟩) = x2 (ix3 b s k) := by
  pointwise [val_main_v2, val_main_v0, val_main_v1]

/-- The row after the output projection of the concatenated features. -/
theorem mixed_at (b : Fin 4) (s : Fin 8192) (j : Fin 1024) :
    val_main_v5 (F := Ideal) x0 x1 x2 x4 (ix3 b s j)
      = mixed (fun k => x0 (ix3 b s k)) (fun k => x1 (ix3 b s k)) (fun k => x2 (ix3 b s k)) (fun k j => x4 (ix3 0 k j)) j := by
  have e : val_main_v4 (F := Ideal) x1 x2 x4 (ix3 b s j) = ∑ k : Fin 1024, val_main_v2 (F := Ideal) x1 x2 (ix3 b s k) * x4 (ix3 0 k j) := by
    unfold val_main_v4
    generalize val_main_v2 (F := Ideal) x1 x2 = y
    pointwise [val_main_v3]
  rw [val_main_v5_apply, e, Fin.sum_univ_add (a := 512) (b := 512)]
  refine (add_assoc _ _ _).symm.trans (congrArg₂ (· + ·) (congrArg (x0 (ix3 b s j) + ·) ?_) ?_)
  · exact Finset.sum_congr rfl fun k _ => congrArg (· * _) (lo_at x1 x2 b s k)
  · exact Finset.sum_congr rfl fun k _ => congrArg (· * _) (hi_at x1 x2 b s k)

/-! ## The feed-forward -/

theorem norm_at (b : Fin 4) (s : Fin 8192) (j : Fin 1024) :
    val_main_v19 (F := Ideal) x0 x1 x2 x4 x5 (ix3 b s j)
      = norm (fun k => val_main_v5 (F := Ideal) x0 x1 x2 x4 (ix3 b s k)) (fun k => x5 (ix2 0 k)) j := by
  unfold val_main_v19 val_main_v16 val_main_v15 val_main_v14 val_main_v13 val_main_v11 val_main_v9 val_main_v8 val_main_v7
  generalize val_main_v5 (F := Ideal) x0 x1 x2 x4 = y
  pointwise [val_main_v10, val_main_v12, val_main_cst, val_main_cst_0, val_main_cst_1, val_main_v18, val_main_v17, val_main_v6]
  rfl

theorem act_at (b : Fin 4) (s : Fin 8192) (f : Fin 2816) :
    val_main_v26 (F := Ideal) x0 x1 x2 x4 x5 x6 x7 (ix3 b s f)
      = act (fun k => val_main_v19 (F := Ideal) x0 x1 x2 x4 x5 (ix3 b s k)) (fun k f => x6 (ix3 0 k f)) (fun k f => x7 (ix3 0 k f)) f := by
  have e : val_main_v23 (F := Ideal) x0 x1 x2 x4 x5 x6 (ix3 b s f)
      = ∑ k : Fin 1024, val_main_v19 (F := Ideal) x0 x1 x2 x4 x5 (ix3 b s k) * x6 (ix3 0 k f) := by
    unfold val_main_v23
    generalize val_main_v19 (F := Ideal) x0 x1 x2 x4 x5 = y
    pointwise [val_main_v20]
  unfold act
  rw [← e]
  unfold val_main_v26 val_main_v25 val_main_v24 val_main_call0_v5 val_main_call0_v3 val_main_call0_v1 val_main_call0_v0
  generalize val_main_v19 (F := Ideal) x0 x1 x2 x4 x5 = y
  generalize val_main_v23 (F := Ideal) x0 x1 x2 x4 x5 x6 = z
  pointwise [val_main_v21, val_main_call0_v4, val_main_call0_v2, val_main_call0_cst, val_main_call0_cst_0]
  rfl

theorem half_at (b : Fin 4) (s : Fin 8192) (j : Fin 1024) :
    val_main_v30 (F := Ideal) x0 x1 x2 x4 x5 x6 x7 x8 (ix3 b s j)
      = halfStep (fun k => val_main_v5 (F := Ideal) x0 x1 x2 x4 (ix3 b s k)) (fun k => x5 (ix2 0 k)) (fun k f => x6 (ix3 0 k f))
          (fun k f => x7 (ix3 0 k f)) (fun f j => x8 (ix3 0 f j)) j := by
  have h : (fun k => val_main_v19 (F := Ideal) x0 x1 x2 x4 x5 (ix3 b s k))
      = norm (fun k => val_main_v5 (F := Ideal) x0 x1 x2 x4 (ix3 b s k)) (fun k => x5 (ix2 0 k)) := funext fun k => norm_at x0 x1 x2 x4 x5 b s k
  have e := fun f => (act_at x0 x1 x2 x4 x5 x6 x7 b s f).trans (congrArg (fun h => act h (fun k f => x6 (ix3 0 k f)) (fun k f => x7 (ix3 0 k f)) f) h)
  unfold halfStep
  simp only [← e]
  unfold val_main_v30 val_main_v29 val_main_v27
  generalize val_main_v26 (F := Ideal) x0 x1 x2 x4 x5 x6 x7 = y
  generalize val_main_v5 (F := Ideal) x0 x1 x2 x4 = z
  pointwise [val_main_v28, val_main_cst_2, val_main_v22]

/-! ## The gated embedding -/

theorem norm2_at (b : Fin 4) (s : Fin 8192) (j : Fin 1024) :
    val_main_v44 (F := Ideal) x0 x1 x2 x4 x5 x6 x7 x8 x9 (ix3 b s j)
      = norm (fun k => val_main_v30 (F := Ideal) x0 x1 x2 x4 x5 x6 x7 x8 (ix3 b s k)) (fun k => x9 (ix2 0 k)) j := by
  unfold val_main_v44 val_main_v41 val_main_v40 val_main_v39 val_main_v38 val_main_v36 val_main_v34 val_main_v33 val_main_v32
  generalize val_main_v30 (F := Ideal) x0 x1 x2 x4 x5 x6 x7 x8 = y
  pointwise [val_main_v35, val_main_v37, val_main_cst_3, val_main_cst_4, val_main_cst_5, val_main_v43, val_main_v42, val_main_v31]
  rfl

theorem gated_at (b : Fin 4) (s : Fin 8192) (j : Fin 1024) :
    val_main_v57 (F := Ideal) x0 x1 x2 x3 x4 x5 x6 x7 x8 x9 x10 x11 (ix3 b s j)
      = gated (fun k => val_main_v30 (F := Ideal) x0 x1 x2 x4 x5 x6 x7 x8 (ix3 b s k)) (fun k => x9 (ix2 0 k))
          (fun k j => x10 (ix3 0 k j)) (fun k => x3 (ix4 0 b s k)) (fun k j => x11 (ix3 0 k j)) j := by
  have e := fun k => norm2_at x0 x1 x2 x4 x5 x6 x7 x8 x9 b s k
  unfold gated
  simp only [← e]
  unfold val_main_v57 val_main_v56 val_main_v55 val_main_v52 val_main_v50 val_main_v48 val_main_v47 val_main_v46
  generalize val_main_v44 (F := Ideal) x0 x1 x2 x4 x5 x6 x7 x8 x9 = y
  generalize val_main_v30 (F := Ideal) x0 x1 x2 x4 x5 x6 x7 x8 = z
  pointwise [val_main_v45, val_main_v49, val_main_v51, val_main_cst_6, val_main_cst_7, val_main_v53, val_main_v54]
  rfl

/-- The reference's result at an element, from its arguments. -/
theorem result_at (b : Fin 4) (s : Fin 8192) (j : Fin 1024) :
    val_main_v57 (F := Ideal) x0 x1 x2 x3 x4 x5 x6 x7 x8 x9 x10 x11 (ix3 b s j)
      = gated
          (halfStep (mixed (fun k => x0 (ix3 b s k)) (fun k => x1 (ix3 b s k)) (fun k => x2 (ix3 b s k)) (fun k j => x4 (ix3 0 k j)))
            (fun k => x5 (ix2 0 k)) (fun k f => x6 (ix3 0 k f)) (fun k f => x7 (ix3 0 k f)) (fun f j => x8 (ix3 0 f j)))
          (fun k => x9 (ix2 0 k)) (fun k j => x10 (ix3 0 k j)) (fun k => x3 (ix4 0 b s k)) (fun k j => x11 (ix3 0 k j)) j := by
  rw [gated_at, funext (half_at x0 x1 x2 x4 x5 x6 x7 x8 b s), funext (mixed_at x0 x1 x2 x4 b s)]

end Cert.Proof.RI2

end
-- ==== Proof.PI2.Value.lean ====
/- The last call computes its reference: every row of its result is the reference's row of the same arguments. -/
module

public import proofs.«01_k».proof.Defs
public import proofs.«01_k».proof.Proof.PI2.Blocks
public import proofs.«01_k».proof.Proof.RI2.Row

@[expose] public section

set_option maxRecDepth 16384

noncomputable section

namespace Cert.Proof.PI2

open Cert.Kernel2Ideal Cert.Kernel2Ideal.Gen Cert.Dense
open Idealize.ShloMosaic Idealize.ShloMosaic.TcCoe Idealize.SL.Sem

/-- The call's array ends at the reference's value of the same arguments. -/
theorem array_eq (m : (ℓ : Loc nD τ sig) → Buf (Elt Ideal) ℓ) (c : Dev nD) :
    (dats m 0 c).arrAt 12 cfg0.N
      = Cert.Reference2Ideal.Read.val_main_v57 (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) := by
  refine final m c _ fun b q r j => ?_
  rw [RI2.result_at]
  refine (out_read _ _ _ _ _ _ _ _ _ _ _ _ _ _ _ _ _ _ _ _ _ _ _ _ _ _ _ _ _ _ _ _ _ _ _ _ _ _ _ _ c _ r j).trans ?_
  unfold step
  simp only [iblk_x, iblk_c, iblk_s, iblk_p, iblk_wo, iblk_g1, iblk_wg, iblk_wu, iblk_wd, iblk_g2, iblk_pg, iblk_pp]

/-- The last call's ideal twin and its reference end at the same array. -/
theorem algebraic_all : Cert.algebraic_Kernel2Ideal_Reference2Ideal (hKernel2Ideal := Cert.Kernel2Ideal.Gen.facts)
    (hReference2Ideal := Cert.Reference2Ideal.Gen.facts) := by
  intro m g m' g' _ hargs
  refine ⟨fun c => (dats m 0 c).arrAt 12 cfg0.N, Cert.Kernel2Ideal.Value.run_blocks m g, ?_⟩
  refine (θ_run _ _ _).mono (fun r h c => ⟨(h c).1.trans ?_, (h c).2⟩) (Cert.Reference2Ideal.Value.run m' g')
  rw [Cert.Reference2Ideal.Read.val_main_v57_eq, (hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1, (hargs c).2.2.2.2.2.2.2.2.2.2.2]
  exact (array_eq m c).symm

end Cert.Proof.PI2

end
-- ==== Proof.Dense.Heads.lean ====
/- What follows the first half step, for one row over the reals: the input projection, the gated convolution, the norm of a
   head and its place in 128 lanes. -/
module

public import proofs.«01_k».proof.Proof.Dense.Row

@[expose] public section

set_option maxRecDepth 16384

noncomputable section

namespace Cert.Dense

open Idealize.ShloMosaic

/-- Feature `n` of a row's input projection. -/
def proj (x g : Fin 1024 → EReal) (w : Fin 1024 → Fin 3072 → EReal) (n : Fin 3072) : EReal := ∑ k, norm x g k * w k n

/-- Feature `c` of the `n`th of its six groups. -/
def col (n : Fin 6) (c : Fin 512) : Fin 3072 := ⟨512 * n.val + c.val, by omega⟩

/-- Feature `d` of head `h`. -/
def lane (h : Fin 8) (d : Fin 64) : Fin 512 := ⟨64 * h.val + d.val, by omega⟩

/-- A sequence `k` places later, nothing before its start. -/
def before (k : ℕ) (z : Fin 8192 → EReal) (s : Fin 8192) : EReal := if k ≤ s.val then z ⟨s.val - k, by omega⟩ else 0

/-- The gated convolution at one place: three taps, a bias and the gate. -/
def gate3 (b z z1 z2 w0 w1 w2 bias : EReal) : EReal := b * (z2 * w0 + z1 * w1 + z * w2 + bias)

/-- Feature `d` of head `h` over the head's root mean square, times the gain. -/
def headNorm (t : Fin 512 → EReal) (g : Fin 64 → EReal) (h : Fin 8) (d : Fin 64) : EReal :=
  t (lane h d) * Ideal.rsqrt (Ideal.div (∑ e, t (lane h e) * t (lane h e)) (Ideal.ofBits .f32 0x42800000#32)
    + Ideal.ofBits .f32 0x358637BD#32) * g d

/-- A head's 64 features in its half of 128 lanes: even heads the first, odd heads the second. -/
def half (t : Fin 8 → Fin 64 → EReal) (h : Fin 8) (l : Fin 128) : EReal :=
  if l.val / 64 = h.val % 2 then t h ⟨l.val % 64, by omega⟩ else 0

/-! ## A head's norm, computed from the sums of all the heads -/

/-- A feature's head, and its place in the head. -/
def headOf (c : Fin 512) : Fin 8 := ⟨c.val / 64, by omega⟩
def placeOf (c : Fin 512) : Fin 64 := ⟨c.val % 64, by omega⟩

theorem lane_of (c : Fin 512) : lane (headOf c) (placeOf c) = c := Fin.ext (by show 64 * (c.val / 64) + c.val % 64 = c.val; omega)

/-- A sum against the column of the heads' mask is the sum over the column's head. -/
theorem sum_head (f : Fin 512 → EReal) (c : Fin 512) :
    ∑ k : Fin 512, f k * (if k.val / 64 = c.val / 64 then 1 else 0) = ∑ e, f (lane (headOf c) e) := by
  refine (Finset.sum_of_injOn (lane (headOf c)) ?_ ?_ ?_ ?_).symm
  · intro a _ b _ h
    have h' : 64 * (headOf c).val + a.val = 64 * (headOf c).val + b.val := congrArg Fin.val h
    exact Fin.ext (by omega)
  · exact fun _ _ => Finset.mem_coe.mpr (Finset.mem_univ _)
  · intro k _ hk
    rw [if_neg, mul_zero]
    intro e
    refine hk ⟨placeOf k, Finset.mem_coe.mpr (Finset.mem_univ _), ?_⟩
    rw [← show headOf k = headOf c from Fin.ext e]
    exact lane_of k
  · intro e _
    rw [if_pos, mul_one]
    show (64 * (c.val / 64) + e.val) / 64 = c.val / 64
    omega

theorem width_bits : Ideal.ofBits .f32 0x42800000#32 = ((64 : ℝ) : EReal) := by
  simp [Ideal.ofBits, Ideal.ieee]
  norm_num
  rw [← EReal.coe_mul]
  norm_num

theorem inv_width_bits : Ideal.ofBits .f32 0x3C800000#32 = ((1 / 64 : ℝ) : EReal) := by
  simp [Ideal.ofBits, Ideal.ieee]
  norm_num
  rw [← EReal.coe_mul]
  norm_num

theorem eighth_bits : Ideal.ofBits .f32 0x3E000000#32 = ((1 / 8 : ℝ) : EReal) := by
  simp [Ideal.ofBits, Ideal.ieee]
  norm_num
  rw [← EReal.coe_mul]
  norm_num

/-- A mean square computed as the sum times one over the width. -/
theorem mean_eq (x : EReal) : x * Ideal.ofBits .f32 0x3C800000#32 = Ideal.div x (Ideal.ofBits .f32 0x42800000#32) := by
  rw [inv_width_bits, width_bits, Ideal.div_coe (by norm_num : (64 : ℝ) ≠ 0)]

/-- A feature normed through the heads' mask. -/
theorem headNorm_eq (t : Fin 512 → EReal) (g : Fin 64 → EReal) (c : Fin 512) :
    t c * Ideal.rsqrt ((∑ k : Fin 512, t k * t k * (if k.val / 64 = c.val / 64 then 1 else 0)) * Ideal.ofBits .f32 0x3C800000#32
        + Ideal.ofBits .f32 0x358637BD#32) * g (placeOf c)
      = headNorm t g (headOf c) (placeOf c) := by
  rw [sum_head (fun k => t k * t k) c, mean_eq]
  unfold headNorm
  rw [lane_of]

/-- Dividing by eight and by the logarithm of two is multiplying by one over the logarithm of 256. -/
theorem scale_eq (a g : EReal) :
    a * (g * (((Real.log 256)⁻¹ : ℝ) : EReal)) = Ideal.div (a * g * Ideal.ofBits .f32 0x3E000000#32) ((Real.log 2 : ℝ) : EReal) := by
  have h2 : Real.log 2 ≠ 0 := (Real.log_pos (by norm_num)).ne'
  have e : Real.log 256 = 8 * Real.log 2 := by
    rw [show (256 : ℝ) = 2 ^ 8 by norm_num, Real.log_pow]
    norm_num
  rw [eighth_bits, Ideal.div_coe h2, mul_assoc (a * g), ← EReal.coe_mul, ← mul_assoc a g, e]
  congr 2
  field_simp

end Cert.Dense

end
-- ==== Proof.PI3.Pay.lean ====
/- The first call's body over the reals: its vectors at an element. -/
module

public import proofs.«01_k».proof.Proof.Gen.Kernel3Ideal.Value
public import proofs.«01_k».proof.Proof.Dense.Heads

@[expose] public section

set_option maxRecDepth 16384

noncomputable section

namespace Cert.Proof.PI3

open Cert.Kernel3Ideal Cert.Kernel3Ideal.Gen Cert.Dense
open Idealize.ShloMosaic Idealize.ShloMosaic.TcCoe

/-! ## The half step -/

/-- The norm of the incoming rows. -/
theorem pay3_at (v0 : Vec Ideal S1x512x1024 .f32) (v2 : Vec Ideal S1x1024 .f32) (r : Fin 512) (j : Fin 1024) :
    k0_pay3 (F := Ideal) v0 v2 (ix2 r j) = norm (fun i => v0 (ix3 0 r i)) (fun i => v2 (ix2 0 i)) j := by
  pointwise [k0_pay3, k0_pay2]
  rfl

/-- 256 hidden features. -/
theorem pay8_at (h : FVec Ideal S512x1024 .bf16) (g u : Vec Ideal S1024x256 .bf16) (r : Fin 512) (f : Fin 256) :
    k0_pay8 (F := Ideal) h g u (ix2 r f)
      = (∑ k : Fin 1024, h (ix2 r k) * g (ix2 k f)) * Ideal.logistic (∑ k : Fin 1024, h (ix2 r k) * g (ix2 k f))
          * ∑ k : Fin 1024, h (ix2 r k) * u (ix2 k f) := by
  pointwise [k0_pay8]

/-- The rows after half the feed-forward. -/
theorem pay19_at (v0 : Vec Ideal S1x512x1024 .f32) (v160 : Vec Ideal S512x2816 .bf16) (v161 : Vec Ideal S2816x1024 .bf16)
    (r : Fin 512) (j : Fin 1024) :
    k0_pay19 (F := Ideal) (k0_pay2 v0) v160 v161 (ix2 r j)
      = v0 (ix3 0 r j) + Ideal.ofBits .f32 0x3F000000#32 * ∑ f : Fin 2816, v160 (ix2 r f) * v161 (ix2 f j) := by
  pointwise [k0_pay19, k0_pay2]

/-- Their block. -/
theorem pay20_at (v1 : FVec Ideal S512x1024 .f32) (v160 : Vec Ideal S512x2816 .bf16) (v161 : Vec Ideal S2816x1024 .bf16)
    (r : Fin 512) (j : Fin 1024) :
    k0_pay20 (F := Ideal) v1 v160 v161 (ix3 0 r j) = k0_pay19 (F := Ideal) v1 v160 v161 (ix2 r j) := by
  unfold k0_pay20
  generalize k0_pay19 (F := Ideal) v1 v160 v161 = y
  pointwise []

/-- Their norm. -/
theorem pay23_at (v1 : FVec Ideal S512x1024 .f32) (v160 : Vec Ideal S512x2816 .bf16) (v161 : Vec Ideal S2816x1024 .bf16)
    (g : Vec Ideal S1x1024 .f32) (r : Fin 512) (j : Fin 1024) :
    k0_pay23 (F := Ideal) (k0_pay19 v1 v160 v161) (k0_pay21 g) (k0_pay22 v1 v160 v161) (ix2 r j)
      = norm (fun i => k0_pay19 (F := Ideal) v1 v160 v161 (ix2 r i)) (fun i => g (ix2 0 i)) j := by
  unfold k0_pay22 k0_pay21
  generalize k0_pay19 (F := Ideal) v1 v160 v161 = y
  pointwise [k0_pay23]
  rfl

/-- A projection of 512 columns. -/
theorem pay31_at (h : FVec Ideal S512x1024 .bf16) (w : Vec Ideal S1024x512 .bf16) (r c : Fin 512) :
    k0_pay31 (F := Ideal) h w (ix2 r c) = ∑ k : Fin 1024, h (ix2 r k) * w (ix2 k c) := by
  pointwise [k0_pay31]

/-! ## The convolution -/

/-- Its input is the product of two projections. -/
theorem pay25_at (v166 : FVec Ideal S512x1024 .f32) (v171 : FVec Ideal S1x1024 .f32) (v176 : FVec Ideal S512x1 .f32)
    (w1 w2 : Vec Ideal S1024x512 .bf16) (r c : Fin 512) :
    k0_pay25 (F := Ideal) v166 v171 v176 w1 w2 (ix2 r c)
      = k0_pay31 (F := Ideal) (k0_pay23 v166 v171 v176) w1 (ix2 r c) * k0_pay31 (F := Ideal) (k0_pay23 v166 v171 v176) w2 (ix2 r c) := by
  unfold k0_pay25
  generalize k0_pay23 (F := Ideal) v166 v171 v176 = h
  pointwise [k0_pay31]

theorem row_is (r : Fin 512) (n : ℕ) (hn : n < 512) :
    IntOp.cmpi .eq (BitVec.ofNat 32 r.val) (BitVec.ofNat 32 n) = if r.val = n then 1#1 else 0#1 := by
  show BitVec.ofBool (BitVec.ofNat 32 r.val == BitVec.ofNat 32 n) = _
  by_cases h : r.val = n
  · rw [if_pos h, h, beq_self_eq_true]; rfl
  · rw [if_neg h, beq_eq_false_iff_ne.mpr]; · rfl
    intro e
    have e' := congrArg BitVec.toNat e
    rw [BitVec.toNat_ofNat, BitVec.toNat_ofNat, Nat.mod_eq_of_lt (by omega), Nat.mod_eq_of_lt (by omega)] at e'
    exact h e'

/-- One place later, the row before the block's first being `p`. -/
theorem pay26_at (v166 : FVec Ideal S512x1024 .f32) (v171 : FVec Ideal S1x1024 .f32) (v176 : FVec Ideal S512x1 .f32)
    (w1 w2 : Vec Ideal S1024x512 .bf16) (p : Vec Ideal S1x512 .f32) (r c : Fin 512) :
    k0_pay26 (F := Ideal) v166 v171 v176 w1 w2 p (ix2 r c)
      = if h : r.val = 0 then p (ix2 0 c) else k0_pay25 (F := Ideal) v166 v171 v176 w1 w2 (ix2 (⟨r.val - 1, by omega⟩ : Fin 512) c) := by
  unfold k0_pay26
  generalize k0_pay25 (F := Ideal) v166 v171 v176 w1 w2 = z
  pointwise []
  rw [row_is r 0 (by omega)]
  by_cases h : r.val = 0
  · rw [if_pos h, dif_pos h]; rfl
  · rw [if_neg h, dif_neg h]
    exact congrArg (fun a => z (ix2 a c)) (Fin.ext (show (r.val + 512 - 1) % 512 = r.val - 1 by omega))

/-- Two places later, the two rows before the block's first being `p2` and `p1`. -/
theorem pay27_at (v166 : FVec Ideal S512x1024 .f32) (v171 : FVec Ideal S1x1024 .f32) (v176 : FVec Ideal S512x1 .f32)
    (w1 w2 : Vec Ideal S1024x512 .bf16) (p1 p2 : Vec Ideal S1x512 .f32) (r c : Fin 512) :
    k0_pay27 (F := Ideal) v166 v171 v176 w1 w2 p1 p2 (ix2 r c)
      = if h : r.val = 0 then p2 (ix2 0 c) else if h : r.val = 1 then p1 (ix2 0 c)
        else k0_pay25 (F := Ideal) v166 v171 v176 w1 w2 (ix2 (⟨r.val - 2, by omega⟩ : Fin 512) c) := by
  unfold k0_pay27
  generalize k0_pay25 (F := Ideal) v166 v171 v176 w1 w2 = z
  pointwise []
  rw [row_is r 0 (by omega), row_is r 1 (by omega)]
  by_cases h : r.val = 0
  · rw [if_pos h, dif_pos h]; rfl
  · rw [if_neg h, dif_neg h]
    by_cases h1 : r.val = 1
    · rw [if_pos h1, dif_pos h1]; rfl
    · rw [if_neg h1, dif_neg h1]
      exact congrArg (fun a => z (ix2 a c)) (Fin.ext (show (r.val + 512 - 2) % 512 = r.val - 2 by omega))

/-- The last eight rows. -/
theorem pay29_at (v166 : FVec Ideal S512x1024 .f32) (v171 : FVec Ideal S1x1024 .f32) (v176 : FVec Ideal S512x1 .f32)
    (w1 w2 : Vec Ideal S1024x512 .bf16) (r : Fin 8) (c : Fin 512) :
    k0_pay29 (F := Ideal) (k0_pay28 v166 v171 v176 w1 w2) (ix2 r c)
      = k0_pay25 (F := Ideal) v166 v171 v176 w1 w2 (ix2 (⟨504 + r.val, by omega⟩ : Fin 512) c) := by
  unfold k0_pay28
  generalize k0_pay25 (F := Ideal) v166 v171 v176 w1 w2 = z
  pointwise [k0_pay29]

/-- The gated convolution. -/
theorem pay30_at (h : FVec Ideal S512x1024 .bf16) (z z1 z2 : FVec Ideal S512x512 .f32) (w2 w1 w0 b : Vec Ideal S1x512 .f32)
    (w : Vec Ideal S1024x512 .bf16) (r c : Fin 512) :
    k0_pay30 (F := Ideal) h z z1 z2 w2 w1 w0 b w (ix3 0 r c)
      = gate3 (k0_pay31 (F := Ideal) h w (ix2 r c)) (z (ix2 r c)) (z1 (ix2 r c)) (z2 (ix2 r c)) (w0 (ix2 0 c)) (w1 (ix2 0 c))
          (w2 (ix2 0 c)) (b (ix2 0 c)) := by
  pointwise [k0_pay30, k0_pay31]
  unfold gate3
  generalize ∑ k, h (ix2 r k) * w (ix2 k c) = t
  rw [mul_comm (w2 _), mul_comm (w1 _), mul_comm (w0 _), add_comm (z (ix2 r c) * _), add_assoc (z1 (ix2 r c) * _),
    add_comm (z (ix2 r c) * _), ← add_assoc, add_comm (z1 (ix2 r c) * _) (z2 (ix2 r c) * _)]

/-! ## The heads -/

/-- The queries, normed through the heads' mask. -/
theorem pay34_at (h : FVec Ideal S512x1024 .bf16) (w : Vec Ideal S1024x512 .bf16) (g : Vec Ideal S1x512 .f32) (bd : Vec Ideal S512x512 .bf16)
    (r c : Fin 512) :
    k0_pay34 (F := Ideal) (k0_pay31 h w) (k0_pay32 g) (k0_pay33 h w) bd (ix2 r c)
      = k0_pay31 (F := Ideal) h w (ix2 r c)
          * Ideal.rsqrt ((∑ k : Fin 512, k0_pay31 (F := Ideal) h w (ix2 r k) * k0_pay31 (F := Ideal) h w (ix2 r k) * bd (ix2 k c))
              * Ideal.ofBits .f32 0x3C800000#32 + Ideal.ofBits .f32 0x358637BD#32)
          * (g (ix2 0 c) * (((Real.log 256)⁻¹ : ℝ) : EReal)) := by
  unfold k0_pay33
  generalize k0_pay31 (F := Ideal) h w = t
  pointwise [k0_pay34, k0_pay32]
  rfl

/-- The keys. -/
theorem pay58_at (h : FVec Ideal S512x1024 .bf16) (w : Vec Ideal S1024x512 .bf16) (g : Vec Ideal S1x512 .f32) (bd : Vec Ideal S512x512 .bf16)
    (r c : Fin 512) :
    k0_pay58 (F := Ideal) (k0_pay56 h w bd) (k0_pay57 g) (ix3 0 r c)
      = k0_pay31 (F := Ideal) h w (ix2 r c)
          * Ideal.rsqrt ((∑ k : Fin 512, k0_pay31 (F := Ideal) h w (ix2 r k) * k0_pay31 (F := Ideal) h w (ix2 r k) * bd (ix2 k c))
              * Ideal.ofBits .f32 0x3C800000#32 + Ideal.ofBits .f32 0x358637BD#32)
          * g (ix2 0 c) := by
  show k0_pay58 (F := Ideal) (mulf (k0_pay31 (F := Ideal) h w) (rsqrt (addf (mulf (matmul dot_S512x512_S512x512_S512x512_1_0_0_1_n_n none (truncf .bf16 (mulf (k0_pay31 (F := Ideal) h w) (k0_pay31 (F := Ideal) h w)) bitsLt_bf16_f32)
    (shapeCast S512x512 bd shapeCasts_S512x512_S512x512) (constant S512x512 .f32 0x00000000#32)) (broadcast S512x512 (Scalar.ofBits (F := Ideal) .f32 0x3C800000#32))) (broadcast S512x512 (Scalar.ofBits (F := Ideal) .f32 0x358637BD#32)))))
      (k0_pay57 g) (ix3 0 r c) = _
  generalize k0_pay31 (F := Ideal) h w = t
  pointwise [k0_pay58, k0_pay57]

/-! ## A head's place in the lanes -/

/-- A lane's half, by division rounding down. -/
def laneHalf : IVec S512x128 32 :=
  let l : IVec S512x128 32 := iota .tc S512x128 32 [1] iota_S512x128_d1_w32
  let q : IVec S512x128 32 := divsi l (broadcast S512x128 64#32)
  let s : IVec S512x128 32 := subi (extui 32 (cmpi .sgt l (broadcast S512x128 0#32)) natLt_1_32) (extui 32 (cmpi .slt l (broadcast S512x128 0#32)) natLt_1_32)
  let n : BitVec 32 := Scalar.subi (Scalar.extui (Scalar.cmpi .sgt 64#32 0#32)) (Scalar.extui (Scalar.cmpi .slt 64#32 0#32))
  select (andi (cmpi .ne s (broadcast S512x128 n)) (cmpi .ne (remsi l (broadcast S512x128 64#32)) (broadcast S512x128 0#32)))
    (subi q (broadcast S512x128 1#32)) q

theorem laneHalf_at (r : Fin 512) (l : Fin 128) : laneHalf (ix2 r l) = BitVec.ofNat 32 (l.val / 64) := by
  have e : ∀ l : Fin 128, laneHalf (ix2 0 l) = BitVec.ofNat 32 (l.val / 64) := by decide +kernel
  exact e l

/-- 128 columns from the `g`th on, those of the half `p` kept, the others zero. -/
def store (t : FVec Ideal S512x512 .f32) (g : ℕ) (hs : S512x512.Slices ![0, g] S512x128) (p : BitVec 32) : FVec Ideal S1x1x512x128 .bf16 :=
  shapeCast S1x1x512x128 (truncf .bf16 (select (cmpi .eq laneHalf (broadcast S512x128 p)) (extractStridedSlice S512x128 ![0, g] t hs)
    (broadcast S512x128 (Scalar.ofBits (F := Ideal) .f32 0x00000000#32))) bitsLt_bf16_f32) shapeCasts_S512x128_S1x1x512x128

theorem store_at (t : FVec Ideal S512x512 .f32) (g : ℕ) (hs : S512x512.Slices ![0, g] S512x128) (p : ℕ) (hg : g + 128 ≤ 512) (hp : p < 2)
    (r : Fin 512) (l : Fin 128) :
    store t g hs (BitVec.ofNat 32 p) (ix4 0 0 r l) = if l.val / 64 = p then t (ix2 r (⟨g + l.val, by omega⟩ : Fin 512)) else 0 := by
  unfold store
  have e := laneHalf_at r l
  revert e
  generalize laneHalf = m
  intro e
  pointwise []
  rw [e]
  have h : IntOp.cmpi .eq (BitVec.ofNat 32 (l.val / 64)) (BitVec.ofNat 32 p) = if l.val / 64 = p then 1#1 else 0#1 :=
    row_is (⟨l.val / 64, by omega⟩ : Fin 512) p (by omega)
  rw [h]
  by_cases h : l.val / 64 = p
  · rw [if_pos h, if_pos h]; rfl
  · rw [if_neg h, if_neg h]; rfl

end Cert.Proof.PI3

end
-- ==== Proof.PI3.Loads.lean ====
/- The first call's body over the reals: the memory its steps read. -/
module

public import proofs.«01_k».proof.Proof.PI3.Pay

@[expose] public section

set_option maxRecDepth 16384

noncomputable section

namespace Cert.Proof.PI3

open Cert.Kernel3Ideal Cert.Kernel3Ideal.Gen Cert.Dense
open Idealize.ShloMosaic Idealize.ShloMosaic.TcCoe

/-! ## Loads -/

theorem readAt_unread {s : Shape} {t : EltTy} (M : Memref sig .tc .vmem s t) (hM : M.IsWhole) (r : Rect s)
    (x : s.Idx → Elt Ideal t) : View.readAt (Elt Ideal) M.view r.toLoadRect (hM.unread x) = fun y => x (r.emb y) := by
  funext y
  show M.view.read (Elt Ideal) (hM.unread x) (r.emb y) = _
  rw [hM.read_unread]

theorem emb_all3 {n0 n1 n2 : ℕ} (inb : ∀ a, (![0, 0, 0] : Fin 3 → ℕ) a + (![n0, n1, n2] : Fin 3 → ℕ) a ≤ (⟨3, ![n0, n1, n2]⟩ : Shape).size a)
    (y : (⟨3, ![n0, n1, n2]⟩ : Shape).Idx) :
    (Rect.unit (s := ⟨3, ![n0, n1, n2]⟩) ![0, 0, 0] ![n0, n1, n2] inb).emb y = y := by
  funext a
  refine Fin.ext ?_
  rw [Rect.emb_apply]
  fin_cases a
  · show 0 + 1 * (y 0).val = (y 0).val; omega
  · show 0 + 1 * (y 1).val = (y 1).val; omega
  · show 0 + 1 * (y 2).val = (y 2).val; omega

/-- The rows from `a` on and the columns from `b` on of a buffer. -/
theorem emb_block {n0 n1 m0 m1 : ℕ} (a b : ℕ)
    (inb : ∀ i, (![a, b] : Fin 2 → ℕ) i + (![m0, m1] : Fin 2 → ℕ) i ≤ (⟨2, ![n0, n1]⟩ : Shape).size i) (r : Fin m0) (c : Fin m1) :
    (Rect.unit (s := ⟨2, ![n0, n1]⟩) ![a, b] ![m0, m1] inb).emb (ix2 r c)
      = ix2 (⟨a + r.val, lt_of_lt_of_le (Nat.add_lt_add_left r.isLt a) (inb 0)⟩ : Fin n0)
          (⟨b + c.val, lt_of_lt_of_le (Nat.add_lt_add_left c.isLt b) (inb 1)⟩ : Fin n1) := by
  funext i
  refine Fin.ext ?_
  rw [Rect.emb_apply]
  fin_cases i
  · show a + 1 * r.val = a + r.val; omega
  · show b + 1 * c.val = b + c.val; omega

theorem readAt_block {n0 n1 m0 m1 : ℕ} {e : EltTy} (M : Memref sig .tc .vmem ⟨2, ![n0, n1]⟩ e) (hM : M.IsWhole) (a b : ℕ)
    (inb : ∀ i, (![a, b] : Fin 2 → ℕ) i + (![m0, m1] : Fin 2 → ℕ) i ≤ (⟨2, ![n0, n1]⟩ : Shape).size i)
    (x : (⟨2, ![n0, n1]⟩ : Shape).Idx → Elt Ideal e) (r : Fin m0) (c : Fin m1) :
    View.readAt (Elt Ideal) M.view (Rect.unit (s := ⟨2, ![n0, n1]⟩) ![a, b] ![m0, m1] inb).toLoadRect (hM.unread x) (ix2 r c)
      = x (ix2 (⟨a + r.val, lt_of_lt_of_le (Nat.add_lt_add_left r.isLt a) (inb 0)⟩ : Fin n0)
          (⟨b + c.val, lt_of_lt_of_le (Nat.add_lt_add_left c.isLt b) (inb 1)⟩ : Fin n1)) := by
  rw [readAt_unread]
  exact congrArg x (emb_block a b inb r c)

theorem readAt_all3 {n0 n1 n2 : ℕ} {e : EltTy} (M : Memref sig .tc .vmem ⟨3, ![n0, n1, n2]⟩ e) (hM : M.IsWhole)
    (inb : ∀ a, (![0, 0, 0] : Fin 3 → ℕ) a + (![n0, n1, n2] : Fin 3 → ℕ) a ≤ (⟨3, ![n0, n1, n2]⟩ : Shape).size a)
    (x : (⟨3, ![n0, n1, n2]⟩ : Shape).Idx → Elt Ideal e) :
    View.readAt (Elt Ideal) M.view (Rect.unit (s := ⟨3, ![n0, n1, n2]⟩) ![0, 0, 0] ![n0, n1, n2] inb).toLoadRect (hM.unread x) = x := by
  rw [readAt_unread]
  exact funext fun y => congrArg x (emb_all3 inb y)

theorem emb_all2 {n0 n1 : ℕ} (inb : ∀ a, (![0, 0] : Fin 2 → ℕ) a + (![n0, n1] : Fin 2 → ℕ) a ≤ (⟨2, ![n0, n1]⟩ : Shape).size a)
    (y : (⟨2, ![n0, n1]⟩ : Shape).Idx) :
    (Rect.unit (s := ⟨2, ![n0, n1]⟩) ![0, 0] ![n0, n1] inb).emb y = y := by
  funext a
  refine Fin.ext ?_
  rw [Rect.emb_apply]
  fin_cases a
  · show 0 + 1 * (y 0).val = (y 0).val; omega
  · show 0 + 1 * (y 1).val = (y 1).val; omega

theorem readAt_all2 {n0 n1 : ℕ} {e : EltTy} (M : Memref sig .tc .vmem ⟨2, ![n0, n1]⟩ e) (hM : M.IsWhole)
    (inb : ∀ a, (![0, 0] : Fin 2 → ℕ) a + (![n0, n1] : Fin 2 → ℕ) a ≤ (⟨2, ![n0, n1]⟩ : Shape).size a)
    (x : (⟨2, ![n0, n1]⟩ : Shape).Idx → Elt Ideal e) :
    View.readAt (Elt Ideal) M.view (Rect.unit (s := ⟨2, ![n0, n1]⟩) ![0, 0] ![n0, n1] inb).toLoadRect (hM.unread x) = x := by
  rw [readAt_unread]
  exact funext fun y => congrArg x (emb_all2 inb y)

/-- After one more head's rows and lanes are written, the heads up to it hold the named values. -/
theorem canon_heads (A : Fin 8 → Fin 512 → Fin 128 → EReal) (n : ℕ)
    (inb : ∀ a, (![0, n, 0, 0] : Fin 4 → ℕ) a + (![1, 1, 512, 128] : Fin 4 → ℕ) a ≤ (⟨4, ![1, 8, 512, 128]⟩ : Shape).size a)
    (w : (⟨4, ![1, 1, 512, 128]⟩ : Shape).Idx → Elt Ideal .bf16) (L : List (View.Piece (Elt Ideal) (⟨4, ![1, 8, 512, 128]⟩ : Shape) .bf16))
    (hn : n < 8) (hw : ∀ r l, w (ix4 0 0 r l) = A ⟨n, hn⟩ r l)
    (hL : ∀ (h : Fin 8) r l, h.val < n → View.canon L (ix4 0 h r l) = A h r l)
    (h : Fin 8) (r : Fin 512) (l : Fin 128) (hh : h.val < n + 1) :
    View.canon (Val := Elt Ideal) (⟨Rect.unit (s := ⟨4, ![1, 8, 512, 128]⟩) ![0, n, 0, 0] ![1, 1, 512, 128] inb, w⟩ :: L) (ix4 0 h r l) = A h r l := by
  by_cases g : h.val < n
  · refine (View.canon_cons_of_not_mem _ L fun hm => ?_).trans (hL h r l g)
    obtain ⟨h1, -⟩ := (Rect.mem_set_unit (inb := inb)).mp hm (1 : Fin 4)
    exact absurd (show n ≤ h.val from h1) (by omega)
  · have e : ix4 0 h r l = (Rect.unit (s := ⟨4, ![1, 8, 512, 128]⟩) ![0, n, 0, 0] ![1, 1, 512, 128] inb).emb (ix4 0 0 r l) := by
      funext a
      refine Fin.ext ?_
      rw [Rect.emb_apply]
      fin_cases a
      · rfl
      · show h.val = n + 1 * 0; omega
      · show r.val = 0 + 1 * r.val; omega
      · show l.val = 0 + 1 * l.val; omega
    rw [e, View.canon_cons_emb, hw r l, show h = ⟨n, hn⟩ from Fin.ext (by show h.val = n; omega)]

end Cert.Proof.PI3

end
-- ==== Proof.PI3.Rows.lean ====
/- The first call's body over the reals: a block's rows after the half step, and their projections. -/
module

public import proofs.«01_k».proof.Proof.PI3.Loads

@[expose] public section

set_option maxRecDepth 16384

noncomputable section

namespace Cert.Proof.PI3

open Cert.Kernel3Ideal Cert.Kernel3Ideal.Gen Cert.Dense
open Idealize.ShloMosaic Idealize.ShloMosaic.TcCoe

variable (M0 : Memref sig .tc .vmem S1x512x1024 .f32) (h0 : M0.IsWhole) (M1 : Memref sig .tc .vmem S1x1024 .f32) (h1 : M1.IsWhole) (M2 : Memref sig .tc .vmem S1024x2816 .bf16) (h2 : M2.IsWhole) (M3 : Memref sig .tc .vmem S1024x2816 .bf16) (h3 : M3.IsWhole) (M4 : Memref sig .tc .vmem S2816x1024 .bf16) (h4 : M4.IsWhole) (M5 : Memref sig .tc .vmem S1x1024 .f32) (h5 : M5.IsWhole) (M6 : Memref sig .tc .vmem S1024x3072 .bf16) (h6 : M6.IsWhole) (M17 : Memref sig .tc .vmem S512x2816 .bf16)
  (x0 : Vec Ideal S1x512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x3072 .bf16)

/-- Row `r` of the block after the half step. -/
def row (r : Fin 512) : Fin 1024 → EReal :=
  halfStep (fun k => x0 (ix3 0 r k)) (fun k => x1 (ix2 0 k)) (fun k f => x2 (ix2 k f)) (fun k f => x3 (ix2 k f)) (fun f j => x4 (ix2 f j))

/-- Its projection. -/
def rowProj (r : Fin 512) : Fin 3072 → EReal :=
  proj (row x0 x1 x2 x3 x4 r) (fun k => x5 (ix2 0 k)) (fun k n => x6 (ix2 k n))

/-- A row's hidden features. -/
def hidden (r : Fin 512) (f : Fin 2816) : EReal :=
  act (norm (fun k => x0 (ix3 0 r k)) (fun k => x1 (ix2 0 k))) (fun k f => x2 (ix2 k f)) (fun k f => x3 (ix2 k f)) f

/-- 256 of them, from the buffers they are loaded from. -/
theorem hidden_read (n : ℕ) (inb : ∀ a, (![0, n] : Fin 2 → ℕ) a + S1024x256.size a ≤ S1024x2816.size a)
    (hn : n + 256 ≤ 2816) (r : Fin 512) (f : Fin 256) :
    k0_pay8 (F := Ideal)
        (k0_pay3 (F := Ideal)
            (View.readAt (Elt Ideal) M0.view (Rect.unit ![0, 0, 0] S1x512x1024.size inb_S1x512x1024_S1x512x1024_0_0_0).toLoadRect (h0.unread x0))
            (View.readAt (Elt Ideal) M1.view (Rect.unit ![0, 0] S1x1024.size inb_S1x1024_S1x1024_0_0).toLoadRect (h1.unread x1)))
        (View.readAt (Elt Ideal) M2.view (Rect.unit (s := S1024x2816) ![0, n] S1024x256.size inb).toLoadRect (h2.unread x2))
        (View.readAt (Elt Ideal) M3.view (Rect.unit (s := S1024x2816) ![0, n] S1024x256.size inb).toLoadRect (h3.unread x3)) (ix2 r f)
      = hidden x0 x1 x2 x3 r ⟨n + f.val, by omega⟩ := by
  rw [pay8_at]
  have e : ∀ k, k0_pay3 (F := Ideal)
            (View.readAt (Elt Ideal) M0.view (Rect.unit ![0, 0, 0] S1x512x1024.size inb_S1x512x1024_S1x512x1024_0_0_0).toLoadRect (h0.unread x0))
            (View.readAt (Elt Ideal) M1.view (Rect.unit ![0, 0] S1x1024.size inb_S1x1024_S1x1024_0_0).toLoadRect (h1.unread x1)) (ix2 r k)
      = norm (fun k => x0 (ix3 0 r k)) (fun k => x1 (ix2 0 k)) k := fun k => by
    rw [pay3_at, readAt_all3 M0 h0, readAt_all2 M1 h1]
  have b2 := fun k => readAt_block M2 h2 0 n inb x2 k f
  have b3 := fun k => readAt_block M3 h3 0 n inb x3 k f
  simp only [Nat.zero_add] at b2 b3
  unfold hidden act
  refine congrArg₂ (· * ·) (congrArg₂ (fun a b => a * Ideal.logistic b) ?_ ?_) ?_
  · exact Finset.sum_congr rfl fun k _ => congrArg₂ (· * ·) (e k) (b2 k)
  · exact Finset.sum_congr rfl fun k _ => congrArg₂ (· * ·) (e k) (b2 k)
  · exact Finset.sum_congr rfl fun k _ => congrArg₂ (· * ·) (e k) (b3 k)

theorem hidden_at (c : Dev nD) (r : Fin 512) (f : Fin 2816) :
    kernelRun0_A.sl.v160 (F := Ideal) c M0 h0 M1 h1 M2 h2 M3 h3 M17 x0 x1 x2 x3 (ix2 r f) = hidden x0 x1 x2 x3 r f := by
  unfold kernelRun0_A.sl.v160
  rw [View.readCov_eq_canon']
  refine (congrArg (View.canon _) (emb_all2 inb_S512x2816_S512x2816_0_0 (ix2 r f))).trans ?_
  unfold kernelRun0_A.sl.HS0_11
  have hid := hidden_read M0 h0 M1 h1 M2 h2 M3 h3 x0 x1 x2 x3
  have hf : f.val < 2560 + 256 := f.isLt
  iterate 11
    refine canon_cols (hidden x0 x1 x2 x3) _ _ _ _ (by omega) (hid _ _ (by omega)) (fun r f hf => ?_) r f hf
  exact absurd hf (Nat.not_lt_zero _)

/-- The rows after the half step. -/
theorem row_at (c : Dev nD) (r : Fin 512) (j : Fin 1024) :
    kernelRun0_A.sl.r_7 (F := Ideal) c M0 h0 M1 h1 M2 h2 M3 h3 M4 h4 M17 x0 x1 x2 x3 x4 (ix2 r j) = row x0 x1 x2 x3 x4 r j := by
  unfold kernelRun0_A.sl.r_7 kernelRun0_A.sl.r
  rw [pay19_at, readAt_all3 M0 h0, readAt_all2 M4 h4]
  unfold row halfStep
  refine congrArg (_ + ·) (congrArg (_ * ·) ?_)
  exact Finset.sum_congr rfl fun f _ => congrArg (· * _) (hidden_at M0 h0 M1 h1 M2 h2 M3 h3 M17 x0 x1 x2 x3 c r f)

/-- Their norm. -/
theorem normed_at (c : Dev nD) (r : Fin 512) (j : Fin 1024) :
    kernelRun0_A.sl.r_10 (F := Ideal) c M0 h0 M1 h1 M2 h2 M3 h3 M4 h4 M5 h5 M17 x0 x1 x2 x3 x4 x5 (ix2 r j)
      = norm (row x0 x1 x2 x3 x4 r) (fun k => x5 (ix2 0 k)) j := by
  unfold kernelRun0_A.sl.r_10 kernelRun0_A.sl.r_9 kernelRun0_A.sl.r_8
  have e := fun i => row_at M0 h0 M1 h1 M2 h2 M3 h3 M4 h4 M17 x0 x1 x2 x3 x4 c r i
  unfold kernelRun0_A.sl.r_7 at e ⊢
  rw [pay23_at, readAt_all2 M5 h5, funext e]

/-- 512 columns of their projection. -/
theorem proj_read (c : Dev nD) (n : ℕ) (inb : ∀ a, (![0, n] : Fin 2 → ℕ) a + S1024x512.size a ≤ S1024x3072.size a)
    (hn : n + 512 ≤ 3072) (r k : Fin 512) :
    k0_pay31 (F := Ideal) (kernelRun0_A.sl.r_10 (F := Ideal) c M0 h0 M1 h1 M2 h2 M3 h3 M4 h4 M5 h5 M17 x0 x1 x2 x3 x4 x5)
        (View.readAt (Elt Ideal) M6.view (Rect.unit (s := S1024x3072) ![0, n] S1024x512.size inb).toLoadRect (h6.unread x6)) (ix2 r k)
      = rowProj x0 x1 x2 x3 x4 x5 x6 r ⟨n + k.val, by omega⟩ := by
  rw [pay31_at]
  unfold rowProj proj
  have b := fun i => readAt_block M6 h6 0 n inb x6 i k
  simp only [Nat.zero_add] at b
  exact Finset.sum_congr rfl fun i _ => congrArg₂ (· * ·) (normed_at M0 h0 M1 h1 M2 h2 M3 h3 M4 h4 M5 h5 M17 x0 x1 x2 x3 x4 x5 c r i) (b i)

/-- The convolution's input. -/
theorem zed_at (c : Dev nD) (r k : Fin 512) :
    kernelRun0_A.sl.r_11 (F := Ideal) c M0 h0 M1 h1 M2 h2 M3 h3 M4 h4 M5 h5 M6 h6 M17 x0 x1 x2 x3 x4 x5 x6 (ix2 r k)
      = rowProj x0 x1 x2 x3 x4 x5 x6 r (col 1 k) * rowProj x0 x1 x2 x3 x4 x5 x6 r (col 2 k) := by
  unfold kernelRun0_A.sl.r_11
  rw [pay25_at]
  have e := fun n inb hn => proj_read M0 h0 M1 h1 M2 h2 M3 h3 M4 h4 M5 h5 M6 h6 M17 x0 x1 x2 x3 x4 x5 x6 c n inb hn r k
  unfold kernelRun0_A.sl.r_10 at e
  rw [e 512 _ (by omega), e 1024 _ (by omega)]
  rfl

end Cert.Proof.PI3

end
-- ==== Proof.PI3.Heads.lean ====
/- The first call's body over the reals: the rows' heads. -/
module

public import proofs.«01_k».proof.Proof.PI3.Rows

@[expose] public section

set_option maxRecDepth 16384

noncomputable section

namespace Cert.Proof.PI3

open Cert.Kernel3Ideal Cert.Kernel3Ideal.Gen Cert.Dense
open Idealize.ShloMosaic Idealize.ShloMosaic.TcCoe

/-- A head's 64 columns in its half of 128 lanes, zero in the other. -/
def placed (T : Fin 512 → EReal) (h : Fin 8) (l : Fin 128) : EReal :=
  if l.val / 64 = h.val % 2 then T ⟨128 * (h.val / 2) + l.val, by omega⟩ else 0

/-- A column normed through the heads' mask. -/
def masked (t : Fin 512 → EReal) (bd : Fin 512 → Fin 512 → EReal) (c : Fin 512) : EReal :=
  t c * Ideal.rsqrt ((∑ k : Fin 512, t k * t k * bd k c) * Ideal.ofBits .f32 0x3C800000#32 + Ideal.ofBits .f32 0x358637BD#32)

/-- What is kept of a head's pair. -/
theorem placed_at (t : FVec Ideal S512x512 .f32) (T : Fin 512 → Fin 512 → EReal) (ht : ∀ r c, t (ix2 r c) = T r c) (n g p : ℕ) (hn : n < 8)
    (hg : g = 128 * (n / 2)) (hp : p = n % 2) (hs : S512x512.Slices ![0, g] S512x128) (r : Fin 512) (l : Fin 128) :
    store t g hs (BitVec.ofNat 32 p) (ix4 0 0 r l) = placed (T r) ⟨n, hn⟩ l := by
  subst hg hp
  rw [store_at t _ hs _ (by omega) (by omega), ht]
  rfl

variable (M0 : Memref sig .tc .vmem S1x512x1024 .f32) (h0 : M0.IsWhole) (M1 : Memref sig .tc .vmem S1x1024 .f32) (h1 : M1.IsWhole) (M2 : Memref sig .tc .vmem S1024x2816 .bf16) (h2 : M2.IsWhole) (M3 : Memref sig .tc .vmem S1024x2816 .bf16) (h3 : M3.IsWhole) (M4 : Memref sig .tc .vmem S2816x1024 .bf16) (h4 : M4.IsWhole) (M5 : Memref sig .tc .vmem S1x1024 .f32) (h5 : M5.IsWhole) (M6 : Memref sig .tc .vmem S1024x3072 .bf16) (h6 : M6.IsWhole)
  (M9 : Memref sig .tc .vmem S1x512 .f32) (h9 : M9.IsWhole) (M10 : Memref sig .tc .vmem S1x512 .f32) (h10 : M10.IsWhole) (M11 : Memref sig .tc .vmem S512x512 .bf16) (h11 : M11.IsWhole) (M17 : Memref sig .tc .vmem S512x2816 .bf16)
  (x0 : Vec Ideal S1x512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x3072 .bf16)
  (x9 : Vec Ideal S1x512 .f32) (x10 : Vec Ideal S1x512 .f32) (x11 : Vec Ideal S512x512 .bf16)

/-- The queries. -/
theorem query_at (c : Dev nD) (r k : Fin 512) :
    kernelRun0_A.sl.r_18 (F := Ideal) c M0 h0 M1 h1 M2 h2 M3 h3 M4 h4 M5 h5 M6 h6 M9 h9 M11 h11 M17 x0 x1 x2 x3 x4 x5 x6 x9 x11 (ix2 r k)
      = masked (fun n => rowProj x0 x1 x2 x3 x4 x5 x6 r (col 3 n)) (fun a b => x11 (ix2 a b)) k
          * (x9 (ix2 0 k) * (((Real.log 256)⁻¹ : ℝ) : EReal)) := by
  unfold kernelRun0_A.sl.r_18 kernelRun0_A.sl.r_15 kernelRun0_A.sl.r_16 kernelRun0_A.sl.r_17
  rw [pay34_at, readAt_all2 M9 h9, readAt_all2 M11 h11]
  have e := fun n => proj_read M0 h0 M1 h1 M2 h2 M3 h3 M4 h4 M5 h5 M6 h6 M17 x0 x1 x2 x3 x4 x5 x6 c 1536 inb_S1024x3072_S1024x512_0_1536 (by omega) r n
  unfold masked
  simp only [e]
  rfl

/-- The keys' projection. -/
theorem key_at (c : Dev nD) (r k : Fin 512) :
    k0_pay58 (F := Ideal) (kernelRun0_A.sl.r_25 (F := Ideal) c M0 h0 M1 h1 M2 h2 M3 h3 M4 h4 M5 h5 M6 h6 M11 h11 M17 x0 x1 x2 x3 x4 x5 x6 x11) (kernelRun0_A.sl.r_26 (F := Ideal) c M10 h10 x10) (ix3 0 r k)
      = masked (fun n => rowProj x0 x1 x2 x3 x4 x5 x6 r (col 4 n)) (fun a b => x11 (ix2 a b)) k * x10 (ix2 0 k) := by
  unfold kernelRun0_A.sl.r_25 kernelRun0_A.sl.r_26
  rw [pay58_at, readAt_all2 M10 h10, readAt_all2 M11 h11]
  have e := fun n => proj_read M0 h0 M1 h1 M2 h2 M3 h3 M4 h4 M5 h5 M6 h6 M17 x0 x1 x2 x3 x4 x5 x6 c 2048 inb_S1024x3072_S1024x512_0_2048 (by omega) r n
  unfold masked
  simp only [e]
  rfl

/-- The values. -/
theorem value_at (c : Dev nD) (r k : Fin 512) :
    kernelRun0_A.sl.r_27 (F := Ideal) c M0 h0 M1 h1 M2 h2 M3 h3 M4 h4 M5 h5 M6 h6 M17 x0 x1 x2 x3 x4 x5 x6 (ix2 r k) = rowProj x0 x1 x2 x3 x4 x5 x6 r (col 5 k) := by
  exact proj_read M0 h0 M1 h1 M2 h2 M3 h3 M4 h4 M5 h5 M6 h6 M17 x0 x1 x2 x3 x4 x5 x6 c 2560 inb_S1024x3072_S1024x512_0_2560 (by omega) r k

end Cert.Proof.PI3

end
-- ==== Proof.PI3.Outs.lean ====
/- The first call's body over the reals: the block of rows, the convolution's block, and the rows it keeps for the next one. -/
module

public import proofs.«01_k».proof.Proof.PI3.Heads

@[expose] public section

set_option maxRecDepth 16384

noncomputable section

namespace Cert.Proof.PI3

open Cert.Kernel3Ideal Cert.Kernel3Ideal.Gen Cert.Dense
open Idealize.ShloMosaic Idealize.ShloMosaic.TcCoe

variable (M0 : Memref sig .tc .vmem S1x512x1024 .f32) (h0 : M0.IsWhole) (M1 : Memref sig .tc .vmem S1x1024 .f32) (h1 : M1.IsWhole) (M2 : Memref sig .tc .vmem S1024x2816 .bf16) (h2 : M2.IsWhole) (M3 : Memref sig .tc .vmem S1024x2816 .bf16) (h3 : M3.IsWhole) (M4 : Memref sig .tc .vmem S2816x1024 .bf16) (h4 : M4.IsWhole) (M5 : Memref sig .tc .vmem S1x1024 .f32) (h5 : M5.IsWhole) (M6 : Memref sig .tc .vmem S1024x3072 .bf16) (h6 : M6.IsWhole) (M7 : Memref sig .tc .vmem S3x512 .f32) (h7 : M7.IsWhole) (M8 : Memref sig .tc .vmem S1x512 .f32) (h8 : M8.IsWhole) (M9 : Memref sig .tc .vmem S1x512 .f32) (h9 : M9.IsWhole) (M10 : Memref sig .tc .vmem S1x512 .f32) (h10 : M10.IsWhole) (M11 : Memref sig .tc .vmem S512x512 .bf16) (h11 : M11.IsWhole) (M12 : Memref sig .tc .vmem S1x512x1024 .f32) (h12 : M12.IsWhole) (M13 : Memref sig .tc .vmem S1x512x512 .bf16) (h13 : M13.IsWhole) (M14 : Memref sig .tc .vmem S1x8x512x128 .bf16) (h14 : M14.IsWhole) (M15 : Memref sig .tc .vmem S1x512x512 .bf16) (h15 : M15.IsWhole) (M16 : Memref sig .tc .vmem S1x8x512x128 .bf16) (h16 : M16.IsWhole) (M17 : Memref sig .tc .vmem S512x2816 .bf16) (h17 : M17.IsWhole) (M18 : Memref sig .tc .vmem S8x512 .f32) (h18 : M18.IsWhole)
  (x0 : Vec Ideal S1x512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x3072 .bf16) (x7 : Vec Ideal S3x512 .f32) (x8 : Vec Ideal S1x512 .f32) (x9 : Vec Ideal S1x512 .f32) (x10 : Vec Ideal S1x512 .f32) (x11 : Vec Ideal S512x512 .bf16) (xs : Vec Ideal S8x512 .f32)

/-- The rows kept start as zeros. -/
theorem pay24_zero (y : S8x512.Idx) : k0_pay24 (F := Ideal) y = 0 := by
  rw [show y = ix2 (y 0) (y 1) from funext fun a => by fin_cases a <;> rfl]
  pointwise [k0_pay24]

/-- The block of rows after the half step. -/
theorem rows_A (c : Dev nD) (i : grid0.Coords) (hc : cond0_0 i) (r : Fin 512) (j : Fin 1024) :
    out0_A_12 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 (ix3 0 r j) = row x0 x1 x2 x3 x4 r j := by
  unfold out0_A_12 kernelRun0_A
  dsimp only
  rw [View.read_writes_junk_eq_canon]
  refine (congrArg (View.canon _) (emb_all3 inb_S1x512x1024_S1x512x1024_0_0_0 (ix3 0 r j)).symm).trans ?_
  rw [View.canon_cons_emb, pay20_at]
  exact row_at M0 h0 M1 h1 M2 h2 M3 h3 M4 h4 M17 x0 x1 x2 x3 x4 c r j

/-- The convolution's input of a row. -/
def zrow (r k : Fin 512) : EReal := rowProj x0 x1 x2 x3 x4 x5 x6 r (col 1 k) * rowProj x0 x1 x2 x3 x4 x5 x6 r (col 2 k)

/-- The gated convolution of a row, the two rows before the block's first being `p2` and `p1`. -/
def convRow (p1 p2 : EReal) (r k : Fin 512) : EReal :=
  gate3 (rowProj x0 x1 x2 x3 x4 x5 x6 r (col 0 k)) (zrow x0 x1 x2 x3 x4 x5 x6 r k)
    (if h : r.val = 0 then p1 else zrow x0 x1 x2 x3 x4 x5 x6 (⟨r.val - 1, by omega⟩ : Fin 512) k)
    (if h : r.val = 0 then p2 else if h : r.val = 1 then p1 else zrow x0 x1 x2 x3 x4 x5 x6 (⟨r.val - 2, by omega⟩ : Fin 512) k)
    (x7 (ix2 0 k)) (x7 (ix2 1 k)) (x7 (ix2 2 k)) (x8 (ix2 0 k))

/-- It, from the buffers it is loaded from. -/
theorem conv_read (c : Dev nD) (p1 p2 : Vec Ideal S1x512 .f32) (r k : Fin 512) :
    k0_pay30 (F := Ideal) (kernelRun0_A.sl.r_10 (F := Ideal) c M0 h0 M1 h1 M2 h2 M3 h3 M4 h4 M5 h5 M17 x0 x1 x2 x3 x4 x5) (kernelRun0_A.sl.r_11 (F := Ideal) c M0 h0 M1 h1 M2 h2 M3 h3 M4 h4 M5 h5 M6 h6 M17 x0 x1 x2 x3 x4 x5 x6)
        (k0_pay26 (F := Ideal) (kernelRun0_A.sl.r_7 (F := Ideal) c M0 h0 M1 h1 M2 h2 M3 h3 M4 h4 M17 x0 x1 x2 x3 x4) (kernelRun0_A.sl.r_8 (F := Ideal) c M5 h5 x5) (kernelRun0_A.sl.r_9 (F := Ideal) c M0 h0 M1 h1 M2 h2 M3 h3 M4 h4 M17 x0 x1 x2 x3 x4)
          (View.readAt (Elt Ideal) M6.view (Rect.unit (s := S1024x3072) ![0, 512] S1024x512.size inb_S1024x3072_S1024x512_0_512).toLoadRect (h6.unread x6))
          (View.readAt (Elt Ideal) M6.view (Rect.unit (s := S1024x3072) ![0, 1024] S1024x512.size inb_S1024x3072_S1024x512_0_1024).toLoadRect (h6.unread x6)) p1)
        (k0_pay27 (F := Ideal) (kernelRun0_A.sl.r_7 (F := Ideal) c M0 h0 M1 h1 M2 h2 M3 h3 M4 h4 M17 x0 x1 x2 x3 x4) (kernelRun0_A.sl.r_8 (F := Ideal) c M5 h5 x5) (kernelRun0_A.sl.r_9 (F := Ideal) c M0 h0 M1 h1 M2 h2 M3 h3 M4 h4 M17 x0 x1 x2 x3 x4)
          (View.readAt (Elt Ideal) M6.view (Rect.unit (s := S1024x3072) ![0, 512] S1024x512.size inb_S1024x3072_S1024x512_0_512).toLoadRect (h6.unread x6))
          (View.readAt (Elt Ideal) M6.view (Rect.unit (s := S1024x3072) ![0, 1024] S1024x512.size inb_S1024x3072_S1024x512_0_1024).toLoadRect (h6.unread x6)) p1 p2)
        (View.readAt (Elt Ideal) M7.view (Rect.unit (s := S3x512) ![2, 0] S1x512.size inb_S3x512_S1x512_2_0).toLoadRect (h7.unread x7))
        (View.readAt (Elt Ideal) M7.view (Rect.unit (s := S3x512) ![1, 0] S1x512.size inb_S3x512_S1x512_1_0).toLoadRect (h7.unread x7))
        (View.readAt (Elt Ideal) M7.view (Rect.unit (s := S3x512) ![0, 0] S1x512.size inb_S3x512_S1x512_0_0).toLoadRect (h7.unread x7))
        (View.readAt (Elt Ideal) M8.view (Rect.unit (s := S1x512) ![0, 0] S1x512.size inb_S1x512_S1x512_0_0).toLoadRect (h8.unread x8))
        (View.readAt (Elt Ideal) M6.view (Rect.unit (s := S1024x3072) ![0, 0] S1024x512.size inb_S1024x3072_S1024x512_0_0).toLoadRect (h6.unread x6))
        (ix3 0 r k)
      = convRow x0 x1 x2 x3 x4 x5 x6 x7 x8 (p1 (ix2 0 k)) (p2 (ix2 0 k)) r k := by
  have z := fun r k => zed_at M0 h0 M1 h1 M2 h2 M3 h3 M4 h4 M5 h5 M6 h6 M17 x0 x1 x2 x3 x4 x5 x6 c r k
  have b := fun n inb hn => proj_read M0 h0 M1 h1 M2 h2 M3 h3 M4 h4 M5 h5 M6 h6 M17 x0 x1 x2 x3 x4 x5 x6 c n inb hn r k
  rw [pay30_at, pay26_at, pay27_at, b 0 _ (by omega), z]
  unfold kernelRun0_A.sl.r_11 at z
  simp only [z]
  have w := fun n inb => readAt_block M7 h7 n 0 inb x7 (0 : Fin 1) k
  simp only [Nat.zero_add] at w
  have w0 := w 0 inb_S3x512_S1x512_0_0
  have w1 := w 1 inb_S3x512_S1x512_1_0
  have w2 := w 2 inb_S3x512_S1x512_2_0
  have hb := congrFun (readAt_all2 M8 h8 inb_S1x512_S1x512_0_0 x8) (ix2 0 k)
  unfold convRow
  congr 1

/-- The convolution's block where the sequence starts: nothing before its first row. -/
theorem conv_A (c : Dev nD) (i : grid0.Coords) (hc : cond0_0 i) (r k : Fin 512) :
    out0_A_13 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 (ix3 0 r k) = convRow x0 x1 x2 x3 x4 x5 x6 x7 x8 0 0 r k := by
  unfold out0_A_13 kernelRun0_A
  dsimp only
  rw [View.read_writes_junk_eq_canon]
  refine (congrArg (View.canon _) (emb_all3 inb_S1x512x512_S1x512x512_0_0_0 (ix3 0 r k)).symm).trans ?_
  rw [View.canon_cons_emb]
  refine (conv_read M0 h0 M1 h1 M2 h2 M3 h3 M4 h4 M5 h5 M6 h6 M7 h7 M8 h8 M17 x0 x1 x2 x3 x4 x5 x6 x7 x8 c (kernelRun0_A.sl.v195 (F := Ideal) c M18) (kernelRun0_A.sl.v196 (F := Ideal) c M18) r k).trans ?_
  have e1 : kernelRun0_A.sl.v195 (F := Ideal) c M18 (ix2 0 k) = 0 := by
    unfold kernelRun0_A.sl.v195 kernelRun0_A.sl.HS1_1
    rw [View.readCov_eq_canon']
    refine (congrArg (View.canon _) (emb_all2 inb_S8x512_S8x512_0_0 _).symm).trans ?_
    rw [View.canon_cons_emb]
    exact pay24_zero _
  have e2 : kernelRun0_A.sl.v196 (F := Ideal) c M18 (ix2 0 k) = 0 := by
    unfold kernelRun0_A.sl.v196 kernelRun0_A.sl.HS1_1
    rw [View.readCov_eq_canon']
    refine (congrArg (View.canon _) (emb_all2 inb_S8x512_S8x512_0_0 _).symm).trans ?_
    rw [View.canon_cons_emb]
    exact pay24_zero _
  rw [e1, e2]

/-- And further on: the last two of the rows kept. -/
theorem conv_B (c : Dev nD) (i : grid0.Coords) (hc : ¬ cond0_0 i) (r k : Fin 512) :
    out0_B_13 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 xs (ix3 0 r k) = convRow x0 x1 x2 x3 x4 x5 x6 x7 x8 (xs (ix2 7 k)) (xs (ix2 6 k)) r k := by
  unfold out0_B_13 kernelRun0_B
  dsimp only
  rw [View.read_writes_junk_eq_canon]
  refine (congrArg (View.canon _) (emb_all3 inb_S1x512x512_S1x512x512_0_0_0 (ix3 0 r k)).symm).trans ?_
  rw [View.canon_cons_emb]
  refine (conv_read M0 h0 M1 h1 M2 h2 M3 h3 M4 h4 M5 h5 M6 h6 M7 h7 M8 h8 M17 x0 x1 x2 x3 x4 x5 x6 x7 x8 c
    (View.readAt (Elt Ideal) M18.view (Rect.unit (s := S8x512) ![7, 0] S1x512.size inb_S8x512_S1x512_7_0).toLoadRect (h18.unread xs))
    (View.readAt (Elt Ideal) M18.view (Rect.unit (s := S8x512) ![6, 0] S1x512.size inb_S8x512_S1x512_6_0).toLoadRect (h18.unread xs)) r k).trans ?_
  have w := fun n inb => readAt_block M18 h18 n 0 inb xs (0 : Fin 1) k
  simp only [Nat.zero_add] at w
  exact congrArg₂ (fun p1 p2 => convRow x0 x1 x2 x3 x4 x5 x6 x7 x8 p1 p2 r k) (w 7 _) (w 6 _)

/-- The rows kept: the convolution's inputs of the block's last eight. -/
theorem tail_A (c : Dev nD) (i : grid0.Coords) (hc : cond0_0 i) (r : Fin 8) (k : Fin 512) :
    sout0_A_1 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 (ix2 r k) = zrow x0 x1 x2 x3 x4 x5 x6 (⟨504 + r.val, by omega⟩ : Fin 512) k := by
  unfold sout0_A_1 kernelRun0_A
  dsimp only
  rw [View.read_writes_junk_eq_canon]
  refine (congrArg (View.canon _) (emb_all2 inb_S8x512_S8x512_0_0 (ix2 r k)).symm).trans ?_
  rw [View.canon_cons_emb]
  exact (pay29_at _ _ _ _ _ r k).trans (zed_at M0 h0 M1 h1 M2 h2 M3 h3 M4 h4 M5 h5 M6 h6 M17 x0 x1 x2 x3 x4 x5 x6 c _ k)

theorem tail_B (c : Dev nD) (i : grid0.Coords) (hc : ¬ cond0_0 i) (r : Fin 8) (k : Fin 512) :
    sout0_B_1 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 xs (ix2 r k) = zrow x0 x1 x2 x3 x4 x5 x6 (⟨504 + r.val, by omega⟩ : Fin 512) k := by
  unfold sout0_B_1 kernelRun0_B
  dsimp only
  rw [View.read_writes_junk_eq_canon]
  refine (congrArg (View.canon _) (emb_all2 inb_S8x512_S8x512_0_0 (ix2 r k)).symm).trans ?_
  rw [View.canon_cons_emb]
  exact (pay29_at _ _ _ _ _ r k).trans (zed_at M0 h0 M1 h1 M2 h2 M3 h3 M4 h4 M5 h5 M6 h6 M17 x0 x1 x2 x3 x4 x5 x6 c _ k)

end Cert.Proof.PI3

end
-- ==== Proof.PI3.HeadOuts.lean ====
/- The first call's body over the reals: the blocks of queries and values, and the blocks further on in the sequence. -/
module

public import proofs.«01_k».proof.Proof.PI3.Outs

@[expose] public section

set_option maxRecDepth 16384

noncomputable section

namespace Cert.Proof.PI3

open Cert.Kernel3Ideal Cert.Kernel3Ideal.Gen Cert.Dense
open Idealize.ShloMosaic Idealize.ShloMosaic.TcCoe

/-- The eight heads' parts of a block, in the order they are written, last first. -/
def headPieces (t : FVec Ideal S512x512 .f32) : List (View.Piece (Elt Ideal) S1x8x512x128 .bf16) :=
  [⟨Rect.unit (s := S1x8x512x128) ![0, 7, 0, 0] ![1, 1, 512, 128] inb_S1x8x512x128_S1x1x512x128_0_7_0_0, store t 384 slices_S512x512_o0_384_S512x128 1#32⟩,
    ⟨Rect.unit (s := S1x8x512x128) ![0, 6, 0, 0] ![1, 1, 512, 128] inb_S1x8x512x128_S1x1x512x128_0_6_0_0, store t 384 slices_S512x512_o0_384_S512x128 0#32⟩,
    ⟨Rect.unit (s := S1x8x512x128) ![0, 5, 0, 0] ![1, 1, 512, 128] inb_S1x8x512x128_S1x1x512x128_0_5_0_0, store t 256 slices_S512x512_o0_256_S512x128 1#32⟩,
    ⟨Rect.unit (s := S1x8x512x128) ![0, 4, 0, 0] ![1, 1, 512, 128] inb_S1x8x512x128_S1x1x512x128_0_4_0_0, store t 256 slices_S512x512_o0_256_S512x128 0#32⟩,
    ⟨Rect.unit (s := S1x8x512x128) ![0, 3, 0, 0] ![1, 1, 512, 128] inb_S1x8x512x128_S1x1x512x128_0_3_0_0, store t 128 slices_S512x512_o0_128_S512x128 1#32⟩,
    ⟨Rect.unit (s := S1x8x512x128) ![0, 2, 0, 0] ![1, 1, 512, 128] inb_S1x8x512x128_S1x1x512x128_0_2_0_0, store t 128 slices_S512x512_o0_128_S512x128 0#32⟩,
    ⟨Rect.unit (s := S1x8x512x128) ![0, 1, 0, 0] ![1, 1, 512, 128] inb_S1x8x512x128_S1x1x512x128_0_1_0_0, store t 0 slices_S512x512_o0_0_S512x128 1#32⟩,
    ⟨Rect.unit (s := S1x8x512x128) ![0, 0, 0, 0] ![1, 1, 512, 128] inb_S1x8x512x128_S1x1x512x128_0_0_0_0, store t 0 slices_S512x512_o0_0_S512x128 0#32⟩]

/-- Together they hold every head in its half of the lanes. -/
theorem heads_read (t : FVec Ideal S512x512 .f32) (T : Fin 512 → Fin 512 → EReal) (ht : ∀ r c, t (ix2 r c) = T r c)
    (h : Fin 8) (r : Fin 512) (l : Fin 128) : View.canon (headPieces t) (ix4 0 h r l) = placed (T r) h l := by
  unfold headPieces
  have hh : h.val < 7 + 1 := h.isLt
  refine canon_heads (fun h r l => placed (T r) h l) _ _ _ _ (by omega)
    (fun r l => placed_at t T ht 7 384 1 (by omega) rfl rfl slices_S512x512_o0_384_S512x128 r l) (fun h r l hh => ?_) h r l hh
  refine canon_heads (fun h r l => placed (T r) h l) _ _ _ _ (by omega)
    (fun r l => placed_at t T ht 6 384 0 (by omega) rfl rfl slices_S512x512_o0_384_S512x128 r l) (fun h r l hh => ?_) h r l hh
  refine canon_heads (fun h r l => placed (T r) h l) _ _ _ _ (by omega)
    (fun r l => placed_at t T ht 5 256 1 (by omega) rfl rfl slices_S512x512_o0_256_S512x128 r l) (fun h r l hh => ?_) h r l hh
  refine canon_heads (fun h r l => placed (T r) h l) _ _ _ _ (by omega)
    (fun r l => placed_at t T ht 4 256 0 (by omega) rfl rfl slices_S512x512_o0_256_S512x128 r l) (fun h r l hh => ?_) h r l hh
  refine canon_heads (fun h r l => placed (T r) h l) _ _ _ _ (by omega)
    (fun r l => placed_at t T ht 3 128 1 (by omega) rfl rfl slices_S512x512_o0_128_S512x128 r l) (fun h r l hh => ?_) h r l hh
  refine canon_heads (fun h r l => placed (T r) h l) _ _ _ _ (by omega)
    (fun r l => placed_at t T ht 2 128 0 (by omega) rfl rfl slices_S512x512_o0_128_S512x128 r l) (fun h r l hh => ?_) h r l hh
  refine canon_heads (fun h r l => placed (T r) h l) _ _ _ _ (by omega)
    (fun r l => placed_at t T ht 1 0 1 (by omega) rfl rfl slices_S512x512_o0_0_S512x128 r l) (fun h r l hh => ?_) h r l hh
  refine canon_heads (fun h r l => placed (T r) h l) _ _ _ _ (by omega)
    (fun r l => placed_at t T ht 0 0 0 (by omega) rfl rfl slices_S512x512_o0_0_S512x128 r l) (fun h r l hh => ?_) h r l hh
  exact absurd hh (Nat.not_lt_zero _)

variable (M0 : Memref sig .tc .vmem S1x512x1024 .f32) (h0 : M0.IsWhole) (M1 : Memref sig .tc .vmem S1x1024 .f32) (h1 : M1.IsWhole) (M2 : Memref sig .tc .vmem S1024x2816 .bf16) (h2 : M2.IsWhole) (M3 : Memref sig .tc .vmem S1024x2816 .bf16) (h3 : M3.IsWhole) (M4 : Memref sig .tc .vmem S2816x1024 .bf16) (h4 : M4.IsWhole) (M5 : Memref sig .tc .vmem S1x1024 .f32) (h5 : M5.IsWhole) (M6 : Memref sig .tc .vmem S1024x3072 .bf16) (h6 : M6.IsWhole) (M7 : Memref sig .tc .vmem S3x512 .f32) (h7 : M7.IsWhole) (M8 : Memref sig .tc .vmem S1x512 .f32) (h8 : M8.IsWhole) (M9 : Memref sig .tc .vmem S1x512 .f32) (h9 : M9.IsWhole) (M10 : Memref sig .tc .vmem S1x512 .f32) (h10 : M10.IsWhole) (M11 : Memref sig .tc .vmem S512x512 .bf16) (h11 : M11.IsWhole) (M12 : Memref sig .tc .vmem S1x512x1024 .f32) (h12 : M12.IsWhole) (M13 : Memref sig .tc .vmem S1x512x512 .bf16) (h13 : M13.IsWhole) (M14 : Memref sig .tc .vmem S1x8x512x128 .bf16) (h14 : M14.IsWhole) (M15 : Memref sig .tc .vmem S1x512x512 .bf16) (h15 : M15.IsWhole) (M16 : Memref sig .tc .vmem S1x8x512x128 .bf16) (h16 : M16.IsWhole) (M17 : Memref sig .tc .vmem S512x2816 .bf16) (h17 : M17.IsWhole) (M18 : Memref sig .tc .vmem S8x512 .f32) (h18 : M18.IsWhole)
  (x0 : Vec Ideal S1x512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x3072 .bf16) (x7 : Vec Ideal S3x512 .f32) (x8 : Vec Ideal S1x512 .f32) (x9 : Vec Ideal S1x512 .f32) (x10 : Vec Ideal S1x512 .f32) (x11 : Vec Ideal S512x512 .bf16) (xs : Vec Ideal S8x512 .f32)

/-- The queries of a row. -/
def queryRow (r k : Fin 512) : EReal :=
  masked (fun n => rowProj x0 x1 x2 x3 x4 x5 x6 r (col 3 n)) (fun a b => x11 (ix2 a b)) k * (x9 (ix2 0 k) * (((Real.log 256)⁻¹ : ℝ) : EReal))

/-- The keys of a row. -/
def keyRow (r k : Fin 512) : EReal :=
  masked (fun n => rowProj x0 x1 x2 x3 x4 x5 x6 r (col 4 n)) (fun a b => x11 (ix2 a b)) k * x10 (ix2 0 k)

/-- The values of a row. -/
def valueRow (r k : Fin 512) : EReal := rowProj x0 x1 x2 x3 x4 x5 x6 r (col 5 k)

/-- The block of queries, at the start of a sequence. -/
theorem queries_A (c : Dev nD) (i : grid0.Coords) (hc : cond0_0 i) (h : Fin 8) (r : Fin 512) (l : Fin 128) :
    out0_A_14 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 (ix4 0 h r l) = placed (queryRow x0 x1 x2 x3 x4 x5 x6 x9 x11 r) h l := by
  unfold out0_A_14 kernelRun0_A
  dsimp only
  rw [View.read_writes_junk_eq_canon]
  exact heads_read (kernelRun0_A.sl.r_18 (F := Ideal) c M0 h0 M1 h1 M2 h2 M3 h3 M4 h4 M5 h5 M6 h6 M9 h9 M11 h11 M17 x0 x1 x2 x3 x4 x5 x6 x9 x11) (queryRow x0 x1 x2 x3 x4 x5 x6 x9 x11) (fun r k => query_at M0 h0 M1 h1 M2 h2 M3 h3 M4 h4 M5 h5 M6 h6 M9 h9 M11 h11 M17 x0 x1 x2 x3 x4 x5 x6 x9 x11 c r k) h r l

/-- The block of values, at the start of a sequence. -/
theorem values_A (c : Dev nD) (i : grid0.Coords) (hc : cond0_0 i) (h : Fin 8) (r : Fin 512) (l : Fin 128) :
    out0_A_16 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 (ix4 0 h r l) = placed (valueRow x0 x1 x2 x3 x4 x5 x6 r) h l := by
  unfold out0_A_16 kernelRun0_A
  dsimp only
  rw [View.read_writes_junk_eq_canon]
  exact heads_read (kernelRun0_A.sl.r_27 (F := Ideal) c M0 h0 M1 h1 M2 h2 M3 h3 M4 h4 M5 h5 M6 h6 M17 x0 x1 x2 x3 x4 x5 x6) (valueRow x0 x1 x2 x3 x4 x5 x6) (fun r k => value_at M0 h0 M1 h1 M2 h2 M3 h3 M4 h4 M5 h5 M6 h6 M17 x0 x1 x2 x3 x4 x5 x6 c r k) h r l

/-- The keys' block. -/
theorem keys_A (c : Dev nD) (i : grid0.Coords) (hc : cond0_0 i) (r k : Fin 512) :
    out0_A_15 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 (ix3 0 r k) = keyRow x0 x1 x2 x3 x4 x5 x6 x10 x11 r k := by
  unfold out0_A_15 kernelRun0_A
  dsimp only
  rw [View.read_writes_junk_eq_canon]
  refine (congrArg (View.canon _) (emb_all3 inb_S1x512x512_S1x512x512_0_0_0 (ix3 0 r k)).symm).trans ?_
  rw [View.canon_cons_emb]
  exact key_at M0 h0 M1 h1 M2 h2 M3 h3 M4 h4 M5 h5 M6 h6 M10 h10 M11 h11 M17 x0 x1 x2 x3 x4 x5 x6 x10 x11 c r k

/-- The block of queries further on. -/
theorem queries_B (c : Dev nD) (i : grid0.Coords) (hc : ¬ cond0_0 i) (h : Fin 8) (r : Fin 512) (l : Fin 128) :
    out0_B_14 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 xs (ix4 0 h r l) = placed (queryRow x0 x1 x2 x3 x4 x5 x6 x9 x11 r) h l := by
  unfold out0_B_14 kernelRun0_B
  dsimp only
  rw [View.read_writes_junk_eq_canon]
  exact heads_read (kernelRun0_B.sl.r_18 (F := Ideal) c M0 h0 M1 h1 M2 h2 M3 h3 M4 h4 M5 h5 M6 h6 M9 h9 M11 h11 M17 x0 x1 x2 x3 x4 x5 x6 x9 x11) (queryRow x0 x1 x2 x3 x4 x5 x6 x9 x11) (fun r k => query_at M0 h0 M1 h1 M2 h2 M3 h3 M4 h4 M5 h5 M6 h6 M9 h9 M11 h11 M17 x0 x1 x2 x3 x4 x5 x6 x9 x11 c r k) h r l

/-- The block of values further on. -/
theorem values_B (c : Dev nD) (i : grid0.Coords) (hc : ¬ cond0_0 i) (h : Fin 8) (r : Fin 512) (l : Fin 128) :
    out0_B_16 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 xs (ix4 0 h r l) = placed (valueRow x0 x1 x2 x3 x4 x5 x6 r) h l := by
  unfold out0_B_16 kernelRun0_B
  dsimp only
  rw [View.read_writes_junk_eq_canon]
  exact heads_read (kernelRun0_B.sl.r_27 (F := Ideal) c M0 h0 M1 h1 M2 h2 M3 h3 M4 h4 M5 h5 M6 h6 M17 x0 x1 x2 x3 x4 x5 x6) (valueRow x0 x1 x2 x3 x4 x5 x6) (fun r k => value_at M0 h0 M1 h1 M2 h2 M3 h3 M4 h4 M5 h5 M6 h6 M17 x0 x1 x2 x3 x4 x5 x6 c r k) h r l

/-- The block of rows after the half step, further on. -/
theorem rows_B (c : Dev nD) (i : grid0.Coords) (hc : ¬ cond0_0 i) (r : Fin 512) (j : Fin 1024) :
    out0_B_12 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 xs (ix3 0 r j) = row x0 x1 x2 x3 x4 r j := by
  unfold out0_B_12 kernelRun0_B
  dsimp only
  rw [View.read_writes_junk_eq_canon]
  refine (congrArg (View.canon _) (emb_all3 inb_S1x512x1024_S1x512x1024_0_0_0 (ix3 0 r j)).symm).trans ?_
  rw [View.canon_cons_emb, pay20_at]
  exact row_at M0 h0 M1 h1 M2 h2 M3 h3 M4 h4 M17 x0 x1 x2 x3 x4 c r j

/-- The keys' block, further on. -/
theorem keys_B (c : Dev nD) (i : grid0.Coords) (hc : ¬ cond0_0 i) (r k : Fin 512) :
    out0_B_15 (F := Ideal) c i M0 h0 M1 h1 M2 h2 M3 h3 M4 h4 M5 h5 M6 h6 M7 h7 M8 h8 M9 h9 M10 h10 M11 h11 M12 h12 M13 h13 M14 h14 M15 h15 M16 h16 M17 h17 M18 h18 hc x0 x1 x2 x3 x4 x5 x6 x7 x8 x9 x10 x11 xs (ix3 0 r k) = keyRow x0 x1 x2 x3 x4 x5 x6 x10 x11 r k := by
  unfold out0_B_15 kernelRun0_B
  dsimp only
  rw [View.read_writes_junk_eq_canon]
  refine (congrArg (View.canon _) (emb_all3 inb_S1x512x512_S1x512x512_0_0_0 (ix3 0 r k)).symm).trans ?_
  rw [View.canon_cons_emb]
  exact key_at M0 h0 M1 h1 M2 h2 M3 h3 M4 h4 M5 h5 M6 h6 M10 h10 M11 h11 M17 x0 x1 x2 x3 x4 x5 x6 x10 x11 c r k

end Cert.Proof.PI3

end
-- ==== Proof.PI3.Host.lean ====
/- The first call's host arrays over the reals: the weights as the call's arguments, the gains repeated for each head, and
   the mask of the heads. -/
module

public import proofs.«01_k».proof.Proof.PI3.HeadOuts
public import Idealize.ShloMosaic.Lib.StableHlo.ReadAt

@[expose] public section

set_option maxRecDepth 16384

noncomputable section

namespace Cert.Proof.PI3

open Cert.Kernel3Ideal Cert.Kernel3Ideal.Gen Cert.Dense
open Idealize.ShloMosaic Idealize.ShloMosaic.TcCoe

variable (m : (ℓ : Loc nD τ sig) → Buf (Elt Ideal) ℓ)

theorem host_g1 (c : Dev nD) (j : Fin 1024) : V m c main_v9 (ix2 0 j) = m ((c.tc : Thread nD τ).loc main_arg1) (ix2 0 j) := by
  simp only [V, hostOps0, hostOps0_1, hostOps0_2]
  after_reads_at

theorem host_wg (c : Dev nD) (k : Fin 1024) (j : Fin 2816) : V m c main_v11 (ix2 k j) = m ((c.tc : Thread nD τ).loc main_arg2) (ix3 0 k j) := by
  simp only [V, hostOps0, hostOps0_1, hostOps0_2]
  after_reads_at

theorem host_wu (c : Dev nD) (k : Fin 1024) (j : Fin 2816) : V m c main_v13 (ix2 k j) = m ((c.tc : Thread nD τ).loc main_arg3) (ix3 0 k j) := by
  simp only [V, hostOps0, hostOps0_1, hostOps0_2]
  after_reads_at

theorem host_wd (c : Dev nD) (k : Fin 2816) (j : Fin 1024) : V m c main_v15 (ix2 k j) = m ((c.tc : Thread nD τ).loc main_arg4) (ix3 0 k j) := by
  simp only [V, hostOps0, hostOps0_1, hostOps0_2]
  after_reads_at

theorem host_gm (c : Dev nD) (j : Fin 1024) : V m c main_v17 (ix2 0 j) = m ((c.tc : Thread nD τ).loc main_arg5) (ix2 0 j) := by
  simp only [V, hostOps0, hostOps0_1, hostOps0_2]
  after_reads_at

theorem host_win (c : Dev nD) (k : Fin 1024) (j : Fin 3072) : V m c main_v19 (ix2 k j) = m ((c.tc : Thread nD τ).loc main_arg6) (ix3 0 k j) := by
  simp only [V, hostOps0, hostOps0_1, hostOps0_2]
  after_reads_at

theorem host_cw (c : Dev nD) (k : Fin 3) (j : Fin 512) : V m c main_v20 (ix2 k j) = m ((c.tc : Thread nD τ).loc main_arg7) (ix3 0 k j) := by
  simp only [V, hostOps0, hostOps0_1, hostOps0_2]
  after_reads_at

theorem host_cb (c : Dev nD) (j : Fin 512) : V m c main_v22 (ix2 0 j) = m ((c.tc : Thread nD τ).loc main_arg8) (ix2 0 j) := by
  simp only [V, hostOps0, hostOps0_1, hostOps0_2]
  after_reads_at

theorem host_gq (c : Dev nD) (j : Fin 512) : V m c main_v27 (ix2 0 j) = m ((c.tc : Thread nD τ).loc main_arg9) (ix2 0 (placeOf j)) := by
  simp only [V, hostOps0, hostOps0_1, hostOps0_2]
  after_reads_at
  rfl

theorem host_gk (c : Dev nD) (j : Fin 512) : V m c main_v32 (ix2 0 j) = m ((c.tc : Thread nD τ).loc main_arg10) (ix2 0 (placeOf j)) := by
  simp only [V, hostOps0, hostOps0_1, hostOps0_2]
  after_reads_at
  rfl

/-- A lane's head, by division rounding down. -/
def headBits (k : Fin 512) : BitVec 32 :=
  Scalar.select
    (IntOp.andi
      (IntOp.cmpi .ne (if BitVec.ofNat 32 k.val = 0 then (0 : BitVec 32) else if (BitVec.ofNat 32 k.val).msb = true then -1 else 1)
        (if (64#32 : BitVec 32) = 0 then (0 : BitVec 32) else if BitVec.msb (64#32 : BitVec 32) = true then -1 else 1))
      (IntOp.cmpi .ne (IntOp.remsi ArithUnit.host (BitVec.ofNat 32 k.val) 64#32) 0#32))
    (IntOp.subi (IntOp.divsi ArithUnit.host (BitVec.ofNat 32 k.val) 64#32) 1#32)
    (IntOp.divsi ArithUnit.host (BitVec.ofNat 32 k.val) 64#32)

theorem headBits_eq (k : Fin 512) : headBits k = BitVec.ofNat 32 (k.val / 64) := by
  have e : ∀ k : Fin 512, headBits k = BitVec.ofNat 32 (k.val / 64) := by decide +kernel
  exact e k

theorem host_mask (c : Dev nD) (k j : Fin 512) :
    V m c main_v7 (ix2 k j) = (if k.val / 64 = j.val / 64 then 1 else 0 : EReal) := by
  simp only [V, hostOps0, hostOps0_1, hostOps0_2]
  after_reads_at
  show FloatOps.uitofp (F := Ideal) .bf16 (IntOp.cmpi .eq (headBits k) (headBits j)) = _
  rw [headBits_eq, headBits_eq]
  have h := row_is (⟨k.val / 64, by omega⟩ : Fin 512) (j.val / 64) (by omega)
  simp only at h
  rw [h]
  by_cases h : k.val / 64 = j.val / 64
  · rw [if_pos h, if_pos h]
    show (((1#1 : BitVec 1).toNat : ℝ) : EReal) = 1
    simp
  · rw [if_neg h, if_neg h]
    show (((0#1 : BitVec 1).toNat : ℝ) : EReal) = 0
    simp

end Cert.Proof.PI3

end
-- ==== Proof.PI3.Blocks.lean ====
/- The first call's arrays over the reals: each input block as the argument it is cut from, and the result arrays block by block. -/
module

public import proofs.«01_k».proof.Proof.PI3.Host
public import Idealize.ShloMosaic.Lib.Pipeline.Value

@[expose] public section

set_option maxRecDepth 16384

noncomputable section

namespace Cert.Proof.PI3

open Cert.Kernel3Ideal Cert.Kernel3Ideal.Gen Cert.Dense
open Idealize.ShloMosaic Idealize.ShloMosaic.TcCoe Idealize.SL.Sem
open Idealize.ShloMosaic.Pipeline (Dat Cfg Window)

variable (m : (ℓ : Loc nD τ sig) → Buf (Elt Ideal) ℓ)

/-- The point of batch entry `b` and row block `q`. -/
def pt (b : Fin 4) (q : Fin 16) : Fin cfg0.N := ⟨16 * b.val + q.val, by show _ < grid0.N; rw [N_0]; omega⟩

theorem pt_of (t : Fin cfg0.N) : ∃ (b : Fin 4) (q : Fin 16), t = pt b q := by
  have h : t.val < 64 := t.isLt.trans_eq N_0
  exact ⟨⟨t.val / 16, by omega⟩, ⟨t.val % 16, by omega⟩, Fin.ext (by show t.val = 16 * (t.val / 16) + t.val % 16; omega)⟩

/-- Row `r` of block `q` in the sequence. -/
def spot (q : Fin 16) (r : Fin 512) : Fin 8192 := ⟨512 * q.val + r.val, by omega⟩

/-! ## The rows of a step -/

theorem index_x (b : Fin 4) (q : Fin 16) : win0_0.index (pt b q) = ![b.val, q.val, 0] := by
  have H : ∀ (b : Fin 4) (q : Fin 16), win0_0.index (⟨16 * b.val + q.val, by rw [N_0]; omega⟩ : Fin grid0.N) = ![b.val, q.val, 0] := by decide +kernel
  exact H b q
theorem index_mid (b : Fin 4) (q : Fin 16) : win0_12.index (pt b q) = ![b.val, q.val, 0] := by
  have H : ∀ (b : Fin 4) (q : Fin 16), win0_12.index (⟨16 * b.val + q.val, by rw [N_0]; omega⟩ : Fin grid0.N) = ![b.val, q.val, 0] := by decide +kernel
  exact H b q
theorem index_conv (b : Fin 4) (q : Fin 16) : win0_13.index (pt b q) = ![b.val, q.val, 0] := by
  have H : ∀ (b : Fin 4) (q : Fin 16), win0_13.index (⟨16 * b.val + q.val, by rw [N_0]; omega⟩ : Fin grid0.N) = ![b.val, q.val, 0] := by decide +kernel
  exact H b q
theorem index_q (b : Fin 4) (q : Fin 16) : win0_14.index (pt b q) = ![b.val, 0, q.val, 0] := by
  have H : ∀ (b : Fin 4) (q : Fin 16), win0_14.index (⟨16 * b.val + q.val, by rw [N_0]; omega⟩ : Fin grid0.N) = ![b.val, 0, q.val, 0] := by decide +kernel
  exact H b q
theorem index_k (b : Fin 4) (q : Fin 16) : win0_15.index (pt b q) = ![b.val, q.val, 0] := by
  have H : ∀ (b : Fin 4) (q : Fin 16), win0_15.index (⟨16 * b.val + q.val, by rw [N_0]; omega⟩ : Fin grid0.N) = ![b.val, q.val, 0] := by decide +kernel
  exact H b q
theorem index_v (b : Fin 4) (q : Fin 16) : win0_16.index (pt b q) = ![b.val, 0, q.val, 0] := by
  have H : ∀ (b : Fin 4) (q : Fin 16), win0_16.index (⟨16 * b.val + q.val, by rw [N_0]; omega⟩ : Fin grid0.N) = ![b.val, 0, q.val, 0] := by decide +kernel
  exact H b q

theorem iblk_x (c : Dev nD) (b : Fin 4) (q : Fin 16) (r : Fin 512) (j : Fin 1024) :
    iblk m c 0 (pt b q) (ix3 0 r j) = m ((c.tc : Thread nD τ).loc main_arg0) (ix3 b (spot q r) j) := by
  refine Eq.trans ?_ (congrFun (V_main_arg0 m c) (ix3 b (spot q r) j))
  refine congrArg (V m c main_arg0) (funext fun a => Fin.ext ?_)
  refine (Window.rect_emb_val win0_0 (pt b q) _ a).trans ?_
  rw [index_x]
  fin_cases a
  · show b.val * 1 + 0 = b.val; omega
  · show q.val * 512 + r.val = 512 * q.val + r.val; omega
  · show 0 * 1024 + j.val = j.val; omega

/-! ## The weights, whole in every step -/

theorem iblk_g1 (c : Dev nD) (t : Fin cfg0.N) (j : Fin 1024) : iblk m c 1 t (ix2 0 j) = m ((c.tc : Thread nD τ).loc main_arg1) (ix2 0 j) := by
  have H : ∀ t : Fin grid0.N, win0_1.index t = ![0, 0] := by decide +kernel
  refine Eq.trans ?_ (host_g1 m c j)
  refine congrArg (V m c main_v9) (funext fun a => Fin.ext ?_)
  refine (Window.rect_emb_val win0_1 t _ a).trans ?_
  rw [show win0_1.index t = ![0, 0] from H t]
  fin_cases a
  · show 0 * 1 + 0 = 0; omega
  · show 0 * 1024 + j.val = j.val; omega

theorem iblk_wg (c : Dev nD) (t : Fin cfg0.N) (k : Fin 1024) (j : Fin 2816) : iblk m c 2 t (ix2 k j) = m ((c.tc : Thread nD τ).loc main_arg2) (ix3 0 k j) := by
  have H : ∀ t : Fin grid0.N, win0_2.index t = ![0, 0] := by decide +kernel
  refine Eq.trans ?_ (host_wg m c k j)
  refine congrArg (V m c main_v11) (funext fun a => Fin.ext ?_)
  refine (Window.rect_emb_val win0_2 t _ a).trans ?_
  rw [show win0_2.index t = ![0, 0] from H t]
  fin_cases a
  · show 0 * 1024 + k.val = k.val; omega
  · show 0 * 2816 + j.val = j.val; omega

theorem iblk_wu (c : Dev nD) (t : Fin cfg0.N) (k : Fin 1024) (j : Fin 2816) : iblk m c 3 t (ix2 k j) = m ((c.tc : Thread nD τ).loc main_arg3) (ix3 0 k j) := by
  have H : ∀ t : Fin grid0.N, win0_3.index t = ![0, 0] := by decide +kernel
  refine Eq.trans ?_ (host_wu m c k j)
  refine congrArg (V m c main_v13) (funext fun a => Fin.ext ?_)
  refine (Window.rect_emb_val win0_3 t _ a).trans ?_
  rw [show win0_3.index t = ![0, 0] from H t]
  fin_cases a
  · show 0 * 1024 + k.val = k.val; omega
  · show 0 * 2816 + j.val = j.val; omega

theorem iblk_wd (c : Dev nD) (t : Fin cfg0.N) (k : Fin 2816) (j : Fin 1024) : iblk m c 4 t (ix2 k j) = m ((c.tc : Thread nD τ).loc main_arg4) (ix3 0 k j) := by
  have H : ∀ t : Fin grid0.N, win0_4.index t = ![0, 0] := by decide +kernel
  refine Eq.trans ?_ (host_wd m c k j)
  refine congrArg (V m c main_v15) (funext fun a => Fin.ext ?_)
  refine (Window.rect_emb_val win0_4 t _ a).trans ?_
  rw [show win0_4.index t = ![0, 0] from H t]
  fin_cases a
  · show 0 * 2816 + k.val = k.val; omega
  · show 0 * 1024 + j.val = j.val; omega

theorem iblk_gm (c : Dev nD) (t : Fin cfg0.N) (j : Fin 1024) : iblk m c 5 t (ix2 0 j) = m ((c.tc : Thread nD τ).loc main_arg5) (ix2 0 j) := by
  have H : ∀ t : Fin grid0.N, win0_5.index t = ![0, 0] := by decide +kernel
  refine Eq.trans ?_ (host_gm m c j)
  refine congrArg (V m c main_v17) (funext fun a => Fin.ext ?_)
  refine (Window.rect_emb_val win0_5 t _ a).trans ?_
  rw [show win0_5.index t = ![0, 0] from H t]
  fin_cases a
  · show 0 * 1 + 0 = 0; omega
  · show 0 * 1024 + j.val = j.val; omega

theorem iblk_win (c : Dev nD) (t : Fin cfg0.N) (k : Fin 1024) (j : Fin 3072) : iblk m c 6 t (ix2 k j) = m ((c.tc : Thread nD τ).loc main_arg6) (ix3 0 k j) := by
  have H : ∀ t : Fin grid0.N, win0_6.index t = ![0, 0] := by decide +kernel
  refine Eq.trans ?_ (host_win m c k j)
  refine congrArg (V m c main_v19) (funext fun a => Fin.ext ?_)
  refine (Window.rect_emb_val win0_6 t _ a).trans ?_
  rw [show win0_6.index t = ![0, 0] from H t]
  fin_cases a
  · show 0 * 1024 + k.val = k.val; omega
  · show 0 * 3072 + j.val = j.val; omega

theorem iblk_cw (c : Dev nD) (t : Fin cfg0.N) (k : Fin 3) (j : Fin 512) : iblk m c 7 t (ix2 k j) = m ((c.tc : Thread nD τ).loc main_arg7) (ix3 0 k j) := by
  have H : ∀ t : Fin grid0.N, win0_7.index t = ![0, 0] := by decide +kernel
  refine Eq.trans ?_ (host_cw m c k j)
  refine congrArg (V m c main_v20) (funext fun a => Fin.ext ?_)
  refine (Window.rect_emb_val win0_7 t _ a).trans ?_
  rw [show win0_7.index t = ![0, 0] from H t]
  fin_cases a
  · show 0 * 3 + k.val = k.val; omega
  · show 0 * 512 + j.val = j.val; omega

theorem iblk_cb (c : Dev nD) (t : Fin cfg0.N) (j : Fin 512) : iblk m c 8 t (ix2 0 j) = m ((c.tc : Thread nD τ).loc main_arg8) (ix2 0 j) := by
  have H : ∀ t : Fin grid0.N, win0_8.index t = ![0, 0] := by decide +kernel
  refine Eq.trans ?_ (host_cb m c j)
  refine congrArg (V m c main_v22) (funext fun a => Fin.ext ?_)
  refine (Window.rect_emb_val win0_8 t _ a).trans ?_
  rw [show win0_8.index t = ![0, 0] from H t]
  fin_cases a
  · show 0 * 1 + 0 = 0; omega
  · show 0 * 512 + j.val = j.val; omega

theorem iblk_gq (c : Dev nD) (t : Fin cfg0.N) (j : Fin 512) : iblk m c 9 t (ix2 0 j) = m ((c.tc : Thread nD τ).loc main_arg9) (ix2 0 (placeOf j)) := by
  have H : ∀ t : Fin grid0.N, win0_9.index t = ![0, 0] := by decide +kernel
  refine Eq.trans ?_ (host_gq m c j)
  refine congrArg (V m c main_v27) (funext fun a => Fin.ext ?_)
  refine (Window.rect_emb_val win0_9 t _ a).trans ?_
  rw [show win0_9.index t = ![0, 0] from H t]
  fin_cases a
  · show 0 * 1 + 0 = 0; omega
  · show 0 * 512 + j.val = j.val; omega

theorem iblk_gk (c : Dev nD) (t : Fin cfg0.N) (j : Fin 512) : iblk m c 10 t (ix2 0 j) = m ((c.tc : Thread nD τ).loc main_arg10) (ix2 0 (placeOf j)) := by
  have H : ∀ t : Fin grid0.N, win0_10.index t = ![0, 0] := by decide +kernel
  refine Eq.trans ?_ (host_gk m c j)
  refine congrArg (V m c main_v32) (funext fun a => Fin.ext ?_)
  refine (Window.rect_emb_val win0_10 t _ a).trans ?_
  rw [show win0_10.index t = ![0, 0] from H t]
  fin_cases a
  · show 0 * 1 + 0 = 0; omega
  · show 0 * 512 + j.val = j.val; omega

theorem iblk_mask (c : Dev nD) (t : Fin cfg0.N) (k : Fin 512) (j : Fin 512) : iblk m c 11 t (ix2 k j) = (if k.val / 64 = j.val / 64 then 1 else 0 : EReal) := by
  have H : ∀ t : Fin grid0.N, win0_11.index t = ![0, 0] := by decide +kernel
  refine Eq.trans ?_ (host_mask m c k j)
  refine congrArg (V m c main_v7) (funext fun a => Fin.ext ?_)
  refine (Window.rect_emb_val win0_11 t _ a).trans ?_
  rw [show win0_11.index t = ![0, 0] from H t]
  fin_cases a
  · show 0 * 512 + k.val = k.val; omega
  · show 0 * 512 + j.val = j.val; omega

/-! ## The results: an array ends at any `G` that agrees with every point's output block -/

theorem final_mid (c : Dev nD) (G : S4x8192x1024.Idx → Elt Ideal .f32)
    (hG : ∀ (b : Fin 4) (q : Fin 16) (r : Fin 512) (j : Fin 1024), (outsAt0 m c (pt b q).val (pt b q).isLt).1 (ix3 0 r j) = G (ix3 b (spot q r) j)) :
    (dats m 0 c).arrAt 12 cfg0.N = G := by
  refine Dat.arrAt_eq_of_cover (dats m 0 c) 12 G ?_ ?_
  · intro t _
    obtain ⟨b, q, rfl⟩ := pt_of t
    rw [Cert.Kernel3Ideal.Value.flushed12]
    funext (y : S1x512x1024.Idx)
    show (outsAt0 m c (pt b q).val (pt b q).isLt).1 y = G ((win0_12.rect (pt b q)).emb y)
    obtain ⟨r, j, rfl⟩ : ∃ (r : Fin 512) (j : Fin 1024), y = ix3 0 r j := ⟨y 1, y 2, by
      funext a; fin_cases a
      · exact Fin.ext (by have : (y 0).val < 1 := (y 0).isLt; show (y 0).val = 0; omega)
      · rfl
      · rfl⟩
    refine (hG b q r j).trans (congrArg G (funext fun a => Fin.ext ?_))
    refine Eq.symm ((Window.rect_emb_val win0_12 (pt b q) _ a).trans ?_)
    rw [index_mid]
    fin_cases a
    · show b.val * 1 + 0 = b.val; omega
    · show q.val * 512 + r.val = 512 * q.val + r.val; omega
    · show 0 * 1024 + j.val = j.val; omega
  · intro (i : S4x8192x1024.Idx)
    have h1 : (i 1).val < 8192 := (i 1).isLt
    let q : Fin 16 := ⟨(i 1).val / 512, by omega⟩
    let r : Fin 512 := ⟨(i 1).val % 512, by omega⟩
    let b : Fin 4 := i 0
    refine ⟨pt b q, flush0_12 _, ?_⟩
    refine Finset.mem_map.mpr ⟨ix3 0 r (i 2), Finset.mem_univ _, funext fun a => Fin.ext ?_⟩
    refine (Window.rect_emb_val win0_12 (pt b q) _ a).trans ?_
    rw [index_mid]
    fin_cases a
    · show (i 0).val * 1 + 0 = (i 0).val; omega
    · show (i 1).val / 512 * 512 + (i 1).val % 512 = (i 1).val; omega
    · show 0 * 1024 + (i 2).val = (i 2).val; omega

theorem final_conv (c : Dev nD) (G : S4x8192x512.Idx → Elt Ideal .bf16)
    (hG : ∀ (b : Fin 4) (q : Fin 16) (r : Fin 512) (j : Fin 512), (outsAt0 m c (pt b q).val (pt b q).isLt).2.1 (ix3 0 r j) = G (ix3 b (spot q r) j)) :
    (dats m 0 c).arrAt 13 cfg0.N = G := by
  refine Dat.arrAt_eq_of_cover (dats m 0 c) 13 G ?_ ?_
  · intro t _
    obtain ⟨b, q, rfl⟩ := pt_of t
    rw [Cert.Kernel3Ideal.Value.flushed13]
    funext (y : S1x512x512.Idx)
    show (outsAt0 m c (pt b q).val (pt b q).isLt).2.1 y = G ((win0_13.rect (pt b q)).emb y)
    obtain ⟨r, j, rfl⟩ : ∃ (r : Fin 512) (j : Fin 512), y = ix3 0 r j := ⟨y 1, y 2, by
      funext a; fin_cases a
      · exact Fin.ext (by have : (y 0).val < 1 := (y 0).isLt; show (y 0).val = 0; omega)
      · rfl
      · rfl⟩
    refine (hG b q r j).trans (congrArg G (funext fun a => Fin.ext ?_))
    refine Eq.symm ((Window.rect_emb_val win0_13 (pt b q) _ a).trans ?_)
    rw [index_conv]
    fin_cases a
    · show b.val * 1 + 0 = b.val; omega
    · show q.val * 512 + r.val = 512 * q.val + r.val; omega
    · show 0 * 512 + j.val = j.val; omega
  · intro (i : S4x8192x512.Idx)
    have h1 : (i 1).val < 8192 := (i 1).isLt
    let q : Fin 16 := ⟨(i 1).val / 512, by omega⟩
    let r : Fin 512 := ⟨(i 1).val % 512, by omega⟩
    let b : Fin 4 := i 0
    refine ⟨pt b q, flush0_13 _, ?_⟩
    refine Finset.mem_map.mpr ⟨ix3 0 r (i 2), Finset.mem_univ _, funext fun a => Fin.ext ?_⟩
    refine (Window.rect_emb_val win0_13 (pt b q) _ a).trans ?_
    rw [index_conv]
    fin_cases a
    · show (i 0).val * 1 + 0 = (i 0).val; omega
    · show (i 1).val / 512 * 512 + (i 1).val % 512 = (i 1).val; omega
    · show 0 * 512 + (i 2).val = (i 2).val; omega

theorem final_k (c : Dev nD) (G : S4x8192x512.Idx → Elt Ideal .bf16)
    (hG : ∀ (b : Fin 4) (q : Fin 16) (r : Fin 512) (j : Fin 512), (outsAt0 m c (pt b q).val (pt b q).isLt).2.2.2.1 (ix3 0 r j) = G (ix3 b (spot q r) j)) :
    (dats m 0 c).arrAt 15 cfg0.N = G := by
  refine Dat.arrAt_eq_of_cover (dats m 0 c) 15 G ?_ ?_
  · intro t _
    obtain ⟨b, q, rfl⟩ := pt_of t
    rw [Cert.Kernel3Ideal.Value.flushed15]
    funext (y : S1x512x512.Idx)
    show (outsAt0 m c (pt b q).val (pt b q).isLt).2.2.2.1 y = G ((win0_15.rect (pt b q)).emb y)
    obtain ⟨r, j, rfl⟩ : ∃ (r : Fin 512) (j : Fin 512), y = ix3 0 r j := ⟨y 1, y 2, by
      funext a; fin_cases a
      · exact Fin.ext (by have : (y 0).val < 1 := (y 0).isLt; show (y 0).val = 0; omega)
      · rfl
      · rfl⟩
    refine (hG b q r j).trans (congrArg G (funext fun a => Fin.ext ?_))
    refine Eq.symm ((Window.rect_emb_val win0_15 (pt b q) _ a).trans ?_)
    rw [index_k]
    fin_cases a
    · show b.val * 1 + 0 = b.val; omega
    · show q.val * 512 + r.val = 512 * q.val + r.val; omega
    · show 0 * 512 + j.val = j.val; omega
  · intro (i : S4x8192x512.Idx)
    have h1 : (i 1).val < 8192 := (i 1).isLt
    let q : Fin 16 := ⟨(i 1).val / 512, by omega⟩
    let r : Fin 512 := ⟨(i 1).val % 512, by omega⟩
    let b : Fin 4 := i 0
    refine ⟨pt b q, flush0_15 _, ?_⟩
    refine Finset.mem_map.mpr ⟨ix3 0 r (i 2), Finset.mem_univ _, funext fun a => Fin.ext ?_⟩
    refine (Window.rect_emb_val win0_15 (pt b q) _ a).trans ?_
    rw [index_k]
    fin_cases a
    · show (i 0).val * 1 + 0 = (i 0).val; omega
    · show (i 1).val / 512 * 512 + (i 1).val % 512 = (i 1).val; omega
    · show 0 * 512 + (i 2).val = (i 2).val; omega

theorem final_q (c : Dev nD) (G : S4x8x8192x128.Idx → Elt Ideal .bf16)
    (hG : ∀ (b : Fin 4) (q : Fin 16) (h : Fin 8) (r : Fin 512) (l : Fin 128),
      (outsAt0 m c (pt b q).val (pt b q).isLt).2.2.1 (ix4 0 h r l) = G (ix4 b h (spot q r) l)) :
    (dats m 0 c).arrAt 14 cfg0.N = G := by
  refine Dat.arrAt_eq_of_cover (dats m 0 c) 14 G ?_ ?_
  · intro t _
    obtain ⟨b, q, rfl⟩ := pt_of t
    rw [Cert.Kernel3Ideal.Value.flushed14]
    funext (y : S1x8x512x128.Idx)
    show (outsAt0 m c (pt b q).val (pt b q).isLt).2.2.1 y = G ((win0_14.rect (pt b q)).emb y)
    obtain ⟨h, r, l, rfl⟩ : ∃ (h : Fin 8) (r : Fin 512) (l : Fin 128), y = ix4 0 h r l := ⟨y 1, y 2, y 3, by
      funext a; fin_cases a
      · exact Fin.ext (by have : (y 0).val < 1 := (y 0).isLt; show (y 0).val = 0; omega)
      · rfl
      · rfl
      · rfl⟩
    refine (hG b q h r l).trans (congrArg G (funext fun a => Fin.ext ?_))
    refine Eq.symm ((Window.rect_emb_val win0_14 (pt b q) _ a).trans ?_)
    rw [index_q]
    fin_cases a
    · show b.val * 1 + 0 = b.val; omega
    · show 0 * 8 + h.val = h.val; omega
    · show q.val * 512 + r.val = 512 * q.val + r.val; omega
    · show 0 * 128 + l.val = l.val; omega
  · intro (i : S4x8x8192x128.Idx)
    have h2 : (i 2).val < 8192 := (i 2).isLt
    let q : Fin 16 := ⟨(i 2).val / 512, by omega⟩
    let r : Fin 512 := ⟨(i 2).val % 512, by omega⟩
    let b : Fin 4 := i 0
    refine ⟨pt b q, flush0_14 _, ?_⟩
    refine Finset.mem_map.mpr ⟨ix4 0 (i 1) r (i 3), Finset.mem_univ _, funext fun a => Fin.ext ?_⟩
    refine (Window.rect_emb_val win0_14 (pt b q) _ a).trans ?_
    rw [index_q]
    fin_cases a
    · show (i 0).val * 1 + 0 = (i 0).val; omega
    · show 0 * 8 + (i 1).val = (i 1).val; omega
    · show (i 2).val / 512 * 512 + (i 2).val % 512 = (i 2).val; omega
    · show 0 * 128 + (i 3).val = (i 3).val; omega

theorem final_v (c : Dev nD) (G : S4x8x8192x128.Idx → Elt Ideal .bf16)
    (hG : ∀ (b : Fin 4) (q : Fin 16) (h : Fin 8) (r : Fin 512) (l : Fin 128),
      (outsAt0 m c (pt b q).val (pt b q).isLt).2.2.2.2.1 (ix4 0 h r l) = G (ix4 b h (spot q r) l)) :
    (dats m 0 c).arrAt 16 cfg0.N = G := by
  refine Dat.arrAt_eq_of_cover (dats m 0 c) 16 G ?_ ?_
  · intro t _
    obtain ⟨b, q, rfl⟩ := pt_of t
    rw [Cert.Kernel3Ideal.Value.flushed16]
    funext (y : S1x8x512x128.Idx)
    show (outsAt0 m c (pt b q).val (pt b q).isLt).2.2.2.2.1 y = G ((win0_16.rect (pt b q)).emb y)
    obtain ⟨h, r, l, rfl⟩ : ∃ (h : Fin 8) (r : Fin 512) (l : Fin 128), y = ix4 0 h r l := ⟨y 1, y 2, y 3, by
      funext a; fin_cases a
      · exact Fin.ext (by have : (y 0).val < 1 := (y 0).isLt; show (y 0).val = 0; omega)
      · rfl
      · rfl
      · rfl⟩
    refine (hG b q h r l).trans (congrArg G (funext fun a => Fin.ext ?_))
    refine Eq.symm ((Window.rect_emb_val win0_16 (pt b q) _ a).trans ?_)
    rw [index_v]
    fin_cases a
    · show b.val * 1 + 0 = b.val; omega
    · show 0 * 8 + h.val = h.val; omega
    · show q.val * 512 + r.val = 512 * q.val + r.val; omega
    · show 0 * 128 + l.val = l.val; omega
  · intro (i : S4x8x8192x128.Idx)
    have h2 : (i 2).val < 8192 := (i 2).isLt
    let q : Fin 16 := ⟨(i 2).val / 512, by omega⟩
    let r : Fin 512 := ⟨(i 2).val % 512, by omega⟩
    let b : Fin 4 := i 0
    refine ⟨pt b q, flush0_16 _, ?_⟩
    refine Finset.mem_map.mpr ⟨ix4 0 (i 1) r (i 3), Finset.mem_univ _, funext fun a => Fin.ext ?_⟩
    refine (Window.rect_emb_val win0_16 (pt b q) _ a).trans ?_
    rw [index_v]
    fin_cases a
    · show (i 0).val * 1 + 0 = (i 0).val; omega
    · show 0 * 8 + (i 1).val = (i 1).val; omega
    · show (i 2).val / 512 * 512 + (i 2).val % 512 = (i 2).val; omega
    · show 0 * 128 + (i 3).val = (i 3).val; omega

end Cert.Proof.PI3

end
-- ==== Proof.RI3.Row.lean ====
/- The first call's reference over the reals, row by row: the half step and the input projection. -/
module

public import proofs.«01_k».proof.Proof.Gen.Reference3Ideal.Read
public import proofs.«01_k».proof.Proof.Dense.Heads

@[expose] public section

set_option maxRecDepth 16384

noncomputable section

namespace Cert.Proof.RI3

open Cert.Reference3Ideal Cert.Reference3Ideal.Gen Cert.Reference3Ideal.Read Cert.Dense
open Idealize.ShloMosaic Idealize.ShloMosaic.TcCoe

variable (x0 : (⟨S4x8192x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S1x1024, .f32⟩ : BufTy).Contents (Elt Ideal)) (x6 : (⟨S1x1024x3072, .f32⟩ : BufTy).Contents (Elt Ideal))

/-- The stream after the half step. -/
def mid (b : Fin 4) (s : Fin 8192) : Fin 1024 → EReal :=
  halfStep (fun k => x0 (ix3 b s k)) (fun k => x1 (ix2 0 k)) (fun k f => x2 (ix3 0 k f)) (fun k f => x3 (ix3 0 k f)) (fun f j => x4 (ix3 0 f j))

/-- Its input projection. -/
def mixIn (b : Fin 4) (s : Fin 8192) : Fin 3072 → EReal :=
  proj (mid x0 x1 x2 x3 x4 b s) (fun k => x5 (ix2 0 k)) (fun k n => x6 (ix3 0 k n))

theorem norm_at (b : Fin 4) (s : Fin 8192) (j : Fin 1024) :
    val_main_v13 (F := Ideal) x0 x1 (ix3 b s j) = norm (fun k => x0 (ix3 b s k)) (fun k => x1 (ix2 0 k)) j := by
  unfold val_main_v13 val_main_v10 val_main_v9 val_main_v8 val_main_v7 val_main_v5 val_main_v3 val_main_v2 val_main_v1
  pointwise [val_main_v4, val_main_v6, val_main_cst, val_main_cst_0, val_main_cst_1, val_main_v12, val_main_v11, val_main_v0]
  rfl

theorem act_at (b : Fin 4) (s : Fin 8192) (f : Fin 2816) :
    val_main_v20 (F := Ideal) x0 x1 x2 x3 (ix3 b s f)
      = act (fun k => val_main_v13 (F := Ideal) x0 x1 (ix3 b s k)) (fun k f => x2 (ix3 0 k f)) (fun k f => x3 (ix3 0 k f)) f := by
  have e : val_main_v17 (F := Ideal) x0 x1 x2 (ix3 b s f)
      = ∑ k : Fin 1024, val_main_v13 (F := Ideal) x0 x1 (ix3 b s k) * x2 (ix3 0 k f) := by
    unfold val_main_v17
    generalize val_main_v13 (F := Ideal) x0 x1 = y
    pointwise [val_main_v14]
  unfold act
  rw [← e]
  unfold val_main_v20 val_main_v19 val_main_v18 val_main_call0_v5 val_main_call0_v3 val_main_call0_v1 val_main_call0_v0
  generalize val_main_v13 (F := Ideal) x0 x1 = y
  generalize val_main_v17 (F := Ideal) x0 x1 x2 = z
  pointwise [val_main_v15, val_main_call0_v4, val_main_call0_v2, val_main_call0_cst, val_main_call0_cst_0]
  rfl

theorem half_at (b : Fin 4) (s : Fin 8192) (j : Fin 1024) :
    val_main_v24 (F := Ideal) x0 x1 x2 x3 x4 (ix3 b s j) = mid x0 x1 x2 x3 x4 b s j := by
  have h : (fun k => val_main_v13 (F := Ideal) x0 x1 (ix3 b s k)) = norm (fun k => x0 (ix3 b s k)) (fun k => x1 (ix2 0 k)) :=
    funext fun k => norm_at x0 x1 b s k
  have e := fun f => (act_at x0 x1 x2 x3 b s f).trans (congrArg (fun h => act h (fun k f => x2 (ix3 0 k f)) (fun k f => x3 (ix3 0 k f)) f) h)
  unfold mid halfStep
  simp only [← e]
  unfold val_main_v24 val_main_v23 val_main_v21
  generalize val_main_v20 (F := Ideal) x0 x1 x2 x3 = y
  pointwise [val_main_v22, val_main_cst_2, val_main_v16]

theorem mixIn_at (b : Fin 4) (s : Fin 8192) (n : Fin 3072) :
    val_main_v40 (F := Ideal) x0 x1 x2 x3 x4 x5 x6 (ix3 b s n) = mixIn x0 x1 x2 x3 x4 x5 x6 b s n := by
  have e : ∀ k, val_main_v38 (F := Ideal) x0 x1 x2 x3 x4 x5 (ix3 b s k) = norm (mid x0 x1 x2 x3 x4 b s) (fun k => x5 (ix2 0 k)) k := fun k => by
    rw [← funext (half_at x0 x1 x2 x3 x4 b s)]
    unfold val_main_v38 val_main_v35 val_main_v34 val_main_v33 val_main_v32 val_main_v30 val_main_v28 val_main_v27 val_main_v26
    generalize val_main_v24 (F := Ideal) x0 x1 x2 x3 x4 = y
    pointwise [val_main_v29, val_main_v31, val_main_cst_3, val_main_cst_4, val_main_cst_5, val_main_v37, val_main_v36, val_main_v25]
    rfl
  unfold mixIn proj
  simp only [← e]
  unfold val_main_v40
  generalize val_main_v38 (F := Ideal) x0 x1 x2 x3 x4 x5 = y
  pointwise [val_main_v39]

end Cert.Proof.RI3

end
-- ==== Proof.RI3.Conv.lean ====
/- The first call's reference over the reals: the gated convolution. -/
module

public import proofs.«01_k».proof.Proof.RI3.Row

@[expose] public section

set_option maxRecDepth 16384

noncomputable section

namespace Cert.Proof.RI3

open Cert.Reference3Ideal Cert.Reference3Ideal.Gen Cert.Reference3Ideal.Read Cert.Dense
open Idealize.ShloMosaic Idealize.ShloMosaic.TcCoe

variable (x0 : (⟨S4x8192x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S1x1024, .f32⟩ : BufTy).Contents (Elt Ideal)) (x6 : (⟨S1x1024x3072, .f32⟩ : BufTy).Contents (Elt Ideal))
  (x7 : (⟨S1x3x512, .f32⟩ : BufTy).Contents (Elt Ideal)) (x8 : (⟨S1x512, .f32⟩ : BufTy).Contents (Elt Ideal))

/-- The convolution's input: the product of two groups of the projection. -/
def zed (b : Fin 4) (c : Fin 512) (s : Fin 8192) : EReal :=
  mixIn x0 x1 x2 x3 x4 x5 x6 b s (col 1 c) * mixIn x0 x1 x2 x3 x4 x5 x6 b s (col 2 c)

theorem zed_at (b : Fin 4) (s : Fin 8192) (c : Fin 512) :
    val_main_v49 (F := Ideal) x0 x1 x2 x3 x4 x5 x6 (ix3 b s c) = zed x0 x1 x2 x3 x4 x5 x6 b c s := by
  rw [val_main_v49_apply, val_main_v42_apply, val_main_v43_apply]
  unfold zed
  rw [← mixIn_at, ← mixIn_at]
  refine congrArg₂ (fun a b : EReal => a * b) (congrArg _ (funext fun a => Fin.ext ?_)) (congrArg _ (funext fun a => Fin.ext ?_))
  · fin_cases a <;> simp [ix3, col] <;> omega
  · fin_cases a <;> simp [ix3, col] <;> omega

/-- With two places of zeros before the start. -/
theorem padded_at (b : Fin 4) (t : Fin 8194) (c : Fin 512) :
    val_main_v51 (F := Ideal) x0 x1 x2 x3 x4 x5 x6 (ix3 b t c)
      = if h : t.val < 2 then 0 else zed x0 x1 x2 x3 x4 x5 x6 b c ⟨t.val - 2, by omega⟩ := by
  simp only [← zed_at]
  unfold val_main_v51
  generalize val_main_v49 (F := Ideal) x0 x1 x2 x3 x4 x5 x6 = y
  pointwise [val_main_v50, val_main_cst_6]

/-- A slice of the padded sequence is the sequence some places later. -/
theorem later_at (b : Fin 4) (s : Fin 8192) (c : Fin 512) (k : ℕ) (hk : k ≤ 2) :
    val_main_v51 (F := Ideal) x0 x1 x2 x3 x4 x5 x6 (ix3 b (⟨k + s.val, by omega⟩ : Fin 8194) c)
      = before (2 - k) (zed x0 x1 x2 x3 x4 x5 x6 b c) s := by
  rw [padded_at]
  unfold before
  split
  · rename_i h; rw [if_neg]; exact fun g => absurd (show k + s.val < 2 from h) (by omega)
  · rename_i h
    have h' : ¬ k + s.val < 2 := h
    rw [if_pos (by omega)]
    refine congrArg _ (Fin.ext ?_)
    show k + s.val - 2 = s.val - (2 - k)
    omega

/-- The convolution group. -/
theorem conv_at (b : Fin 4) (s : Fin 8192) (c : Fin 512) :
    val_main_v111 (F := Ideal) x0 x1 x2 x3 x4 x5 x6 x7 x8 (ix3 b s c)
      = gate3 (mixIn x0 x1 x2 x3 x4 x5 x6 b s (col 0 c)) (zed x0 x1 x2 x3 x4 x5 x6 b c s)
          (before 1 (zed x0 x1 x2 x3 x4 x5 x6 b c) s) (before 2 (zed x0 x1 x2 x3 x4 x5 x6 b c) s)
          (x7 (ix3 0 0 c)) (x7 (ix3 0 1 c)) (x7 (ix3 0 2 c)) (x8 (ix2 0 c)) := by
  have e0 : val_main_v52 (F := Ideal) x0 x1 x2 x3 x4 x5 x6 (ix3 b s c) = before 2 (zed x0 x1 x2 x3 x4 x5 x6 b c) s := by
    rw [← later_at x0 x1 x2 x3 x4 x5 x6 b s c 0 (by omega), val_main_v52_apply]
    exact congrArg _ (funext fun a => Fin.ext (by fin_cases a <;> simp [ix3]))
  have e1 : val_main_v58 (F := Ideal) x0 x1 x2 x3 x4 x5 x6 (ix3 b s c) = before 1 (zed x0 x1 x2 x3 x4 x5 x6 b c) s := by
    rw [← later_at x0 x1 x2 x3 x4 x5 x6 b s c 1 (by omega), val_main_v58_apply]
    exact congrArg _ (funext fun a => Fin.ext (by fin_cases a <;> simp [ix3]))
  have e2 : val_main_v65 (F := Ideal) x0 x1 x2 x3 x4 x5 x6 (ix3 b s c) = zed x0 x1 x2 x3 x4 x5 x6 b c s := by
    have h := later_at x0 x1 x2 x3 x4 x5 x6 b s c 2 (by omega)
    refine Eq.trans ?_ (h.trans ?_)
    · rw [val_main_v65_apply]
      exact congrArg _ (funext fun a => Fin.ext (by fin_cases a <;> simp [ix3]))
    · unfold before
      rw [if_pos (by omega)]
      exact congrArg _ (Fin.ext (by show s.val - 0 = s.val; omega))
  have e3 : val_main_v41 (F := Ideal) x0 x1 x2 x3 x4 x5 x6 (ix3 b s c) = mixIn x0 x1 x2 x3 x4 x5 x6 b s (col 0 c) := by
    rw [← mixIn_at, val_main_v41_apply]
    exact congrArg _ (funext fun a => Fin.ext (by fin_cases a <;> simp [ix3, col]))
  rw [← e0, ← e1, ← e2, ← e3]
  unfold gate3 val_main_v111 val_main_v75 val_main_v74 val_main_v71 val_main_v64 val_main_v57 val_main_v63 val_main_v70
  generalize val_main_v52 (F := Ideal) x0 x1 x2 x3 x4 x5 x6 = y0
  generalize val_main_v58 (F := Ideal) x0 x1 x2 x3 x4 x5 x6 = y1
  generalize val_main_v65 (F := Ideal) x0 x1 x2 x3 x4 x5 x6 = y2
  generalize val_main_v41 (F := Ideal) x0 x1 x2 x3 x4 x5 x6 = y3
  pointwise [val_main_v56, val_main_v55, val_main_v54, val_main_v53, val_main_v47, val_main_v62, val_main_v61, val_main_v60,
    val_main_v59, val_main_v69, val_main_v68, val_main_v67, val_main_v66, val_main_v73, val_main_v72, val_main_v48]

end Cert.Proof.RI3

end
-- ==== Proof.RI3.Heads.lean ====
/- The first call's reference over the reals: the heads' norms and their places in the lanes. -/
module

public import proofs.«01_k».proof.Proof.RI3.Row

@[expose] public section

set_option maxRecDepth 16384

noncomputable section

namespace Cert.Proof.RI3

open Cert.Reference3Ideal Cert.Reference3Ideal.Gen Cert.Reference3Ideal.Read Cert.Dense
open Idealize.ShloMosaic Idealize.ShloMosaic.TcCoe

variable (x0 : (⟨S4x8192x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S1x1024, .f32⟩ : BufTy).Contents (Elt Ideal)) (x6 : (⟨S1x1024x3072, .f32⟩ : BufTy).Contents (Elt Ideal))
  (x9 x10 : (⟨S1x64, .f32⟩ : BufTy).Contents (Elt Ideal))

/-- The words of a head's width, and of the logarithm of two. -/
theorem log_two_at (i : S_.Idx) : val_main_v93 (F := Ideal) i = ((Real.log 2 : ℝ) : EReal) := by
  have two_bits : Ideal.ofBits .f32 0x40000000#32 = ((2 : ℝ) : EReal) := by
    simp [Ideal.ofBits, Ideal.ieee]
    norm_num
    rw [← EReal.coe_mul]
    norm_num
  show Ideal.log (Ideal.ofBits .f32 0x40000000#32) = _
  rw [two_bits, Ideal.log_coe]
  simp

theorem queries_in (b : Fin 4) (s : Fin 8192) (h : Fin 8) (d : Fin 64) :
    val_main_v76 (F := Ideal) x0 x1 x2 x3 x4 x5 x6 (ix4 b s h d) = mixIn x0 x1 x2 x3 x4 x5 x6 b s (col 3 (lane h d)) := by
  rw [val_main_v76_apply, val_main_v44_apply, ← mixIn_at]
  refine congrArg _ (funext fun a => Fin.ext ?_)
  fin_cases a
  · show (((b.val * 8192 + s.val) * 8 + h.val) * 64 + d.val) / 4194304 = b.val; omega
  · show (((b.val * 8192 + s.val) * 8 + h.val) * 64 + d.val) / 512 % 8192 = s.val; omega
  · show 1536 + (((b.val * 8192 + s.val) * 8 + h.val) * 64 + d.val) % 512 = 512 * 3 + (64 * h.val + d.val); omega

theorem keys_in (b : Fin 4) (s : Fin 8192) (h : Fin 8) (d : Fin 64) :
    val_main_v96 (F := Ideal) x0 x1 x2 x3 x4 x5 x6 (ix4 b s h d) = mixIn x0 x1 x2 x3 x4 x5 x6 b s (col 4 (lane h d)) := by
  rw [val_main_v96_apply, val_main_v45_apply, ← mixIn_at]
  refine congrArg _ (funext fun a => Fin.ext ?_)
  fin_cases a
  · show (((b.val * 8192 + s.val) * 8 + h.val) * 64 + d.val) / 4194304 = b.val; omega
  · show (((b.val * 8192 + s.val) * 8 + h.val) * 64 + d.val) / 512 % 8192 = s.val; omega
  · show 2048 + (((b.val * 8192 + s.val) * 8 + h.val) * 64 + d.val) % 512 = 512 * 4 + (64 * h.val + d.val); omega

theorem values_in (b : Fin 4) (s : Fin 8192) (h : Fin 8) (d : Fin 64) :
    val_main_v125 (F := Ideal) x0 x1 x2 x3 x4 x5 x6 (ix4 b s h d) = mixIn x0 x1 x2 x3 x4 x5 x6 b s (col 5 (lane h d)) := by
  rw [val_main_v125_apply, val_main_v46_apply, ← mixIn_at]
  refine congrArg _ (funext fun a => Fin.ext ?_)
  fin_cases a
  · show (((b.val * 8192 + s.val) * 8 + h.val) * 64 + d.val) / 4194304 = b.val; omega
  · show (((b.val * 8192 + s.val) * 8 + h.val) * 64 + d.val) / 512 % 8192 = s.val; omega
  · show 2560 + (((b.val * 8192 + s.val) * 8 + h.val) * 64 + d.val) % 512 = 512 * 5 + (64 * h.val + d.val); omega

/-- A query's feature before its place in the lanes: normed, over eight, in base two. -/
def query (b : Fin 4) (s : Fin 8192) (h : Fin 8) (d : Fin 64) : EReal :=
  Ideal.div (headNorm (fun c => mixIn x0 x1 x2 x3 x4 x5 x6 b s (col 3 c)) (fun d => x9 (ix2 0 d)) h d * Ideal.ofBits .f32 0x3E000000#32)
    ((Real.log 2 : ℝ) : EReal)

theorem query_at (b : Fin 4) (s : Fin 8192) (h : Fin 8) (d : Fin 64) :
    val_main_v95 (F := Ideal) x0 x1 x2 x3 x4 x5 x6 x9 (ix4 b s h d) = query x0 x1 x2 x3 x4 x5 x6 x9 b s h d := by
  unfold query headNorm
  simp only [← queries_in]
  rw [val_main_v95_apply, val_main_v94_apply, log_two_at]
  refine congrArg (fun e : EReal => Ideal.div e _) ?_
  unfold val_main_v92 val_main_v90 val_main_v87 val_main_v86 val_main_v85 val_main_v84 val_main_v82 val_main_v80 val_main_v79 val_main_v78
  generalize val_main_v76 (F := Ideal) x0 x1 x2 x3 x4 x5 x6 = y
  pointwise [val_main_v81, val_main_v83, val_main_cst_7, val_main_cst_8, val_main_cst_9, val_main_v89, val_main_v88, val_main_v77,
    val_main_v91, val_main_cst_10]

/-- The keys. -/
theorem key_at (b : Fin 4) (s : Fin 8192) (h : Fin 8) (d : Fin 64) :
    val_main_v124 (F := Ideal) x0 x1 x2 x3 x4 x5 x6 x10 (ix3 b s (lane h d))
      = headNorm (fun c => mixIn x0 x1 x2 x3 x4 x5 x6 b s (col 4 c)) (fun d => x10 (ix2 0 d)) h d := by
  unfold headNorm
  simp only [← keys_in]
  have e : val_main_v124 (F := Ideal) x0 x1 x2 x3 x4 x5 x6 x10 (ix3 b s (lane h d))
      = val_main_v110 (F := Ideal) x0 x1 x2 x3 x4 x5 x6 x10 (ix4 b s h d) := by
    rw [val_main_v124_apply, val_main_v123_apply]
    refine congrArg (val_main_v110 (F := Ideal) x0 x1 x2 x3 x4 x5 x6 x10) (funext fun a => Fin.ext ?_)
    fin_cases a
    · show ((b.val * 8192 + s.val) * 512 + (64 * h.val + d.val)) / 4194304 = b.val; omega
    · show ((b.val * 8192 + s.val) * 512 + (64 * h.val + d.val)) / 512 % 8192 = s.val; omega
    · show ((b.val * 8192 + s.val) * 512 + (64 * h.val + d.val)) / 64 % 8 = h.val; omega
    · show ((b.val * 8192 + s.val) * 512 + (64 * h.val + d.val)) % 64 = d.val; omega
  rw [e]
  unfold val_main_v110 val_main_v107 val_main_v106 val_main_v105 val_main_v104 val_main_v102 val_main_v100 val_main_v99 val_main_v98
  generalize val_main_v96 (F := Ideal) x0 x1 x2 x3 x4 x5 x6 = y
  pointwise [val_main_v101, val_main_v103, val_main_cst_12, val_main_cst_13, val_main_cst_14, val_main_v109, val_main_v108, val_main_v97]

theorem even_q (i : S1x8x1x1.Idx) : val_main_v118 (F := Ideal) i = if (i 1).val % 2 = 0 then 1#1 else 0#1 := by
  rw [val_main_v118_apply]
  have h : ∀ j : Fin 8, val_main_v117 (F := Ideal) (idx_main_v118 (ix4 0 j 0 0)) = if j.val % 2 = 0 then 1#1 else 0#1 := by
    intro j
    fin_cases j <;> rfl
  exact (congrArg _ (funext fun a => by fin_cases a; rfl)).trans (h (i 1))

theorem even_v (i : S1x8x1x1.Idx) : val_main_v132 (F := Ideal) i = if (i 1).val % 2 = 0 then 1#1 else 0#1 := even_q i

/-- Choosing between a head's features before 64 zeros and after them puts them in the head's half of the lanes. -/
theorem lanes_eq (t : Fin 64 → EReal) (h : Fin 8) (l : Fin 128) :
    Scalar.select (if h.val % 2 = 0 then 1#1 else 0#1) (if g : l.val < 64 then t ⟨l.val, g⟩ else 0)
        (if g : l.val < 64 then (0 : EReal) else t ⟨l.val - 64, by omega⟩)
      = if l.val / 64 = h.val % 2 then t ⟨l.val % 64, by omega⟩ else 0 := by
  by_cases e : h.val % 2 = 0
  · rw [if_pos e]
    show (if g : l.val < 64 then t ⟨l.val, g⟩ else 0) = _
    by_cases g : l.val < 64
    · rw [dif_pos g, if_pos (by omega)]
      exact congrArg t (Fin.ext (by show l.val = l.val % 64; omega))
    · rw [dif_neg g, if_neg (by omega)]
  · rw [if_neg e]
    show (if g : l.val < 64 then (0 : EReal) else t ⟨l.val - 64, by omega⟩) = _
    by_cases g : l.val < 64
    · rw [dif_pos g, if_neg (by omega)]
    · rw [dif_neg g, if_pos (by omega)]
      exact congrArg t (Fin.ext (by show l.val - 64 = l.val % 64; omega))

/-- The queries' lanes. -/
theorem query_lanes (b : Fin 4) (h : Fin 8) (s : Fin 8192) (l : Fin 128) :
    val_main_v122 (F := Ideal) x0 x1 x2 x3 x4 x5 x6 x9 (ix4 b h s l) = half (query x0 x1 x2 x3 x4 x5 x6 x9 b s) h l := by
  unfold half
  simp only [← query_at]
  rw [val_main_v122_apply, val_main_v121_apply, val_main_call2_v0_apply, even_q]
  unfold val_main_v119 val_main_v120 val_main_v112
  generalize val_main_v95 (F := Ideal) x0 x1 x2 x3 x4 x5 x6 x9 = y
  pointwise [val_main_v113, val_main_cst_15]
  exact lanes_eq (fun d => y (ix4 b s h d)) h l

/-- The values' lanes. -/
theorem value_lanes (b : Fin 4) (h : Fin 8) (s : Fin 8192) (l : Fin 128) :
    val_main_v136 (F := Ideal) x0 x1 x2 x3 x4 x5 x6 (ix4 b h s l)
      = half (fun h d => mixIn x0 x1 x2 x3 x4 x5 x6 b s (col 5 (lane h d))) h l := by
  unfold half
  simp only [← values_in]
  rw [val_main_v136_apply, val_main_v135_apply, val_main_call4_v0_apply, even_v]
  unfold val_main_v133 val_main_v134 val_main_v126
  generalize val_main_v125 (F := Ideal) x0 x1 x2 x3 x4 x5 x6 = y
  pointwise [val_main_v127, val_main_cst_17]
  exact lanes_eq (fun d => y (ix4 b s h d)) h l

end Cert.Proof.RI3

end
-- ==== Proof.PI3.Points.lean ====
/- The first call's steps over the reals: every block a step writes is the reference's rows of the same arguments. -/
module

public import proofs.«01_k».proof.Proof.PI3.Blocks
public import proofs.«01_k».proof.Proof.RI3.Conv
public import proofs.«01_k».proof.Proof.RI3.Heads

@[expose] public section

set_option maxRecDepth 16384

noncomputable section

namespace Cert.Proof.PI3

open Cert.Kernel3Ideal Cert.Kernel3Ideal.Gen Cert.Dense
open Idealize.ShloMosaic Idealize.ShloMosaic.TcCoe Idealize.SL.Sem
open Idealize.ShloMosaic.Pipeline (Dat Cfg Window)

variable (m : (ℓ : Loc nD τ sig) → Buf (Elt Ideal) ℓ)

theorem row_eq (c : Dev nD) (b : Fin 4) (q : Fin 16) (r : Fin 512) :
    row (iblk m c 0 (pt b q)) (iblk m c 1 (pt b q)) (iblk m c 2 (pt b q)) (iblk m c 3 (pt b q)) (iblk m c 4 (pt b q)) r = RI3.mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b (spot q r) := by
  unfold row RI3.mid
  simp only [iblk_x, iblk_g1, iblk_wg, iblk_wu, iblk_wd]

theorem rowProj_eq (c : Dev nD) (b : Fin 4) (q : Fin 16) (r : Fin 512) :
    rowProj (iblk m c 0 (pt b q)) (iblk m c 1 (pt b q)) (iblk m c 2 (pt b q)) (iblk m c 3 (pt b q)) (iblk m c 4 (pt b q)) (iblk m c 5 (pt b q)) (iblk m c 6 (pt b q)) r = RI3.mixIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b (spot q r) := by
  unfold rowProj RI3.mixIn
  rw [row_eq]
  simp only [iblk_gm, iblk_win]

theorem zrow_eq (c : Dev nD) (b : Fin 4) (q : Fin 16) (r k : Fin 512) :
    zrow (iblk m c 0 (pt b q)) (iblk m c 1 (pt b q)) (iblk m c 2 (pt b q)) (iblk m c 3 (pt b q)) (iblk m c 4 (pt b q)) (iblk m c 5 (pt b q)) (iblk m c 6 (pt b q)) r k = RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k (spot q r) := by
  unfold zrow RI3.zed
  rw [rowProj_eq]

theorem first_iff (b : Fin 4) (q : Fin 16) : (pt b q).val % 16 = 0 ↔ q.val = 0 := by
  show (16 * b.val + q.val) % 16 = 0 ↔ _
  omega

/-- The rows after the half step. -/
theorem mid_pt (c : Dev nD) (b : Fin 4) (q : Fin 16) (r : Fin 512) (j : Fin 1024) :
    (outsAt0 m c (pt b q).val (pt b q).isLt).1 (ix3 0 r j) = RI3.mid (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b (spot q r) j := by
  refine Eq.trans ?_ (congrFun (row_eq m c b q r) j)
  by_cases h0 : (pt b q).val % 16 = 0
  · rw [outsAt0_A m c (pt b q) h0]
    dsimp only
    exact rows_A _ _ _ _ _ _ _ _ _ _ _ _ _ _ _ _ _ _ _ _ _ _ _ _ _ _ _ _ _ _ _ _ _ _ _ _ _ _ _ _ _ _ _ _ _ _ _ _ _ _ c _ _ r j
  · rw [outsAt0_B m c (pt b q) h0]
    dsimp only
    exact rows_B _ _ _ _ _ _ _ _ _ _ _ _ _ _ _ _ _ _ _ _ _ _ _ _ _ _ _ _ _ _ _ _ _ _ _ _ _ _ _ _ _ _ _ _ _ _ _ _ _ _ _ c _ _ r j

/-- The rows kept for the next step. -/
theorem tail_pt (c : Dev nD) (b : Fin 4) (q : Fin 16) (r : Fin 8) (k : Fin 512) :
    (outsAt0 m c (pt b q).val (pt b q).isLt).2.2.2.2.2 (ix2 r k) = RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k (spot q ⟨504 + r.val, by omega⟩) := by
  refine Eq.trans ?_ (zrow_eq m c b q ⟨504 + r.val, by omega⟩ k)
  by_cases h0 : (pt b q).val % 16 = 0
  · rw [outsAt0_A m c (pt b q) h0]
    dsimp only
    exact tail_A _ _ _ _ _ _ _ _ _ _ _ _ _ _ _ _ _ _ _ _ _ _ _ _ _ _ _ _ _ _ _ _ _ _ _ _ _ _ _ _ _ _ _ _ _ _ _ _ _ _ c _ _ r k
  · rw [outsAt0_B m c (pt b q) h0]
    dsimp only
    exact tail_B _ _ _ _ _ _ _ _ _ _ _ _ _ _ _ _ _ _ _ _ _ _ _ _ _ _ _ _ _ _ _ _ _ _ _ _ _ _ _ _ _ _ _ _ _ _ _ _ _ _ _ c _ _ r k

/-- The queries. -/
theorem query_pt (c : Dev nD) (b : Fin 4) (q : Fin 16) (h : Fin 8) (r : Fin 512) (l : Fin 128) :
    (outsAt0 m c (pt b q).val (pt b q).isLt).2.2.1 (ix4 0 h r l) = placed (queryRow (iblk m c 0 (pt b q)) (iblk m c 1 (pt b q)) (iblk m c 2 (pt b q)) (iblk m c 3 (pt b q)) (iblk m c 4 (pt b q)) (iblk m c 5 (pt b q)) (iblk m c 6 (pt b q)) (iblk m c 9 (pt b q)) (iblk m c 11 (pt b q)) r) h l := by
  by_cases h0 : (pt b q).val % 16 = 0
  · rw [outsAt0_A m c (pt b q) h0]
    dsimp only
    exact queries_A _ _ _ _ _ _ _ _ _ _ _ _ _ _ _ _ _ _ _ _ _ _ _ _ _ _ _ _ _ _ _ _ _ _ _ _ _ _ _ _ _ _ _ _ _ _ _ _ _ _ c _ _ h r l
  · rw [outsAt0_B m c (pt b q) h0]
    dsimp only
    exact queries_B _ _ _ _ _ _ _ _ _ _ _ _ _ _ _ _ _ _ _ _ _ _ _ _ _ _ _ _ _ _ _ _ _ _ _ _ _ _ _ _ _ _ _ _ _ _ _ _ _ _ _ c _ _ h r l

/-- The keys. -/
theorem key_pt (c : Dev nD) (b : Fin 4) (q : Fin 16) (r k : Fin 512) :
    (outsAt0 m c (pt b q).val (pt b q).isLt).2.2.2.1 (ix3 0 r k) = keyRow (iblk m c 0 (pt b q)) (iblk m c 1 (pt b q)) (iblk m c 2 (pt b q)) (iblk m c 3 (pt b q)) (iblk m c 4 (pt b q)) (iblk m c 5 (pt b q)) (iblk m c 6 (pt b q)) (iblk m c 10 (pt b q)) (iblk m c 11 (pt b q)) r k := by
  by_cases h0 : (pt b q).val % 16 = 0
  · rw [outsAt0_A m c (pt b q) h0]
    dsimp only
    exact keys_A _ _ _ _ _ _ _ _ _ _ _ _ _ _ _ _ _ _ _ _ _ _ _ _ _ _ _ _ _ _ _ _ _ _ _ _ _ _ _ _ _ _ _ _ _ _ _ _ _ _ c _ _ r k
  · rw [outsAt0_B m c (pt b q) h0]
    dsimp only
    exact keys_B _ _ _ _ _ _ _ _ _ _ _ _ _ _ _ _ _ _ _ _ _ _ _ _ _ _ _ _ _ _ _ _ _ _ _ _ _ _ _ _ _ _ _ _ _ _ _ _ _ _ _ c _ _ r k

/-- The values. -/
theorem value_pt (c : Dev nD) (b : Fin 4) (q : Fin 16) (h : Fin 8) (r : Fin 512) (l : Fin 128) :
    (outsAt0 m c (pt b q).val (pt b q).isLt).2.2.2.2.1 (ix4 0 h r l) = placed (valueRow (iblk m c 0 (pt b q)) (iblk m c 1 (pt b q)) (iblk m c 2 (pt b q)) (iblk m c 3 (pt b q)) (iblk m c 4 (pt b q)) (iblk m c 5 (pt b q)) (iblk m c 6 (pt b q)) r) h l := by
  by_cases h0 : (pt b q).val % 16 = 0
  · rw [outsAt0_A m c (pt b q) h0]
    dsimp only
    exact values_A _ _ _ _ _ _ _ _ _ _ _ _ _ _ _ _ _ _ _ _ _ _ _ _ _ _ _ _ _ _ _ _ _ _ _ _ _ _ _ _ _ _ _ _ _ _ _ _ _ _ c _ _ h r l
  · rw [outsAt0_B m c (pt b q) h0]
    dsimp only
    exact values_B _ _ _ _ _ _ _ _ _ _ _ _ _ _ _ _ _ _ _ _ _ _ _ _ _ _ _ _ _ _ _ _ _ _ _ _ _ _ _ _ _ _ _ _ _ _ _ _ _ _ _ c _ _ h r l

theorem before_of_le (k : ℕ) (z : Fin 8192 → EReal) (s : Fin 8192) (h : k ≤ s.val) : before k z s = z ⟨s.val - k, by omega⟩ := if_pos h

theorem before_of_lt (k : ℕ) (z : Fin 8192 → EReal) (s : Fin 8192) (h : ¬ k ≤ s.val) : before k z s = 0 := if_neg h

/-- A row of the convolution, the input's two places before the block's first being as the sequence has them. -/
theorem convRow_eq (c : Dev nD) (b : Fin 4) (q : Fin 16) (p1 p2 : EReal) (r k : Fin 512)
    (h1 : p1 = before 1 (RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k) (spot q 0)) (h2 : p2 = before 2 (RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k) (spot q 0)) :
    convRow (iblk m c 0 (pt b q)) (iblk m c 1 (pt b q)) (iblk m c 2 (pt b q)) (iblk m c 3 (pt b q)) (iblk m c 4 (pt b q)) (iblk m c 5 (pt b q)) (iblk m c 6 (pt b q)) (iblk m c 7 (pt b q)) (iblk m c 8 (pt b q)) p1 p2 r k
      = gate3 (RI3.mixIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b (spot q r) (col 0 k)) (RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k (spot q r)) (before 1 (RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k) (spot q r)) (before 2 (RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k) (spot q r))
          (m ((c.tc : Thread nD τ).loc main_arg7) (ix3 0 0 k)) (m ((c.tc : Thread nD τ).loc main_arg7) (ix3 0 1 k)) (m ((c.tc : Thread nD τ).loc main_arg7) (ix3 0 2 k)) (m ((c.tc : Thread nD τ).loc main_arg8) (ix2 0 k)) := by
  unfold convRow
  simp only [zrow_eq, iblk_cw, iblk_cb]
  rw [rowProj_eq]
  generalize RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k = z at h1 h2 ⊢
  subst h1 h2
  have e1 : (if h : r.val = 0 then before 1 z (spot q 0) else z (spot q ⟨r.val - 1, by omega⟩)) = before 1 z (spot q r) := by
    by_cases h : r.val = 0
    · rw [dif_pos h, show r = 0 from Fin.ext h]
    · rw [dif_neg h]
      refine Eq.trans ?_ (before_of_le 1 z (spot q r) (show 1 ≤ 512 * q.val + r.val by omega)).symm
      exact congrArg z (Fin.ext (show 512 * q.val + (r.val - 1) = 512 * q.val + r.val - 1 by omega))
  have e2 : (if h : r.val = 0 then before 2 z (spot q 0) else if h : r.val = 1 then before 1 z (spot q 0) else z (spot q ⟨r.val - 2, by omega⟩))
      = before 2 z (spot q r) := by
    by_cases h : r.val = 0
    · rw [dif_pos h, show r = 0 from Fin.ext h]
    · rw [dif_neg h]
      by_cases h' : r.val = 1
      · rw [dif_pos h']
        by_cases hq : q.val = 0
        · rw [before_of_lt 1 z (spot q 0) (show ¬ 1 ≤ 512 * q.val + 0 by omega),
            before_of_lt 2 z (spot q r) (show ¬ 2 ≤ 512 * q.val + r.val by omega)]
        · rw [before_of_le 1 z (spot q 0) (show 1 ≤ 512 * q.val + 0 by omega),
            before_of_le 2 z (spot q r) (show 2 ≤ 512 * q.val + r.val by omega)]
          exact congrArg z (Fin.ext (show 512 * q.val + 0 - 1 = 512 * q.val + r.val - 2 by omega))
      · rw [dif_neg h']
        refine Eq.trans ?_ (before_of_le 2 z (spot q r) (show 2 ≤ 512 * q.val + r.val by omega)).symm
        exact congrArg z (Fin.ext (show 512 * q.val + (r.val - 2) = 512 * q.val + r.val - 2 by omega))
  rw [e1, e2]

/-- The convolution's block where a sequence starts. -/
theorem conv_first (c : Dev nD) (b : Fin 4) (q : Fin 16) (h0 : (pt b q).val % 16 = 0) (r k : Fin 512) :
    (outsAt0 m c (pt b q).val (pt b q).isLt).2.1 (ix3 0 r k) = convRow (iblk m c 0 (pt b q)) (iblk m c 1 (pt b q)) (iblk m c 2 (pt b q)) (iblk m c 3 (pt b q)) (iblk m c 4 (pt b q)) (iblk m c 5 (pt b q)) (iblk m c 6 (pt b q)) (iblk m c 7 (pt b q)) (iblk m c 8 (pt b q)) 0 0 r k := by
  rw [outsAt0_A m c (pt b q) h0]
  dsimp only
  exact conv_A _ _ _ _ _ _ _ _ _ _ _ _ _ _ _ _ _ _ _ _ _ _ _ _ _ _ _ _ _ _ _ _ _ _ _ _ _ _ _ _ _ _ _ _ _ _ _ _ _ _ c _ _ r k

/-- And further on. -/
theorem conv_next (c : Dev nD) (b : Fin 4) (q : Fin 16) (h0 : ¬ (pt b q).val % 16 = 0) (r k : Fin 512) :
    (outsAt0 m c (pt b q).val (pt b q).isLt).2.1 (ix3 0 r k)
      = convRow (iblk m c 0 (pt b q)) (iblk m c 1 (pt b q)) (iblk m c 2 (pt b q)) (iblk m c 3 (pt b q)) (iblk m c 4 (pt b q)) (iblk m c 5 (pt b q)) (iblk m c 6 (pt b q)) (iblk m c 7 (pt b q)) (iblk m c 8 (pt b q)) ((outsAt0 m c ((pt b q).val - 1) (Nat.lt_of_le_of_lt (Nat.sub_le _ _) (pt b q).isLt)).2.2.2.2.2 (ix2 7 k))
          ((outsAt0 m c ((pt b q).val - 1) (Nat.lt_of_le_of_lt (Nat.sub_le _ _) (pt b q).isLt)).2.2.2.2.2 (ix2 6 k)) r k := by
  rw [outsAt0_B m c (pt b q) h0]
  dsimp only
  exact conv_B _ _ _ _ _ _ _ _ _ _ _ _ _ _ _ _ _ _ _ _ _ _ _ _ _ _ _ _ _ _ _ _ _ _ _ _ _ _ _ _ _ _ _ _ _ _ _ _ _ _ _ c _ _ r k

/-- The convolution. -/
theorem conv_pt (c : Dev nD) (b : Fin 4) (q : Fin 16) (r k : Fin 512) :
    (outsAt0 m c (pt b q).val (pt b q).isLt).2.1 (ix3 0 r k)
      = gate3 (RI3.mixIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b (spot q r) (col 0 k)) (RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k (spot q r)) (before 1 (RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k) (spot q r)) (before 2 (RI3.zed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b k) (spot q r))
          (m ((c.tc : Thread nD τ).loc main_arg7) (ix3 0 0 k)) (m ((c.tc : Thread nD τ).loc main_arg7) (ix3 0 1 k)) (m ((c.tc : Thread nD τ).loc main_arg7) (ix3 0 2 k)) (m ((c.tc : Thread nD τ).loc main_arg8) (ix2 0 k)) := by
  by_cases h0 : (pt b q).val % 16 = 0
  · have hq : q.val = 0 := (first_iff b q).mp h0
    refine (conv_first m c b q h0 r k).trans ?_
    refine convRow_eq m c b q 0 0 r k ?_ ?_
    · exact (before_of_lt 1 _ (spot q 0) (show ¬ 1 ≤ 512 * q.val + 0 by omega)).symm
    · exact (before_of_lt 2 _ (spot q 0) (show ¬ 2 ≤ 512 * q.val + 0 by omega)).symm
  · have hq : q.val ≠ 0 := fun e => h0 ((first_iff b q).mpr e)
    refine (conv_next m c b q h0 r k).trans ?_
    have t := fun r => tail_pt m c b ⟨q.val - 1, by omega⟩ r k
    have ep : (pt b ⟨q.val - 1, by omega⟩).val = (pt b q).val - 1 := by
      show 16 * b.val + (q.val - 1) = 16 * b.val + q.val - 1
      omega
    simp only [ep] at t
    rw [t 7, t 6]
    refine convRow_eq m c b q _ _ r k ?_ ?_
    · rw [before_of_le 1 _ (spot q 0) (show 1 ≤ 512 * q.val + 0 by omega)]
      exact congrArg _ (Fin.ext (show 512 * (q.val - 1) + (504 + 7) = 512 * q.val + 0 - 1 by omega))
    · rw [before_of_le 2 _ (spot q 0) (show 2 ≤ 512 * q.val + 0 by omega)]
      exact congrArg _ (Fin.ext (show 512 * (q.val - 1) + (504 + 6) = 512 * q.val + 0 - 2 by omega))

end Cert.Proof.PI3

end
-- ==== Proof.PI3.Value.lean ====
/- The first call computes its reference: each of its five arrays is the reference's of the same arguments. -/
module

public import proofs.«01_k».proof.Defs
public import proofs.«01_k».proof.Proof.PI3.Points

@[expose] public section

set_option maxRecDepth 16384

noncomputable section

namespace Cert.Proof.PI3

open Cert.Kernel3Ideal Cert.Kernel3Ideal.Gen Cert.Dense
open Idealize.ShloMosaic Idealize.ShloMosaic.TcCoe Idealize.SL.Sem

theorem headOf_lane (h : Fin 8) (d : Fin 64) : headOf (lane h d) = h := Fin.ext (show (64 * h.val + d.val) / 64 = h.val by omega)

theorem placeOf_lane (h : Fin 8) (d : Fin 64) : placeOf (lane h d) = d := Fin.ext (show (64 * h.val + d.val) % 64 = d.val by omega)

/-- A head's columns in its half of the lanes are its features there. -/
theorem placed_eq (T : Fin 512 → EReal) (h : Fin 8) (l : Fin 128) : placed T h l = half (fun h d => T (lane h d)) h l := by
  unfold placed half
  by_cases e : l.val / 64 = h.val % 2
  · rw [if_pos e, if_pos e]
    exact congrArg T (Fin.ext (show 128 * (h.val / 2) + l.val = 64 * h.val + l.val % 64 by omega))
  · rw [if_neg e, if_neg e]

variable (m : (ℓ : Loc nD τ sig) → Buf (Elt Ideal) ℓ)

/-- A step's queries are the reference's. -/
theorem queryRow_eq (c : Dev nD) (b : Fin 4) (q : Fin 16) (r k : Fin 512) :
    queryRow (iblk m c 0 (pt b q)) (iblk m c 1 (pt b q)) (iblk m c 2 (pt b q)) (iblk m c 3 (pt b q)) (iblk m c 4 (pt b q)) (iblk m c 5 (pt b q)) (iblk m c 6 (pt b q)) (iblk m c 9 (pt b q)) (iblk m c 11 (pt b q)) r k
      = RI3.query (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) b (spot q r) (headOf k) (placeOf k) := by
  unfold queryRow masked RI3.query
  simp only [rowProj_eq, iblk_gq, iblk_mask]
  rw [scale_eq, ← headNorm_eq]

/-- A step's keys are the reference's. -/
theorem keyRow_eq (c : Dev nD) (b : Fin 4) (q : Fin 16) (r k : Fin 512) :
    keyRow (iblk m c 0 (pt b q)) (iblk m c 1 (pt b q)) (iblk m c 2 (pt b q)) (iblk m c 3 (pt b q)) (iblk m c 4 (pt b q)) (iblk m c 5 (pt b q)) (iblk m c 6 (pt b q)) (iblk m c 10 (pt b q)) (iblk m c 11 (pt b q)) r k
      = headNorm (fun n => RI3.mixIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b (spot q r) (col 4 n)) (fun d => m ((c.tc : Thread nD τ).loc main_arg10) (ix2 0 d)) (headOf k) (placeOf k) := by
  unfold keyRow masked
  simp only [rowProj_eq, iblk_gk, iblk_mask]
  rw [← headNorm_eq]

/-- The stream after the half step. -/
theorem mid_array (c : Dev nD) :
    (dats m 0 c).arrAt 12 cfg0.N = Cert.Reference3Ideal.Read.val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine final_mid m c _ fun b q r j => ?_
  rw [RI3.half_at]
  exact mid_pt m c b q r j

/-- The convolution group. -/
theorem conv_array (c : Dev nD) :
    (dats m 0 c).arrAt 13 cfg0.N = Cert.Reference3Ideal.Read.val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine final_conv m c _ fun b q r k => ?_
  rw [RI3.conv_at]
  exact conv_pt m c b q r k

/-- The queries. -/
theorem query_array (c : Dev nD) :
    (dats m 0 c).arrAt 14 cfg0.N = Cert.Reference3Ideal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) := by
  refine final_q m c _ fun b q h r l => ?_
  rw [RI3.query_lanes, query_pt, placed_eq]
  refine congrFun (congrFun (congrArg half (funext fun h => funext fun d => ?_)) h) l
  rw [queryRow_eq, headOf_lane, placeOf_lane]

/-- The keys. -/
theorem key_array (c : Dev nD) :
    (dats m 0 c).arrAt 15 cfg0.N = Cert.Reference3Ideal.Read.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10)) := by
  refine final_k m c _ fun b q r k => ?_
  rw [key_pt, keyRow_eq, ← RI3.key_at, lane_of]

/-- The values. -/
theorem value_array (c : Dev nD) :
    (dats m 0 c).arrAt 16 cfg0.N = Cert.Reference3Ideal.Read.val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine final_v m c _ fun b q h r l => ?_
  rw [RI3.value_lanes, value_pt, placed_eq]
  unfold valueRow
  rw [rowProj_eq]

set_option maxHeartbeats 4000000 in
/-- The first call's ideal twin and its reference end at the same five arrays. -/
theorem algebraic_all : Cert.algebraic_Kernel3Ideal_Reference3Ideal (hKernel3Ideal := Cert.Kernel3Ideal.Gen.facts)
    (hReference3Ideal := Cert.Reference3Ideal.Gen.facts) := by
  intro m g m' g' _ hargs
  refine ⟨fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N, Cert.Kernel3Ideal.Value.run_blocks m g, ?_⟩
  refine (θ_run _ _ _).mono (fun r h c => ?_) (Cert.Reference3Ideal.Value.run m' g')
  obtain ⟨a0, a1, a2, a3, a4, a5, a6, a7, a8, a9, a10⟩ := hargs c
  obtain ⟨e0, e1, e2, e3, e4, e5⟩ := h c
  refine ⟨e0.trans ?_, e1.trans ?_, e2.trans ?_, e3.trans ?_, e4.trans ?_, e5⟩
  · rw [Cert.Reference3Ideal.Read.val_main_v24_eq]
    show Cert.Reference3Ideal.Read.val_main_v24 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = _
    rw [a0, a1, a2, a3, a4]
    exact (mid_array m c).symm
  · rw [Cert.Reference3Ideal.Read.val_main_v111_eq]
    show Cert.Reference3Ideal.Read.val_main_v111 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) = _
    rw [a0, a1, a2, a3, a4, a5, a6, a7, a8]
    exact (conv_array m c).symm
  · rw [Cert.Reference3Ideal.Read.val_main_v122_eq]
    show Cert.Reference3Ideal.Read.val_main_v122 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg9)) = _
    rw [a0, a1, a2, a3, a4, a5, a6, a9]
    exact (query_array m c).symm
  · rw [Cert.Reference3Ideal.Read.val_main_v124_eq]
    show Cert.Reference3Ideal.Read.val_main_v124 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg10)) = _
    rw [a0, a1, a2, a3, a4, a5, a6, a10]
    exact (key_array m c).symm
  · rw [Cert.Reference3Ideal.Read.val_main_v136_eq]
    show Cert.Reference3Ideal.Read.val_main_v136 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) = _
    rw [a0, a1, a2, a3, a4, a5, a6]
    exact (value_array m c).symm

end Cert.Proof.PI3

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel2Ideal.Value
public import proofs.«01_k».proof.Proof.Gen.Kernel2.Frame
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel3.Frame
public import proofs.«01_k».proof.Proof.Gen.Kernel3Ideal.Frame
public import proofs.«01_k».proof.Proof.Gen.Kernel2Ideal.Frame
public import proofs.«01_k».proof.Proof.P.Frame
public import proofs.«01_k».proof.Proof.PI.Frame
public import proofs.«01_k».proof.Proof.PI.Value
public import proofs.«01_k».proof.Proof.PI2.Value
public import proofs.«01_k».proof.Proof.PI3.Value
public import proofs.«01_k».proof.Proof.Gen.Pre_heads_padded
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The first call, the attention call and the last call compute their references, with the frames of the three kernels, of their ideal twins
    and of the ideal references, and what the idealization changed: two constants of the attention and one of the first call read as the
    numbers they stand for. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_heads_padded.Gen.facts,
    fun m ρ _ => P.frame_all m ρ, fun m ρ _ => PI.frame_all m ρ, fun m ρ _ => PI.frame_all m ρ,
    fun m ρ _ => (θ_run _ _ _).mono (fun r h => ⟨fun c => (h c).2, sem_eq_zero_of_no_sems rfl _⟩) (Cert.ReferenceIdeal.Value.run m ρ),
    fun m ρ _ => (θ_run _ _ _).mono (fun r h => ⟨fun c => (h c).2, sem_eq_zero_of_no_sems rfl _⟩) (Cert.ReferenceIdeal.Value.run m ρ),
    fun m ρ _ => Cert.Kernel2.Gen.frame m ρ, fun m ρ _ => Cert.Kernel2Ideal.Gen.frame m ρ, fun m ρ _ => (θ_run _ _ _).mono (fun r h => ⟨fun c => (h c).2, sem_eq_zero_of_no_sems rfl _⟩) (Cert.Reference2Ideal.Value.run m ρ),
    fun m ρ _ => Cert.Kernel3.Gen.frame m ρ, fun m ρ _ => Cert.Kernel3Ideal.Gen.frame m ρ, fun m ρ _ => (θ_run _ _ _).mono (fun r h => ⟨fun c => (h c).2.2.2.2.2, sem_eq_zero_of_no_sems rfl _⟩) (Cert.Reference3Ideal.Value.run m ρ),
    ⟨IdealRules.named_const.statement Cert.KernelIdeal.κ "log2_e" .f32 0x3FB8AA3B#32 (((Real.log 2)⁻¹ : ℝ) : EReal) rfl,
      IdealRules.named_const.statement Cert.KernelIdeal.κ "never" .f32 0x43200000#32 ⊤ rfl⟩,
    PI.algebraic_all,
    trivial,
    PI2.algebraic_all,
    IdealRules.named_const.statement Cert.Kernel3Ideal.κ "query_scale" .f32 0x3E38AA3B#32 (((Real.log 256)⁻¹ : ℝ) : EReal) rfl,
    PI3.algebraic_all⟩

end Cert.Proof

end
